-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_boxes [hPre_finite_boxes : Cert.Pre_finite_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_boxes [hPre_finite_boxes : Cert.Pre_finite_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_boxes [hKernelIdeal : Cert.KernelIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_boxes [hReferenceIdeal : Cert.ReferenceIdeal.Facts] [hPre_finite_boxes : Cert.Pre_finite_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "masked" .f32 0xFF61B1E6#32 ⊥

def algebraic_KernelIdeal_ReferenceIdeal_pre_finite_boxes [hKernelIdeal : Cert.KernelIdeal.Facts] [hReferenceIdeal : Cert.ReferenceIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_boxes : Cert.Pre_finite_boxes.Facts),
    quiescent_Kernel (hKernel := hKernel)
    ∧ quiescent_KernelIdeal (hKernelIdeal := hKernelIdeal)
    ∧ quiescent_KernelIdeal_pre_finite_boxes (hKernelIdeal := hKernelIdeal) (hPre_finite_boxes := hPre_finite_boxes)
    ∧ quiescent_ReferenceIdeal (hReferenceIdeal := hReferenceIdeal)
    ∧ quiescent_ReferenceIdeal_pre_finite_boxes (hReferenceIdeal := hReferenceIdeal) (hPre_finite_boxes := hPre_finite_boxes)
    ∧ preserves_Kernel_KernelIdeal
    ∧ algebraic_KernelIdeal_ReferenceIdeal_pre_finite_boxes (hKernelIdeal := hKernelIdeal) (hReferenceIdeal := hReferenceIdeal) (hPre_finite_boxes := hPre_finite_boxes)
-- ==== Pre_finite_boxes.lean ====
abbrev S1x20000x1 : Shape := ⟨3, ![1, 20000, 1]⟩
abbrev S1x20000x18 : Shape := ⟨3, ![1, 20000, 18]⟩
abbrev S20000x2 : Shape := ⟨2, ![20000, 2]⟩
abbrev S1x20000x4 : Shape := ⟨3, ![1, 20000, 4]⟩
abbrev S_ : Shape := ⟨0, ![]⟩

class Facts : Prop where
  slices_S1x20000x18_S1x20000x4_0_0_0 : S1x20000x18.Slices ![0, 0, 0] S1x20000x4
  bcast_S_S1x20000x4 : S_.BroadcastsInDim S1x20000x4 (![] : Fin 0 → Fin S1x20000x4.rank)
  reducesTo_S1x20000x4_S_d0_1_2 : S1x20000x4.ReducesTo [0, 1, 2] S_
  h_S_ : 0 < S_.numel
  bcast_S_S20000x2 : S_.BroadcastsInDim S20000x2 (![] : Fin 0 → Fin S20000x2.rank)
  reducesTo_S20000x2_S_d0_1 : S20000x2.ReducesTo [0, 1] S_

variable [Facts]

def fn {F : FTy → Type} [FloatOps F] (main_arg0 : FVec F S1x20000x1 .f32) (main_arg1 : FVec F S1x20000x18 .f32) (main_arg2 : FVec F S20000x2 .f32) : IVec S_ 1 :=
  let main_v0 : FVec F S1x20000x4 .f32 := (extractStridedSlice S1x20000x4 ![0, 0, 0] · slices_S1x20000x18_S1x20000x4_0_0_0) main_arg1
  let main_v1 : FVec F S1x20000x4 .f32 := Host.absf main_v0
  let main_cst : FVec F S_ .f32 := constant S_ .f32 0x7F800000#32
  let main_v2 : FVec F S1x20000x4 .f32 := broadcastInDim S1x20000x4 ![] bcast_S_S1x20000x4 main_cst
  let main_v3 : IVec S1x20000x4 1 := cmpf .olt main_v1 main_v2
  let main_c : IVec S_ 1 := constantI S_ 1 1#1
  let main_v4 : IVec S_ 1 := (fun x v => Host.reduce IntOp.andi x v reducesTo_S1x20000x4_S_d0_1_2 h_S_) main_v3 main_c
  let main_v5 : FVec F S20000x2 .f32 := Host.absf main_arg2
  let main_cst_0 : FVec F S_ .f32 := constant S_ .f32 0x7F800000#32
  let main_v6 : FVec F S20000x2 .f32 := broadcastInDim S20000x2 ![] bcast_S_S20000x2 main_cst_0
  let main_v7 : IVec S20000x2 1 := cmpf .olt main_v5 main_v6
  let main_c_1 : IVec S_ 1 := constantI S_ 1 1#1
  let main_v8 : IVec S_ 1 := (fun x v => Host.reduce IntOp.andi x v reducesTo_S20000x2_S_d0_1 h_S_) main_v7 main_c_1
  let main_v9 : IVec S_ 1 := andi main_v4 main_v8
  main_v9
-- ==== Kernel.lean ====
abbrev S1x20000x1 : Shape := ⟨3, ![1, 20000, 1]⟩
abbrev S1x20000x18 : Shape := ⟨3, ![1, 20000, 18]⟩
abbrev S20000x2 : Shape := ⟨2, ![20000, 2]⟩
abbrev S20000 : Shape := ⟨1, ![20000]⟩
abbrev S_ : Shape := ⟨0, ![]⟩
abbrev S20000x18 : Shape := ⟨2, ![20000, 18]⟩
abbrev S20480 : Shape := ⟨1, ![20480]⟩
abbrev S160x128 : Shape := ⟨2, ![160, 128]⟩
abbrev S20000x1 : Shape := ⟨2, ![20000, 1]⟩
abbrev S8x128 : Shape := ⟨2, ![8, 128]⟩
abbrev S1x160x128 : Shape := ⟨3, ![1, 160, 128]⟩
abbrev S1 : Shape := ⟨1, ![1]⟩
abbrev S1x1x1 : Shape := ⟨3, ![1, 1, 1]⟩
abbrev S8x100 : Shape := ⟨2, ![8, 100]⟩
abbrev S100x8 : Shape := ⟨2, ![100, 8]⟩

abbrev nBuf : Space → Nat
  | .hbm => 80
  | .vmem => 13
  | .smem => 0
  | _ => 0

abbrev bufTy : (tb : Table) → Fin (tcTables nBuf tb) → BufTy
  | .hbm, ⟨0, _⟩ => ⟨S1x20000x1, .f32⟩
  | .hbm, ⟨1, _⟩ => ⟨S1x20000x18, .f32⟩
  | .hbm, ⟨2, _⟩ => ⟨S20000x2, .f32⟩
  | .hbm, ⟨3, _⟩ => ⟨S20000, .f32⟩
  | .hbm, ⟨4, _⟩ => ⟨S20000, .f32⟩
  | .hbm, ⟨5, _⟩ => ⟨S20000, .f32⟩
  | .hbm, ⟨6, _⟩ => ⟨S_, .f32⟩
  | .hbm, ⟨7, _⟩ => ⟨S20000, .f32⟩
  | .hbm, ⟨8, _⟩ => ⟨S20000, .f32⟩
  | .hbm, ⟨9, _⟩ => ⟨S_, .f32⟩
  | .hbm, ⟨10, _⟩ => ⟨S20000, .f32⟩
  | .hbm, ⟨11, _⟩ => ⟨S20000, .f32⟩
  | .hbm, ⟨12, _⟩ => ⟨S20000x18, .f32⟩
  | .hbm, ⟨13, _⟩ => ⟨S_, .i32⟩
  | .hbm, ⟨14, _⟩ => ⟨S_, .f32⟩
  | .hbm, ⟨15, _⟩ => ⟨S20480, .f32⟩
  | .hbm, ⟨16, _⟩ => ⟨S160x128, .f32⟩
  | .hbm, ⟨17, _⟩ => ⟨S20000x1, .f32⟩
  | .hbm, ⟨18, _⟩ => ⟨S20000, .f32⟩
  | .hbm, ⟨19, _⟩ => ⟨S_, .i32⟩
  | .hbm, ⟨20, _⟩ => ⟨S_, .f32⟩
  | .hbm, ⟨21, _⟩ => ⟨S20480, .f32⟩
  | .hbm, ⟨22, _⟩ => ⟨S160x128, .f32⟩
  | .hbm, ⟨23, _⟩ => ⟨S20000x1, .f32⟩
  | .hbm, ⟨24, _⟩ => ⟨S20000, .f32⟩
  | .hbm, ⟨25, _⟩ => ⟨S_, .i32⟩
  | .hbm, ⟨26, _⟩ => ⟨S_, .f32⟩
  | .hbm, ⟨27, _⟩ => ⟨S20480, .f32⟩
  | .hbm, ⟨28, _⟩ => ⟨S160x128, .f32⟩
  | .hbm, ⟨29, _⟩ => ⟨S20000x1, .f32⟩
  | .hbm, ⟨30, _⟩ => ⟨S20000, .f32⟩
  | .hbm, ⟨31, _⟩ => ⟨S_, .i32⟩
  | .hbm, ⟨32, _⟩ => ⟨S_, .f32⟩
  | .hbm, ⟨33, _⟩ => ⟨S20480, .f32⟩
  | .hbm, ⟨34, _⟩ => ⟨S160x128, .f32⟩
  | .hbm, ⟨35, _⟩ => ⟨S20000x1, .f32⟩
  | .hbm, ⟨36, _⟩ => ⟨S20000, .f32⟩
  | .hbm, ⟨37, _⟩ => ⟨S_, .i32⟩
  | .hbm, ⟨38, _⟩ => ⟨S_, .f32⟩
  | .hbm, ⟨39, _⟩ => ⟨S20480, .f32⟩
  | .hbm, ⟨40, _⟩ => ⟨S160x128, .f32⟩
  | .hbm, ⟨41, _⟩ => ⟨S20000x1, .f32⟩
  | .hbm, ⟨42, _⟩ => ⟨S20000, .f32⟩
  | .hbm, ⟨43, _⟩ => ⟨S_, .i32⟩
  | .hbm, ⟨44, _⟩ => ⟨S_, .f32⟩
  | .hbm, ⟨45, _⟩ => ⟨S20480, .f32⟩
  | .hbm, ⟨46, _⟩ => ⟨S160x128, .f32⟩
  | .hbm, ⟨47, _⟩ => ⟨S20000x1, .f32⟩
  | .hbm, ⟨48, _⟩ => ⟨S20000, .f32⟩
  | .hbm, ⟨49, _⟩ => ⟨S_, .i32⟩
  | .hbm, ⟨50, _⟩ => ⟨S_, .f32⟩
  | .hbm, ⟨51, _⟩ => ⟨S20480, .f32⟩
  | .hbm, ⟨52, _⟩ => ⟨S160x128, .f32⟩
  | .hbm, ⟨53, _⟩ => ⟨S20000x1, .f32⟩
  | .hbm, ⟨54, _⟩ => ⟨S20000, .f32⟩
  | .hbm, ⟨55, _⟩ => ⟨S_, .i32⟩
  | .hbm, ⟨56, _⟩ => ⟨S_, .f32⟩
  | .hbm, ⟨57, _⟩ => ⟨S20480, .f32⟩
  | .hbm, ⟨58, _⟩ => ⟨S160x128, .f32⟩
  | .hbm, ⟨59, _⟩ => ⟨S20000x1, .f32⟩
  | .hbm, ⟨60, _⟩ => ⟨S20000, .f32⟩
  | .hbm, ⟨61, _⟩ => ⟨S_, .i32⟩
  | .hbm, ⟨62, _⟩ => ⟨S_, .f32⟩
  | .hbm, ⟨63, _⟩ => ⟨S20480, .f32⟩
  | .hbm, ⟨64, _⟩ => ⟨S160x128, .f32⟩
  | .hbm, ⟨65, _⟩ => ⟨S20000x1, .f32⟩
  | .hbm, ⟨66, _⟩ => ⟨S20000, .f32⟩
  | .hbm, ⟨67, _⟩ => ⟨S_, .i32⟩
  | .hbm, ⟨68, _⟩ => ⟨S_, .f32⟩
  | .hbm, ⟨69, _⟩ => ⟨S20480, .f32⟩
  | .hbm, ⟨70, _⟩ => ⟨S160x128, .f32⟩
  | .hbm, ⟨71, _⟩ => ⟨S20000x1, .f32⟩
  | .hbm, ⟨72, _⟩ => ⟨S20000, .f32⟩
  | .hbm, ⟨73, _⟩ => ⟨S_, .i32⟩
  | .hbm, ⟨74, _⟩ => ⟨S_, .f32⟩
  | .hbm, ⟨75, _⟩ => ⟨S20480, .f32⟩
  | .hbm, ⟨76, _⟩ => ⟨S160x128, .f32⟩
  | .hbm, ⟨77, _⟩ => ⟨S8x128, .f32⟩
  | .hbm, ⟨78, _⟩ => ⟨S8x100, .f32⟩
  | .hbm, ⟨79, _⟩ => ⟨S100x8, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | .local _ .vmem, ⟨7, _⟩ => ⟨S160x128, .f32⟩
  | .local _ .vmem, ⟨8, _⟩ => ⟨S160x128, .f32⟩
  | .local _ .vmem, ⟨9, _⟩ => ⟨S160x128, .f32⟩
  | .local _ .vmem, ⟨10, _⟩ => ⟨S160x128, .f32⟩
  | .local _ .vmem, ⟨11, _⟩ => ⟨S8x128, .f32⟩
  | .local _ .vmem, ⟨12, _⟩ => ⟨S160x128, .f32⟩
  | _, _ => ⟨S1x20000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call2_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call3_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_call4_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_call5_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_call6_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_call7_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_call8_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_call9_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_call10_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v87 : BitVec 32 := Scalar.addi c0_i32 c100_i32
  let c1_i32 : BitVec 32 := 1#32
  ⟨c0_i32, v87, c1_i32⟩
abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S160x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S160x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S160x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KernelIdeal.lean ====
variable {F : FTy → Type} [FloatOps F] [Named F]
def κ : String → Option EReal := fun
  | "masked" => some ⊥
  | _ => none
-- ==== ReferenceIdeal.lean ====
abbrev S1x20000x1 : Shape := ⟨3, ![1, 20000, 1]⟩
abbrev S1x20000x18 : Shape := ⟨3, ![1, 20000, 18]⟩
abbrev S20000x2 : Shape := ⟨2, ![20000, 2]⟩
abbrev S2x18 : Shape := ⟨2, ![2, 18]⟩
abbrev S20000 : Shape := ⟨1, ![20000]⟩
abbrev S_ : Shape := ⟨0, ![]⟩
abbrev S20000x18 : Shape := ⟨2, ![20000, 18]⟩
abbrev S20000x4 : Shape := ⟨2, ![20000, 4]⟩
abbrev S20000x1 : Shape := ⟨2, ![20000, 1]⟩
abbrev S100 : Shape := ⟨1, ![100]⟩
abbrev S1 : Shape := ⟨1, ![1]⟩
abbrev S100x1 : Shape := ⟨2, ![100, 1]⟩
abbrev S100x2 : Shape := ⟨2, ![100, 2]⟩
abbrev S20000x3 : Shape := ⟨2, ![20000, 3]⟩
abbrev S100x3 : Shape := ⟨2, ![100, 3]⟩
abbrev S100x8 : Shape := ⟨2, ![100, 8]⟩

abbrev nBuf : Space → Nat
  | .hbm => 203
  | .vmem => 0
  | .smem => 0
  | _ => 0

abbrev hbmTy0_0 (i : Nat) : BufTy := match i % 128 with
  | 0 => ⟨S1x20000x1, .f32⟩
  | 1 => ⟨S1x20000x18, .f32⟩
  | 2 => ⟨S20000x2, .f32⟩
  | 3 => ⟨S2x18, .f32⟩
  | 4 => ⟨S20000, .f32⟩
  | 5 => ⟨S20000, .f32⟩
  | 6 => ⟨S20000, .f32⟩
  | 7 => ⟨S_, .f32⟩
  | 8 => ⟨S20000, .f32⟩
  | 9 => ⟨S20000, .f32⟩
  | 10 => ⟨S_, .f32⟩
  | 11 => ⟨S20000, .f32⟩
  | 12 => ⟨S20000, .f32⟩
  | 13 => ⟨S20000x18, .f32⟩
  | 14 => ⟨S_, .f32⟩
  | 15 => ⟨S20000x18, .f32⟩
  | 16 => ⟨S20000x18, .f32⟩
  | 17 => ⟨S20000x18, .f32⟩
  | 18 => ⟨S20000x18, .f32⟩
  | 19 => ⟨S20000x2, .f32⟩
  | 20 => ⟨S20000x2, .f32⟩
  | 21 => ⟨S_, .f32⟩
  | 22 => ⟨S20000x2, .f32⟩
  | 23 => ⟨S20000x2, .f32⟩
  | 24 => ⟨S20000x2, .f32⟩
  | 25 => ⟨S20000x2, .f32⟩
  | 26 => ⟨S20000x4, .f32⟩
  | 27 => ⟨S20000, .f32⟩
  | 28 => ⟨S20000, .i32⟩
  | 29 => ⟨S20000, .f32⟩
  | 30 => ⟨S20000, .i32⟩
  | 31 => ⟨S_, .i32⟩
  | 32 => ⟨S20000, .i32⟩
  | 33 => ⟨S20000, .i1⟩
  | 34 => ⟨S_, .i32⟩
  | 35 => ⟨S20000, .i32⟩
  | 36 => ⟨S20000, .i32⟩
  | 37 => ⟨S20000, .i32⟩
  | 38 => ⟨S20000x1, .i32⟩
  | 39 => ⟨S20000x4, .f32⟩
  | 40 => ⟨S20000x1, .f32⟩
  | 41 => ⟨S20000, .f32⟩
  | 42 => ⟨S20000x1, .f32⟩
  | 43 => ⟨S20000, .f32⟩
  | 44 => ⟨S20000x1, .f32⟩
  | 45 => ⟨S20000, .f32⟩
  | 46 => ⟨S20000x1, .f32⟩
  | 47 => ⟨S20000, .f32⟩
  | 48 => ⟨S20000, .f32⟩
  | 49 => ⟨S20000, .f32⟩
  | 50 => ⟨S20000, .f32⟩
  | 51 => ⟨S_, .i1⟩
  | 52 => ⟨S20000, .i1⟩
  | 53 => ⟨S_, .i32⟩
  | 54 => ⟨S100, .i32⟩
  | 55 => ⟨S_, .i32⟩
  | 56 => ⟨S_, .i32⟩
  | 57 => ⟨S20000, .f32⟩
  | 58 => ⟨S20000, .f32⟩
  | 59 => ⟨S20000, .f32⟩
  | 60 => ⟨S20000, .f32⟩
  | 61 => ⟨S20000, .f32⟩
  | 62 => ⟨S_, .i32⟩
  | 63 => ⟨S_, .i32⟩
  | 64 => ⟨S20000, .i1⟩
  | 65 => ⟨S100, .i32⟩
  | 66 => ⟨S_, .i32⟩
  | 67 => ⟨S_, .i1⟩
  | 68 => ⟨S_, .i32⟩
  | 69 => ⟨S_, .i32⟩
  | 70 => ⟨S20000, .i32⟩
  | 71 => ⟨S_, .i1⟩
  | 72 => ⟨S_, .i32⟩
  | 73 => ⟨S_, .i1⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1, .i32⟩
  | 82 => ⟨S100, .i32⟩
  | 83 => ⟨S_, .i32⟩
  | 84 => ⟨S_, .i1⟩
  | 85 => ⟨S_, .i32⟩
  | 86 => ⟨S_, .i32⟩
  | 87 => ⟨S_, .i32⟩
  | 88 => ⟨S1, .f32⟩
  | 89 => ⟨S_, .f32⟩
  | 90 => ⟨S20000, .f32⟩
  | 91 => ⟨S20000, .f32⟩
  | 92 => ⟨S_, .i32⟩
  | 93 => ⟨S_, .i1⟩
  | 94 => ⟨S_, .i32⟩
  | 95 => ⟨S_, .i32⟩
  | 96 => ⟨S_, .i32⟩
  | 97 => ⟨S1, .f32⟩
  | 98 => ⟨S_, .f32⟩
  | 99 => ⟨S20000, .f32⟩
  | 100 => ⟨S20000, .f32⟩
  | 101 => ⟨S_, .i32⟩
  | 102 => ⟨S_, .i1⟩
  | 103 => ⟨S_, .i32⟩
  | 104 => ⟨S_, .i32⟩
  | 105 => ⟨S_, .i32⟩
  | 106 => ⟨S1, .f32⟩
  | 107 => ⟨S_, .f32⟩
  | 108 => ⟨S20000, .f32⟩
  | 109 => ⟨S20000, .f32⟩
  | 110 => ⟨S_, .i32⟩
  | 111 => ⟨S_, .i1⟩
  | 112 => ⟨S_, .i32⟩
  | 113 => ⟨S_, .i32⟩
  | 114 => ⟨S_, .i32⟩
  | 115 => ⟨S1, .f32⟩
  | 116 => ⟨S_, .f32⟩
  | 117 => ⟨S20000, .f32⟩
  | 118 => ⟨S20000, .f32⟩
  | 119 => ⟨S20000, .f32⟩
  | 120 => ⟨S_, .f32⟩
  | 121 => ⟨S20000, .f32⟩
  | 122 => ⟨S20000, .f32⟩
  | 123 => ⟨S20000, .f32⟩
  | 124 => ⟨S_, .f32⟩
  | 125 => ⟨S20000, .f32⟩
  | 126 => ⟨S20000, .f32⟩
  | 127 => ⟨S20000, .f32⟩
  | _ => ⟨S1x20000x1, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S1, .f32⟩
  | 6 => ⟨S_, .f32⟩
  | 7 => ⟨S20000, .f32⟩
  | 8 => ⟨S20000, .f32⟩
  | 9 => ⟨S20000, .f32⟩
  | 10 => ⟨S20000, .f32⟩
  | 11 => ⟨S_, .f32⟩
  | 12 => ⟨S20000, .f32⟩
  | 13 => ⟨S20000, .i1⟩
  | 14 => ⟨S20000, .i1⟩
  | 15 => ⟨S_, .i32⟩
  | 16 => ⟨S_, .i1⟩
  | 17 => ⟨S_, .i32⟩
  | 18 => ⟨S_, .i32⟩
  | 19 => ⟨S_, .i32⟩
  | 20 => ⟨S1, .i32⟩
  | 21 => ⟨S_, .i1⟩
  | 22 => ⟨S20000, .i1⟩
  | 23 => ⟨S_, .i32⟩
  | 24 => ⟨S_, .i32⟩
  | 25 => ⟨S_, .i32⟩
  | 26 => ⟨S100, .i32⟩
  | 27 => ⟨S100, .i1⟩
  | 28 => ⟨S_, .i32⟩
  | 29 => ⟨S100, .i32⟩
  | 30 => ⟨S100, .i32⟩
  | 31 => ⟨S100, .i32⟩
  | 32 => ⟨S100x1, .i32⟩
  | 33 => ⟨S100, .i32⟩
  | 34 => ⟨S20000x2, .f32⟩
  | 35 => ⟨S_, .i32⟩
  | 36 => ⟨S100, .i32⟩
  | 37 => ⟨S100, .i1⟩
  | 38 => ⟨S_, .i32⟩
  | 39 => ⟨S100, .i32⟩
  | 40 => ⟨S100, .i32⟩
  | 41 => ⟨S100, .i32⟩
  | 42 => ⟨S100x1, .i32⟩
  | 43 => ⟨S100x2, .f32⟩
  | 44 => ⟨S20000x2, .f32⟩
  | 45 => ⟨S_, .i32⟩
  | 46 => ⟨S100, .i32⟩
  | 47 => ⟨S100, .i1⟩
  | 48 => ⟨S_, .i32⟩
  | 49 => ⟨S100, .i32⟩
  | 50 => ⟨S100, .i32⟩
  | 51 => ⟨S100, .i32⟩
  | 52 => ⟨S100x1, .i32⟩
  | 53 => ⟨S100x2, .f32⟩
  | 54 => ⟨S_, .i32⟩
  | 55 => ⟨S100, .i32⟩
  | 56 => ⟨S100, .i1⟩
  | 57 => ⟨S_, .i32⟩
  | 58 => ⟨S100, .i32⟩
  | 59 => ⟨S100, .i32⟩
  | 60 => ⟨S100, .i32⟩
  | 61 => ⟨S100x1, .i32⟩
  | 62 => ⟨S100, .f32⟩
  | 63 => ⟨S100x1, .f32⟩
  | 64 => ⟨S20000x3, .f32⟩
  | 65 => ⟨S_, .i32⟩
  | 66 => ⟨S100, .i32⟩
  | 67 => ⟨S100, .i1⟩
  | 68 => ⟨S_, .i32⟩
  | 69 => ⟨S100, .i32⟩
  | 70 => ⟨S100, .i32⟩
  | 71 => ⟨S100, .i32⟩
  | 72 => ⟨S100x1, .i32⟩
  | 73 => ⟨S100x3, .f32⟩
  | 74 => ⟨S100x8, .f32⟩
  | _ => ⟨S1x20000x1, .f32⟩

abbrev hbmTy (i : Nat) : BufTy := match i / 128 with
  | 0 => hbmTy0_0 i
  | 1 => hbmTy0_1 i
  | _ => ⟨S1x20000x1, .f32⟩

abbrev bufTy : (tb : Table) → Fin (tcTables nBuf tb) → BufTy
  | .hbm, ⟨i, _⟩ => hbmTy i
  | _, _ => ⟨S1x20000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1_0 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_c_7 : Ref sig .tc := ⟨.hbm, 55, rfl⟩
abbrev main_c_8 : Ref sig .tc := ⟨.hbm, 56, rfl⟩
abbrev main_v41_0 : Ref sig .tc := ⟨.hbm, 57, rfl⟩
abbrev main_v41_1 : Ref sig .tc := ⟨.hbm, 58, rfl⟩
abbrev main_v41_2 : Ref sig .tc := ⟨.hbm, 59, rfl⟩
abbrev main_v41_3 : Ref sig .tc := ⟨.hbm, 60, rfl⟩
abbrev main_v41_4 : Ref sig .tc := ⟨.hbm, 61, rfl⟩
abbrev main_v41_5 : Ref sig .tc := ⟨.hbm, 62, rfl⟩
abbrev main_v41_6 : Ref sig .tc := ⟨.hbm, 63, rfl⟩
abbrev main_v41_7 : Ref sig .tc := ⟨.hbm, 64, rfl⟩
abbrev main_v41_8 : Ref sig .tc := ⟨.hbm, 65, rfl⟩
abbrev main_while0c_c_27 : Ref sig .tc := ⟨.hbm, 66, rfl⟩
abbrev main_while0c_v82 : Ref sig .tc := ⟨.hbm, 67, rfl⟩
abbrev main_while0b_c_27 : Ref sig .tc := ⟨.hbm, 68, rfl⟩
abbrev main_while0b_v82 : Ref sig .tc := ⟨.hbm, 69, rfl⟩
abbrev main_while0b_call1_v0 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_v1_0 : Ref sig .tc := ⟨.hbm, 73, rfl⟩
abbrev main_while0b_v83 : Ref sig .tc := ⟨.hbm, 74, rfl⟩
abbrev main_while0b_c_28 : Ref sig .tc := ⟨.hbm, 75, rfl⟩
abbrev main_while0b_v84 : Ref sig .tc := ⟨.hbm, 76, rfl⟩
abbrev main_while0b_c_29 : Ref sig .tc := ⟨.hbm, 77, rfl⟩
abbrev main_while0b_v85 : Ref sig .tc := ⟨.hbm, 78, rfl⟩
abbrev main_while0b_v86 : Ref sig .tc := ⟨.hbm, 79, rfl⟩
abbrev main_while0b_v87 : Ref sig .tc := ⟨.hbm, 80, rfl⟩
abbrev main_while0b_v88 : Ref sig .tc := ⟨.hbm, 81, rfl⟩
abbrev main_while0b_v89 : Ref sig .tc := ⟨.hbm, 82, rfl⟩
abbrev main_while0b_c_30 : Ref sig .tc := ⟨.hbm, 83, rfl⟩
abbrev main_while0b_v90 : Ref sig .tc := ⟨.hbm, 84, rfl⟩
abbrev main_while0b_c_31 : Ref sig .tc := ⟨.hbm, 85, rfl⟩
abbrev main_while0b_v91 : Ref sig .tc := ⟨.hbm, 86, rfl⟩
abbrev main_while0b_v92 : Ref sig .tc := ⟨.hbm, 87, rfl⟩
abbrev main_while0b_v93 : Ref sig .tc := ⟨.hbm, 88, rfl⟩
abbrev main_while0b_v94 : Ref sig .tc := ⟨.hbm, 89, rfl⟩
abbrev main_while0b_v95 : Ref sig .tc := ⟨.hbm, 90, rfl⟩
abbrev main_while0b_v96 : Ref sig .tc := ⟨.hbm, 91, rfl⟩
abbrev main_while0b_c_32 : Ref sig .tc := ⟨.hbm, 92, rfl⟩
abbrev main_while0b_v97 : Ref sig .tc := ⟨.hbm, 93, rfl⟩
abbrev main_while0b_c_33 : Ref sig .tc := ⟨.hbm, 94, rfl⟩
abbrev main_while0b_v98 : Ref sig .tc := ⟨.hbm, 95, rfl⟩
abbrev main_while0b_v99 : Ref sig .tc := ⟨.hbm, 96, rfl⟩
abbrev main_while0b_v100 : Ref sig .tc := ⟨.hbm, 97, rfl⟩
abbrev main_while0b_v101 : Ref sig .tc := ⟨.hbm, 98, rfl⟩
abbrev main_while0b_v102 : Ref sig .tc := ⟨.hbm, 99, rfl⟩
abbrev main_while0b_v103 : Ref sig .tc := ⟨.hbm, 100, rfl⟩
abbrev main_while0b_c_34 : Ref sig .tc := ⟨.hbm, 101, rfl⟩
abbrev main_while0b_v104 : Ref sig .tc := ⟨.hbm, 102, rfl⟩
abbrev main_while0b_c_35 : Ref sig .tc := ⟨.hbm, 103, rfl⟩
abbrev main_while0b_v105 : Ref sig .tc := ⟨.hbm, 104, rfl⟩
abbrev main_while0b_v106 : Ref sig .tc := ⟨.hbm, 105, rfl⟩
abbrev main_while0b_v107 : Ref sig .tc := ⟨.hbm, 106, rfl⟩
abbrev main_while0b_v108 : Ref sig .tc := ⟨.hbm, 107, rfl⟩
abbrev main_while0b_v109 : Ref sig .tc := ⟨.hbm, 108, rfl⟩
abbrev main_while0b_v110 : Ref sig .tc := ⟨.hbm, 109, rfl⟩
abbrev main_while0b_c_36 : Ref sig .tc := ⟨.hbm, 110, rfl⟩
abbrev main_while0b_v111 : Ref sig .tc := ⟨.hbm, 111, rfl⟩
abbrev main_while0b_c_37 : Ref sig .tc := ⟨.hbm, 112, rfl⟩
abbrev main_while0b_v112 : Ref sig .tc := ⟨.hbm, 113, rfl⟩
abbrev main_while0b_v113 : Ref sig .tc := ⟨.hbm, 114, rfl⟩
abbrev main_while0b_v114 : Ref sig .tc := ⟨.hbm, 115, rfl⟩
abbrev main_while0b_v115 : Ref sig .tc := ⟨.hbm, 116, rfl⟩
abbrev main_while0b_v116 : Ref sig .tc := ⟨.hbm, 117, rfl⟩
abbrev main_while0b_v117 : Ref sig .tc := ⟨.hbm, 118, rfl⟩
abbrev main_while0b_v118 : Ref sig .tc := ⟨.hbm, 119, rfl⟩
abbrev main_while0b_cst_38 : Ref sig .tc := ⟨.hbm, 120, rfl⟩
abbrev main_while0b_v119 : Ref sig .tc := ⟨.hbm, 121, rfl⟩
abbrev main_while0b_v120 : Ref sig .tc := ⟨.hbm, 122, rfl⟩
abbrev main_while0b_v121 : Ref sig .tc := ⟨.hbm, 123, rfl⟩
abbrev main_while0b_cst_39 : Ref sig .tc := ⟨.hbm, 124, rfl⟩
abbrev main_while0b_v122 : Ref sig .tc := ⟨.hbm, 125, rfl⟩
abbrev main_while0b_v123 : Ref sig .tc := ⟨.hbm, 126, rfl⟩
abbrev main_while0b_v124 : Ref sig .tc := ⟨.hbm, 127, rfl⟩
abbrev main_while0b_c_40 : Ref sig .tc := ⟨.hbm, 128, rfl⟩
abbrev main_while0b_v125 : Ref sig .tc := ⟨.hbm, 129, rfl⟩
abbrev main_while0b_c_41 : Ref sig .tc := ⟨.hbm, 130, rfl⟩
abbrev main_while0b_v126 : Ref sig .tc := ⟨.hbm, 131, rfl⟩
abbrev main_while0b_v127 : Ref sig .tc := ⟨.hbm, 132, rfl⟩
abbrev main_while0b_v128 : Ref sig .tc := ⟨.hbm, 133, rfl⟩
abbrev main_while0b_v129 : Ref sig .tc := ⟨.hbm, 134, rfl⟩
abbrev main_while0b_v130 : Ref sig .tc := ⟨.hbm, 135, rfl⟩
abbrev main_while0b_v131 : Ref sig .tc := ⟨.hbm, 136, rfl⟩
abbrev main_while0b_v132 : Ref sig .tc := ⟨.hbm, 137, rfl⟩
abbrev main_while0b_v133 : Ref sig .tc := ⟨.hbm, 138, rfl⟩
abbrev main_while0b_cst_42 : Ref sig .tc := ⟨.hbm, 139, rfl⟩
abbrev main_while0b_v134 : Ref sig .tc := ⟨.hbm, 140, rfl⟩
abbrev main_while0b_v135 : Ref sig .tc := ⟨.hbm, 141, rfl⟩
abbrev main_while0b_v136 : Ref sig .tc := ⟨.hbm, 142, rfl⟩
abbrev main_while0b_c_43 : Ref sig .tc := ⟨.hbm, 143, rfl⟩
abbrev main_while0b_v137 : Ref sig .tc := ⟨.hbm, 144, rfl⟩
abbrev main_while0b_c_44 : Ref sig .tc := ⟨.hbm, 145, rfl⟩
abbrev main_while0b_v138 : Ref sig .tc := ⟨.hbm, 146, rfl⟩
abbrev main_while0b_v139 : Ref sig .tc := ⟨.hbm, 147, rfl⟩
abbrev main_while0b_v140 : Ref sig .tc := ⟨.hbm, 148, rfl⟩
abbrev main_while0b_c_45 : Ref sig .tc := ⟨.hbm, 149, rfl⟩
abbrev main_while0b_v141 : Ref sig .tc := ⟨.hbm, 150, rfl⟩
abbrev main_while0b_c_46 : Ref sig .tc := ⟨.hbm, 151, rfl⟩
abbrev main_while0b_v142 : Ref sig .tc := ⟨.hbm, 152, rfl⟩
abbrev main_c_9 : Ref sig .tc := ⟨.hbm, 153, rfl⟩
abbrev main_v42 : Ref sig .tc := ⟨.hbm, 154, rfl⟩
abbrev main_v43 : Ref sig .tc := ⟨.hbm, 155, rfl⟩
abbrev main_c_10 : Ref sig .tc := ⟨.hbm, 156, rfl⟩
abbrev main_v44 : Ref sig .tc := ⟨.hbm, 157, rfl⟩
abbrev main_v45 : Ref sig .tc := ⟨.hbm, 158, rfl⟩
abbrev main_v46 : Ref sig .tc := ⟨.hbm, 159, rfl⟩
abbrev main_v47 : Ref sig .tc := ⟨.hbm, 160, rfl⟩
abbrev main_v48 : Ref sig .tc := ⟨.hbm, 161, rfl⟩
abbrev main_v49 : Ref sig .tc := ⟨.hbm, 162, rfl⟩
abbrev main_c_11 : Ref sig .tc := ⟨.hbm, 163, rfl⟩
abbrev main_v50 : Ref sig .tc := ⟨.hbm, 164, rfl⟩
abbrev main_v51 : Ref sig .tc := ⟨.hbm, 165, rfl⟩
abbrev main_c_12 : Ref sig .tc := ⟨.hbm, 166, rfl⟩
abbrev main_v52 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_v56 : Ref sig .tc := ⟨.hbm, 171, rfl⟩
abbrev main_v57 : Ref sig .tc := ⟨.hbm, 172, rfl⟩
abbrev main_c_13 : Ref sig .tc := ⟨.hbm, 173, rfl⟩
abbrev main_v58 : Ref sig .tc := ⟨.hbm, 174, rfl⟩
abbrev main_v59 : Ref sig .tc := ⟨.hbm, 175, rfl⟩
abbrev main_c_14 : Ref sig .tc := ⟨.hbm, 176, rfl⟩
abbrev main_v60 : Ref sig .tc := ⟨.hbm, 177, rfl⟩
abbrev main_v61 : Ref sig .tc := ⟨.hbm, 178, rfl⟩
abbrev main_v62 : Ref sig .tc := ⟨.hbm, 179, rfl⟩
abbrev main_v63 : Ref sig .tc := ⟨.hbm, 180, rfl⟩
abbrev main_v64 : Ref sig .tc := ⟨.hbm, 181, rfl⟩
abbrev main_c_15 : Ref sig .tc := ⟨.hbm, 182, rfl⟩
abbrev main_v65 : Ref sig .tc := ⟨.hbm, 183, rfl⟩
abbrev main_v66 : Ref sig .tc := ⟨.hbm, 184, rfl⟩
abbrev main_c_16 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_c_17 : Ref sig .tc := ⟨.hbm, 193, rfl⟩
abbrev main_v74 : Ref sig .tc := ⟨.hbm, 194, rfl⟩
abbrev main_v75 : Ref sig .tc := ⟨.hbm, 195, rfl⟩
abbrev main_c_18 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_v81 : Ref sig .tc := ⟨.hbm, 202, rfl⟩

abbrev nD : Nat := 1
abbrev τ : Topo := Topo.v7x

variable {F : FTy → Type} [FloatOps F]

abbrev main_while0_count : Scf.Loop 32 := ⟨0#32, 100#32, 1#32⟩
-- ==== Proof.RefRun.lean ====
/-
  The run of the reference program at any float values: its host operations as lists, @main as the stretches before the
  loop, the counted loop of 100 trips and the stretch after it; the loop's test (`cond_spec`); and the run (`run_fold`):
  every weakly fair execution ends with every buffer at the fold of the operations.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1980

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 25 host operations of @main, in order. -/
abbrev hostOps0 : List (HloOp τ sig (Elt F)) :=
  [ StableHlo.nullary main_cst (fun i => FloatOps.ofBits .f32 (lit0 (S2x18.rowMajor i))),
    StableHlo.reshape main_arg0 main_v0 (rfl : (.f32 : EltTy) = .f32) shapeCasts_S1x20000x1_S20000,
    StableHlo.unary main_v0 main_v1 (Host.negf : (⟨S20000, .f32⟩ : BufTy).Contents (Elt F) → (⟨S20000, .f32⟩ : BufTy).Contents (Elt F)),
    StableHlo.unary main_v1 main_v2 (Host.exp : (⟨S20000, .f32⟩ : BufTy).Contents (Elt F) → (⟨S20000, .f32⟩ : BufTy).Contents (Elt F)),
    StableHlo.nullary main_cst_0 (constant S_ .f32 0x3F800000#32),
    StableHlo.unary main_cst_0 main_v3 (broadcastInDim S20000 ![] bcast_S_S20000 : (⟨S_, .f32⟩ : BufTy).Contents (Elt F) → (⟨S20000, .f32⟩ : BufTy).Contents (Elt F)),
    StableHlo.binary main_v3 main_v2 main_v4 (addf : (⟨S20000, .f32⟩ : BufTy).Contents (Elt F) → (⟨S20000, .f32⟩ : BufTy).Contents (Elt F) → (⟨S20000, .f32⟩ : BufTy).Contents (Elt F)),
    StableHlo.nullary main_cst_1 (constant S_ .f32 0x3F800000#32),
    StableHlo.unary main_cst_1 main_v5 (broadcastInDim S20000 ![] bcast_S_S20000 : (⟨S_, .f32⟩ : BufTy).Contents (Elt F) → (⟨S20000, .f32⟩ : BufTy).Contents (Elt F)),
    StableHlo.binary main_v5 main_v4 main_v6 (Host.divf : (⟨S20000, .f32⟩ : BufTy).Contents (Elt F) → (⟨S20000, .f32⟩ : BufTy).Contents (Elt F) → (⟨S20000, .f32⟩ : BufTy).Contents (Elt F)),
    StableHlo.reshape main_arg1 main_v7 (rfl : (.f32 : EltTy) = .f32) shapeCasts_S1x20000x18_S20000x18,
    StableHlo.nullary main_cst_2 (constant S_ .f32 0x43000000#32),
    StableHlo.unary main_cst_2 main_v8 (broadcastInDim S20000x18 ![] bcast_S_S20000x18 : (⟨S_, .f32⟩ : BufTy).Contents (Elt F) → (⟨S20000x18, .f32⟩ : BufTy).Contents (Elt F)),
    StableHlo.binary main_v7 main_v8 main_v9 (Host.divf : (⟨S20000x18, .f32⟩ : BufTy).Contents (Elt F) → (⟨S20000x18, .f32⟩ : BufTy).Contents (Elt F) → (⟨S20000x18, .f32⟩ : BufTy).Contents (Elt F)),
    StableHlo.binary main_arg2 main_cst main_v10 ((fun l r => Host.dotGeneral dot_S20000x2_S2x18_S20000x18_1_0_0_1_n_n none l r) : (⟨S20000x2, .f32⟩ : BufTy).Contents (Elt F) → (⟨S2x18, .f32⟩ : BufTy).Contents (Elt F) → (⟨S20000x18, .f32⟩ : BufTy).Contents (Elt F)),
    StableHlo.binary main_v9 main_v10 main_v11 (addf : (⟨S20000x18, .f32⟩ : BufTy).Contents (Elt F) → (⟨S20000x18, .f32⟩ : BufTy).Contents (Elt F) → (⟨S20000x18, .f32⟩ : BufTy).Contents (Elt F)),
    StableHlo.unary main_v11 main_v12 ((extractStridedSlice S20000x2 ![0, 0] · slices_S20000x18_S20000x2_0_0) : (⟨S20000x18, .f32⟩ : BufTy).Contents (Elt F) → (⟨S20000x2, .f32⟩ : BufTy).Contents (Elt F)),
    StableHlo.unary main_v11 main_v13 ((extractStridedSlice S20000x2 ![0, 2] · slices_S20000x18_S20000x2_0_2) : (⟨S20000x18, .f32⟩ : BufTy).Contents (Elt F) → (⟨S20000x2, .f32⟩ : BufTy).Contents (Elt F)),
    StableHlo.nullary main_cst_3 (constant S_ .f32 0x3F000000#32),
    StableHlo.unary main_cst_3 main_v14 (broadcastInDim S20000x2 ![] bcast_S_S20000x2 : (⟨S_, .f32⟩ : BufTy).Contents (Elt F) → (⟨S20000x2, .f32⟩ : BufTy).Contents (Elt F)),
    StableHlo.binary main_v13 main_v14 main_v15 (mulf : (⟨S20000x2, .f32⟩ : BufTy).Contents (Elt F) → (⟨S20000x2, .f32⟩ : BufTy).Contents (Elt F) → (⟨S20000x2, .f32⟩ : BufTy).Contents (Elt F)),
    StableHlo.binary main_v12 main_v15 main_v16 (subf : (⟨S20000x2, .f32⟩ : BufTy).Contents (Elt F) → (⟨S20000x2, .f32⟩ : BufTy).Contents (Elt F) → (⟨S20000x2, .f32⟩ : BufTy).Contents (Elt F)),
    StableHlo.binary main_v12 main_v15 main_v17 (addf : (⟨S20000x2, .f32⟩ : BufTy).Contents (Elt F) → (⟨S20000x2, .f32⟩ : BufTy).Contents (Elt F) → (⟨S20000x2, .f32⟩ : BufTy).Contents (Elt F)),
    StableHlo.binary main_v16 main_v17 main_v18 ((fun a b => concatenate S20000x4 1 [⟨S20000x2, a⟩, ⟨S20000x2, b⟩] concatenates_S20000x2_S20000x2_S20000x4_d1) : (⟨S20000x2, .f32⟩ : BufTy).Contents (Elt F) → (⟨S20000x2, .f32⟩ : BufTy).Contents (Elt F) → (⟨S20000x4, .f32⟩ : BufTy).Contents (Elt F)),
    StableHlo.unary main_v6 main_v19 (Host.negf : (⟨S20000, .f32⟩ : BufTy).Contents (Elt F) → (⟨S20000, .f32⟩ : BufTy).Contents (Elt F)) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub ..⟩
/-- 3 host operations of @argsort (main_call0), in order. -/
abbrev hostOps0_1 : List (HloOp τ sig (Elt F)) :=
  [ StableHlo.TRef.nullary (.of main_call0_v0 : StableHlo.TRef sig ⟨S20000, .i32⟩) (iotaInDim S20000 32 0),
    StableHlo.TRef.binary (.of main_v19 : StableHlo.TRef sig ⟨S20000, .f32⟩) (.of main_call0_v0 : StableHlo.TRef sig ⟨S20000, .i32⟩) (.of main_call0_v1_0 : StableHlo.TRef sig ⟨S20000, .f32⟩) (fun x y => (Host.sort2 S20000 0 comparator_f32_i32_d0 x y).1),
    StableHlo.TRef.binary (.of main_v19 : StableHlo.TRef sig ⟨S20000, .f32⟩) (.of main_call0_v0 : StableHlo.TRef sig ⟨S20000, .i32⟩) (.of main_v20 : StableHlo.TRef sig ⟨S20000, .i32⟩) (fun x y => (Host.sort2 S20000 0 comparator_f32_i32_d0 x y).2) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.binary_bufs_sub .., StableHlo.binary_bufs_sub ..⟩
/-- 35 host operations of @main, in order. -/
abbrev hostOps0_2 : List (HloOp τ sig (Elt F)) :=
  ( StableHlo.nullary main_c (constantI S_ 32 0#32)
  :: StableHlo.unary main_c main_v21 (broadcastInDim S20000 ![] bcast_S_S20000 : (⟨S_, .i32⟩ : BufTy).Contents (Elt F) → (⟨S20000, .i32⟩ : BufTy).Contents (Elt F))
  :: StableHlo.binary main_v20 main_v21 main_v22 (cmpi .slt : (⟨S20000, .i32⟩ : BufTy).Contents (Elt F) → (⟨S20000, .i32⟩ : BufTy).Contents (Elt F) → (⟨S20000, .i1⟩ : BufTy).Contents (Elt F))
  :: StableHlo.nullary main_c_4 (constantI S_ 32 20000#32)
  :: StableHlo.unary main_c_4 main_v23 (broadcastInDim S20000 ![] bcast_S_S20000 : (⟨S_, .i32⟩ : BufTy).Contents (Elt F) → (⟨S20000, .i32⟩ : BufTy).Contents (Elt F))
  :: StableHlo.binary main_v20 main_v23 main_v24 (addi : (⟨S20000, .i32⟩ : BufTy).Contents (Elt F) → (⟨S20000, .i32⟩ : BufTy).Contents (Elt F) → (⟨S20000, .i32⟩ : BufTy).Contents (Elt F))
  :: StableHlo.ternary main_v22 main_v24 main_v20 main_v25 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F))
  :: StableHlo.unary main_v25 main_v26 (broadcastInDim S20000x1 ![0] bcast_S20000_S20000x1_0 : (⟨S20000, .i32⟩ : BufTy).Contents (Elt F) → (⟨S20000x1, .i32⟩ : BufTy).Contents (Elt F))
  :: StableHlo.binary main_v18 main_v26 main_v27 ((fun x i => Host.gather gather_S20000x4_S20000x1_S20000x4_1_0_n_n_0_1_14 x i) : (⟨S20000x4, .f32⟩ : BufTy).Contents (Elt F) → (⟨S20000x1, .i32⟩ : BufTy).Contents (Elt F) → (⟨S20000x4, .f32⟩ : BufTy).Contents (Elt F))
  :: StableHlo.unary main_v27 main_v28 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_v28 main_v29 (rfl : (.f32 : EltTy) = .f32) shapeCasts_S20000x1_S20000
  :: StableHlo.unary main_v27 main_v30 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_v30 main_v31 (rfl : (.f32 : EltTy) = .f32) shapeCasts_S20000x1_S20000
  :: StableHlo.unary main_v27 main_v32 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_v32 main_v33 (rfl : (.f32 : EltTy) = .f32) shapeCasts_S20000x1_S20000
  :: StableHlo.unary main_v27 main_v34 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_v34 main_v35 (rfl : (.f32 : EltTy) = .f32) shapeCasts_S20000x1_S20000
  :: StableHlo.binary main_v33 main_v29 main_v36 (subf : (⟨S20000, .f32⟩ : BufTy).Contents (Elt F) → (⟨S20000, .f32⟩ : BufTy).Contents (Elt F) → (⟨S20000, .f32⟩ : BufTy).Contents (Elt F))
  :: StableHlo.binary main_v35 main_v31 main_v37 (subf : (⟨S20000, .f32⟩ : BufTy).Contents (Elt F) → (⟨S20000, .f32⟩ : BufTy).Contents (Elt F) → (⟨S20000, .f32⟩ : BufTy).Contents (Elt F))
  :: StableHlo.binary main_v36 main_v37 main_v38 (mulf : (⟨S20000, .f32⟩ : BufTy).Contents (Elt F) → (⟨S20000, .f32⟩ : BufTy).Contents (Elt F) → (⟨S20000, .f32⟩ : BufTy).Contents (Elt F))
  :: StableHlo.nullary main_c_5 (constantI S_ 1 1#1)
  :: StableHlo.unary main_c_5 main_v39 (broadcastInDim S20000 ![] bcast_S_S20000 : (⟨S_, .i1⟩ : BufTy).Contents (Elt F) → (⟨S20000, .i1⟩ : BufTy).Contents (Elt F))
  :: StableHlo.nullary main_c_6 (constantI S_ 32 0#32)
  :: StableHlo.unary main_c_6 main_v40 (broadcastInDim S100 ![] bcast_S_S100 : (⟨S_, .i32⟩ : BufTy).Contents (Elt F) → (⟨S100, .i32⟩ : BufTy).Contents (Elt F))
  :: StableHlo.nullary main_c_7 (constantI S_ 32 0#32)
  :: StableHlo.nullary main_c_8 (constantI S_ 32 0#32)
  :: StableHlo.unary main_v29 main_v41_0 id
  :: StableHlo.unary main_v31 main_v41_1 id
  :: StableHlo.unary main_v33 main_v41_2 id
  :: StableHlo.unary main_v35 main_v41_3 id
  :: StableHlo.unary main_v38 main_v41_4 id
  :: StableHlo.unary main_c_8 main_v41_5 id
  :: StableHlo.unary main_c_7 main_v41_6 id
  :: StableHlo.unary main_v39 main_v41_7 id
  :: StableHlo.unary main_v40 main_v41_8 id
  :: [] )
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 50 host operations of @main, in order. -/
abbrev hostOps0_3 : List (HloOp τ sig (Elt F)) :=
  ( StableHlo.nullary main_c_9 (constantI S_ 32 0#32)
  :: StableHlo.unary main_c_9 main_v42 (broadcastInDim S100 ![] bcast_S_S100 : (⟨S_, .i32⟩ : BufTy).Contents (Elt F) → (⟨S100, .i32⟩ : BufTy).Contents (Elt F))
  :: StableHlo.binary main_v41_8 main_v42 main_v43 (cmpi .slt : (⟨S100, .i32⟩ : BufTy).Contents (Elt F) → (⟨S100, .i32⟩ : BufTy).Contents (Elt F) → (⟨S100, .i1⟩ : BufTy).Contents (Elt F))
  :: StableHlo.nullary main_c_10 (constantI S_ 32 20000#32)
  :: StableHlo.unary main_c_10 main_v44 (broadcastInDim S100 ![] bcast_S_S100 : (⟨S_, .i32⟩ : BufTy).Contents (Elt F) → (⟨S100, .i32⟩ : BufTy).Contents (Elt F))
  :: StableHlo.binary main_v41_8 main_v44 main_v45 (addi : (⟨S100, .i32⟩ : BufTy).Contents (Elt F) → (⟨S100, .i32⟩ : BufTy).Contents (Elt F) → (⟨S100, .i32⟩ : BufTy).Contents (Elt F))
  :: StableHlo.ternary main_v43 main_v45 main_v41_8 main_v46 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v46 main_v47 (broadcastInDim S100x1 ![0] bcast_S100_S100x1_0 : (⟨S100, .i32⟩ : BufTy).Contents (Elt F) → (⟨S100x1, .i32⟩ : BufTy).Contents (Elt F))
  :: StableHlo.binary main_v20 main_v47 main_v48 ((fun x i => Host.gather gather_S20000_S100x1_S100_n_0_n_n_0_1_1 x i) : (⟨S20000, .i32⟩ : BufTy).Contents (Elt F) → (⟨S100x1, .i32⟩ : BufTy).Contents (Elt F) → (⟨S100, .i32⟩ : BufTy).Contents (Elt F))
  :: StableHlo.unary main_v11 main_v49 ((extractStridedSlice S20000x2 ![0, 4] · slices_S20000x18_S20000x2_0_4) : (⟨S20000x18, .f32⟩ : BufTy).Contents (Elt F) → (⟨S20000x2, .f32⟩ : BufTy).Contents (Elt F))
  :: StableHlo.nullary main_c_11 (constantI S_ 32 0#32)
  :: StableHlo.unary main_c_11 main_v50 (broadcastInDim S100 ![] bcast_S_S100 : (⟨S_, .i32⟩ : BufTy).Contents (Elt F) → (⟨S100, .i32⟩ : BufTy).Contents (Elt F))
  :: StableHlo.binary main_v48 main_v50 main_v51 (cmpi .slt : (⟨S100, .i32⟩ : BufTy).Contents (Elt F) → (⟨S100, .i32⟩ : BufTy).Contents (Elt F) → (⟨S100, .i1⟩ : BufTy).Contents (Elt F))
  :: StableHlo.nullary main_c_12 (constantI S_ 32 20000#32)
  :: StableHlo.unary main_c_12 main_v52 (broadcastInDim S100 ![] bcast_S_S100 : (⟨S_, .i32⟩ : BufTy).Contents (Elt F) → (⟨S100, .i32⟩ : BufTy).Contents (Elt F))
  :: StableHlo.binary main_v48 main_v52 main_v53 (addi : (⟨S100, .i32⟩ : BufTy).Contents (Elt F) → (⟨S100, .i32⟩ : BufTy).Contents (Elt F) → (⟨S100, .i32⟩ : BufTy).Contents (Elt F))
  :: StableHlo.ternary main_v51 main_v53 main_v48 main_v54 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v54 main_v55 (broadcastInDim S100x1 ![0] bcast_S100_S100x1_0 : (⟨S100, .i32⟩ : BufTy).Contents (Elt F) → (⟨S100x1, .i32⟩ : BufTy).Contents (Elt F))
  :: StableHlo.binary main_v49 main_v55 main_v56 ((fun x i => Host.gather gather_S20000x2_S100x1_S100x2_1_0_n_n_0_1_12 x i) : (⟨S20000x2, .f32⟩ : BufTy).Contents (Elt F) → (⟨S100x1, .i32⟩ : BufTy).Contents (Elt F) → (⟨S100x2, .f32⟩ : BufTy).Contents (Elt F))
  :: StableHlo.unary main_v11 main_v57 ((extractStridedSlice S20000x2 ![0, 8] · slices_S20000x18_S20000x2_0_8) : (⟨S20000x18, .f32⟩ : BufTy).Contents (Elt F) → (⟨S20000x2, .f32⟩ : BufTy).Contents (Elt F))
  :: StableHlo.nullary main_c_13 (constantI S_ 32 0#32)
  :: StableHlo.unary main_c_13 main_v58 (broadcastInDim S100 ![] bcast_S_S100 : (⟨S_, .i32⟩ : BufTy).Contents (Elt F) → (⟨S100, .i32⟩ : BufTy).Contents (Elt F))
  :: StableHlo.binary main_v48 main_v58 main_v59 (cmpi .slt : (⟨S100, .i32⟩ : BufTy).Contents (Elt F) → (⟨S100, .i32⟩ : BufTy).Contents (Elt F) → (⟨S100, .i1⟩ : BufTy).Contents (Elt F))
  :: StableHlo.nullary main_c_14 (constantI S_ 32 20000#32)
  :: StableHlo.unary main_c_14 main_v60 (broadcastInDim S100 ![] bcast_S_S100 : (⟨S_, .i32⟩ : BufTy).Contents (Elt F) → (⟨S100, .i32⟩ : BufTy).Contents (Elt F))
  :: StableHlo.binary main_v48 main_v60 main_v61 (addi : (⟨S100, .i32⟩ : BufTy).Contents (Elt F) → (⟨S100, .i32⟩ : BufTy).Contents (Elt F) → (⟨S100, .i32⟩ : BufTy).Contents (Elt F))
  :: StableHlo.ternary main_v59 main_v61 main_v48 main_v62 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v62 main_v63 (broadcastInDim S100x1 ![0] bcast_S100_S100x1_0 : (⟨S100, .i32⟩ : BufTy).Contents (Elt F) → (⟨S100x1, .i32⟩ : BufTy).Contents (Elt F))
  :: StableHlo.binary main_v57 main_v63 main_v64 ((fun x i => Host.gather gather_S20000x2_S100x1_S100x2_1_0_n_n_0_1_12 x i) : (⟨S20000x2, .f32⟩ : BufTy).Contents (Elt F) → (⟨S100x1, .i32⟩ : BufTy).Contents (Elt F) → (⟨S100x2, .f32⟩ : BufTy).Contents (Elt F))
  :: StableHlo.nullary main_c_15 (constantI S_ 32 0#32)
  :: StableHlo.unary main_c_15 main_v65 (broadcastInDim S100 ![] bcast_S_S100 : (⟨S_, .i32⟩ : BufTy).Contents (Elt F) → (⟨S100, .i32⟩ : BufTy).Contents (Elt F))
  :: StableHlo.binary main_v48 main_v65 main_v66 (cmpi .slt : (⟨S100, .i32⟩ : BufTy).Contents (Elt F) → (⟨S100, .i32⟩ : BufTy).Contents (Elt F) → (⟨S100, .i1⟩ : BufTy).Contents (Elt F))
  :: StableHlo.nullary main_c_16 (constantI S_ 32 20000#32)
  :: StableHlo.unary main_c_16 main_v67 (broadcastInDim S100 ![] bcast_S_S100 : (⟨S_, .i32⟩ : BufTy).Contents (Elt F) → (⟨S100, .i32⟩ : BufTy).Contents (Elt F))
  :: StableHlo.binary main_v48 main_v67 main_v68 (addi : (⟨S100, .i32⟩ : BufTy).Contents (Elt F) → (⟨S100, .i32⟩ : BufTy).Contents (Elt F) → (⟨S100, .i32⟩ : BufTy).Contents (Elt F))
  :: StableHlo.ternary main_v66 main_v68 main_v48 main_v69 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v69 main_v70 (broadcastInDim S100x1 ![0] bcast_S100_S100x1_0 : (⟨S100, .i32⟩ : BufTy).Contents (Elt F) → (⟨S100x1, .i32⟩ : BufTy).Contents (Elt F))
  :: StableHlo.binary main_v6 main_v70 main_v71 ((fun x i => Host.gather gather_S20000_S100x1_S100_n_0_n_n_0_1_1 x i) : (⟨S20000, .f32⟩ : BufTy).Contents (Elt F) → (⟨S100x1, .i32⟩ : BufTy).Contents (Elt F) → (⟨S100, .f32⟩ : BufTy).Contents (Elt F))
  :: StableHlo.unary main_v71 main_v72 (broadcastInDim S100x1 ![0] bcast_S100_S100x1_0 : (⟨S100, .f32⟩ : BufTy).Contents (Elt F) → (⟨S100x1, .f32⟩ : BufTy).Contents (Elt F))
  :: StableHlo.unary main_v11 main_v73 ((extractStridedSlice S20000x3 ![0, 0] · slices_S20000x18_S20000x3_0_0) : (⟨S20000x18, .f32⟩ : BufTy).Contents (Elt F) → (⟨S20000x3, .f32⟩ : BufTy).Contents (Elt F))
  :: StableHlo.nullary main_c_17 (constantI S_ 32 0#32)
  :: StableHlo.unary main_c_17 main_v74 (broadcastInDim S100 ![] bcast_S_S100 : (⟨S_, .i32⟩ : BufTy).Contents (Elt F) → (⟨S100, .i32⟩ : BufTy).Contents (Elt F))
  :: StableHlo.binary main_v48 main_v74 main_v75 (cmpi .slt : (⟨S100, .i32⟩ : BufTy).Contents (Elt F) → (⟨S100, .i32⟩ : BufTy).Contents (Elt F) → (⟨S100, .i1⟩ : BufTy).Contents (Elt F))
  :: StableHlo.nullary main_c_18 (constantI S_ 32 20000#32)
  :: StableHlo.unary main_c_18 main_v76 (broadcastInDim S100 ![] bcast_S_S100 : (⟨S_, .i32⟩ : BufTy).Contents (Elt F) → (⟨S100, .i32⟩ : BufTy).Contents (Elt F))
  :: StableHlo.binary main_v48 main_v76 main_v77 (addi : (⟨S100, .i32⟩ : BufTy).Contents (Elt F) → (⟨S100, .i32⟩ : BufTy).Contents (Elt F) → (⟨S100, .i32⟩ : BufTy).Contents (Elt F))
  :: StableHlo.ternary main_v75 main_v77 main_v48 main_v78 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v78 main_v79 (broadcastInDim S100x1 ![0] bcast_S100_S100x1_0 : (⟨S100, .i32⟩ : BufTy).Contents (Elt F) → (⟨S100x1, .i32⟩ : BufTy).Contents (Elt F))
  :: StableHlo.binary main_v73 main_v79 main_v80 ((fun x i => Host.gather gather_S20000x3_S100x1_S100x3_1_0_n_n_0_1_13 x i) : (⟨S20000x3, .f32⟩ : BufTy).Contents (Elt F) → (⟨S100x1, .i32⟩ : BufTy).Contents (Elt F) → (⟨S100x3, .f32⟩ : BufTy).Contents (Elt F))
  :: StableHlo.nary ![main_v72, main_v80, main_v56, main_v64] main_v81 (fun u => (concatenate S100x8 1 [⟨S100x1, (u 0 : (⟨S100x1, .f32⟩ : BufTy).Contents (Elt F))⟩, ⟨S100x3, (u 1 : (⟨S100x3, .f32⟩ : BufTy).Contents (Elt F))⟩, ⟨S100x2, (u 2 : (⟨S100x2, .f32⟩ : BufTy).Contents (Elt F))⟩, ⟨S100x2, (u 3 : (⟨S100x2, .f32⟩ : BufTy).Contents (Elt F))⟩] concatenates_S100x1_S100x3_S100x2_S100x2_S100x8_d1 : (⟨S100x8, .f32⟩ : BufTy).Contents (Elt F)))
  :: [] )
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub ..⟩
/-- 25 host operations of @main, window 0 (statements 1 … 60), in order. -/
abbrev main_part0_ops0 : List (HloOp τ sig (Elt F)) :=
  [ StableHlo.nullary main_cst (fun i => FloatOps.ofBits .f32 (lit0 (S2x18.rowMajor i))),
    StableHlo.reshape main_arg0 main_v0 (rfl : (.f32 : EltTy) = .f32) shapeCasts_S1x20000x1_S20000,
    StableHlo.unary main_v0 main_v1 (Host.negf : (⟨S20000, .f32⟩ : BufTy).Contents (Elt F) → (⟨S20000, .f32⟩ : BufTy).Contents (Elt F)),
    StableHlo.unary main_v1 main_v2 (Host.exp : (⟨S20000, .f32⟩ : BufTy).Contents (Elt F) → (⟨S20000, .f32⟩ : BufTy).Contents (Elt F)),
    StableHlo.nullary main_cst_0 (constant S_ .f32 0x3F800000#32),
    StableHlo.unary main_cst_0 main_v3 (broadcastInDim S20000 ![] bcast_S_S20000 : (⟨S_, .f32⟩ : BufTy).Contents (Elt F) → (⟨S20000, .f32⟩ : BufTy).Contents (Elt F)),
    StableHlo.binary main_v3 main_v2 main_v4 (addf : (⟨S20000, .f32⟩ : BufTy).Contents (Elt F) → (⟨S20000, .f32⟩ : BufTy).Contents (Elt F) → (⟨S20000, .f32⟩ : BufTy).Contents (Elt F)),
    StableHlo.nullary main_cst_1 (constant S_ .f32 0x3F800000#32),
    StableHlo.unary main_cst_1 main_v5 (broadcastInDim S20000 ![] bcast_S_S20000 : (⟨S_, .f32⟩ : BufTy).Contents (Elt F) → (⟨S20000, .f32⟩ : BufTy).Contents (Elt F)),
    StableHlo.binary main_v5 main_v4 main_v6 (Host.divf : (⟨S20000, .f32⟩ : BufTy).Contents (Elt F) → (⟨S20000, .f32⟩ : BufTy).Contents (Elt F) → (⟨S20000, .f32⟩ : BufTy).Contents (Elt F)),
    StableHlo.reshape main_arg1 main_v7 (rfl : (.f32 : EltTy) = .f32) shapeCasts_S1x20000x18_S20000x18,
    StableHlo.nullary main_cst_2 (constant S_ .f32 0x43000000#32),
    StableHlo.unary main_cst_2 main_v8 (broadcastInDim S20000x18 ![] bcast_S_S20000x18 : (⟨S_, .f32⟩ : BufTy).Contents (Elt F) → (⟨S20000x18, .f32⟩ : BufTy).Contents (Elt F)),
    StableHlo.binary main_v7 main_v8 main_v9 (Host.divf : (⟨S20000x18, .f32⟩ : BufTy).Contents (Elt F) → (⟨S20000x18, .f32⟩ : BufTy).Contents (Elt F) → (⟨S20000x18, .f32⟩ : BufTy).Contents (Elt F)),
    StableHlo.binary main_arg2 main_cst main_v10 ((fun l r => Host.dotGeneral dot_S20000x2_S2x18_S20000x18_1_0_0_1_n_n none l r) : (⟨S20000x2, .f32⟩ : BufTy).Contents (Elt F) → (⟨S2x18, .f32⟩ : BufTy).Contents (Elt F) → (⟨S20000x18, .f32⟩ : BufTy).Contents (Elt F)),
    StableHlo.binary main_v9 main_v10 main_v11 (addf : (⟨S20000x18, .f32⟩ : BufTy).Contents (Elt F) → (⟨S20000x18, .f32⟩ : BufTy).Contents (Elt F) → (⟨S20000x18, .f32⟩ : BufTy).Contents (Elt F)),
    StableHlo.unary main_v11 main_v12 ((extractStridedSlice S20000x2 ![0, 0] · slices_S20000x18_S20000x2_0_0) : (⟨S20000x18, .f32⟩ : BufTy).Contents (Elt F) → (⟨S20000x2, .f32⟩ : BufTy).Contents (Elt F)),
    StableHlo.unary main_v11 main_v13 ((extractStridedSlice S20000x2 ![0, 2] · slices_S20000x18_S20000x2_0_2) : (⟨S20000x18, .f32⟩ : BufTy).Contents (Elt F) → (⟨S20000x2, .f32⟩ : BufTy).Contents (Elt F)),
    StableHlo.nullary main_cst_3 (constant S_ .f32 0x3F000000#32),
    StableHlo.unary main_cst_3 main_v14 (broadcastInDim S20000x2 ![] bcast_S_S20000x2 : (⟨S_, .f32⟩ : BufTy).Contents (Elt F) → (⟨S20000x2, .f32⟩ : BufTy).Contents (Elt F)),
    StableHlo.binary main_v13 main_v14 main_v15 (mulf : (⟨S20000x2, .f32⟩ : BufTy).Contents (Elt F) → (⟨S20000x2, .f32⟩ : BufTy).Contents (Elt F) → (⟨S20000x2, .f32⟩ : BufTy).Contents (Elt F)),
    StableHlo.binary main_v12 main_v15 main_v16 (subf : (⟨S20000x2, .f32⟩ : BufTy).Contents (Elt F) → (⟨S20000x2, .f32⟩ : BufTy).Contents (Elt F) → (⟨S20000x2, .f32⟩ : BufTy).Contents (Elt F)),
    StableHlo.binary main_v12 main_v15 main_v17 (addf : (⟨S20000x2, .f32⟩ : BufTy).Contents (Elt F) → (⟨S20000x2, .f32⟩ : BufTy).Contents (Elt F) → (⟨S20000x2, .f32⟩ : BufTy).Contents (Elt F)),
    StableHlo.binary main_v16 main_v17 main_v18 ((fun a b => concatenate S20000x4 1 [⟨S20000x2, a⟩, ⟨S20000x2, b⟩] concatenates_S20000x2_S20000x2_S20000x4_d1) : (⟨S20000x2, .f32⟩ : BufTy).Contents (Elt F) → (⟨S20000x2, .f32⟩ : BufTy).Contents (Elt F) → (⟨S20000x4, .f32⟩ : BufTy).Contents (Elt F)),
    StableHlo.unary main_v6 main_v19 (Host.negf : (⟨S20000, .f32⟩ : BufTy).Contents (Elt F) → (⟨S20000, .f32⟩ : BufTy).Contents (Elt F)) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub ..⟩
/-- 3 host operations of @argsort (main_call0), window 0 (statements 1 … 60), in order. -/
abbrev main_part0_ops1 : List (HloOp τ sig (Elt F)) :=
  [ StableHlo.TRef.nullary (.of main_call0_v0 : StableHlo.TRef sig ⟨S20000, .i32⟩) (iotaInDim S20000 32 0),
    StableHlo.TRef.binary (.of main_v19 : StableHlo.TRef sig ⟨S20000, .f32⟩) (.of main_call0_v0 : StableHlo.TRef sig ⟨S20000, .i32⟩) (.of main_call0_v1_0 : StableHlo.TRef sig ⟨S20000, .f32⟩) (fun x y => (Host.sort2 S20000 0 comparator_f32_i32_d0 x y).1),
    StableHlo.TRef.binary (.of main_v19 : StableHlo.TRef sig ⟨S20000, .f32⟩) (.of main_call0_v0 : StableHlo.TRef sig ⟨S20000, .i32⟩) (.of main_v20 : StableHlo.TRef sig ⟨S20000, .i32⟩) (fun x y => (Host.sort2 S20000 0 comparator_f32_i32_d0 x y).2) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.nullary_bufs_sub .., StableHlo.binary_bufs_sub .., StableHlo.binary_bufs_sub ..⟩
/-- 34 host operations of @main, window 0 (statements 1 … 60), in order. -/
abbrev main_part0_ops2 : List (HloOp τ sig (Elt F)) :=
  ( StableHlo.nullary main_c (constantI S_ 32 0#32)
  :: StableHlo.unary main_c main_v21 (broadcastInDim S20000 ![] bcast_S_S20000 : (⟨S_, .i32⟩ : BufTy).Contents (Elt F) → (⟨S20000, .i32⟩ : BufTy).Contents (Elt F))
  :: StableHlo.binary main_v20 main_v21 main_v22 (cmpi .slt : (⟨S20000, .i32⟩ : BufTy).Contents (Elt F) → (⟨S20000, .i32⟩ : BufTy).Contents (Elt F) → (⟨S20000, .i1⟩ : BufTy).Contents (Elt F))
  :: StableHlo.nullary main_c_4 (constantI S_ 32 20000#32)
  :: StableHlo.unary main_c_4 main_v23 (broadcastInDim S20000 ![] bcast_S_S20000 : (⟨S_, .i32⟩ : BufTy).Contents (Elt F) → (⟨S20000, .i32⟩ : BufTy).Contents (Elt F))
  :: StableHlo.binary main_v20 main_v23 main_v24 (addi : (⟨S20000, .i32⟩ : BufTy).Contents (Elt F) → (⟨S20000, .i32⟩ : BufTy).Contents (Elt F) → (⟨S20000, .i32⟩ : BufTy).Contents (Elt F))
  :: StableHlo.ternary main_v22 main_v24 main_v20 main_v25 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F))
  :: StableHlo.unary main_v25 main_v26 (broadcastInDim S20000x1 ![0] bcast_S20000_S20000x1_0 : (⟨S20000, .i32⟩ : BufTy).Contents (Elt F) → (⟨S20000x1, .i32⟩ : BufTy).Contents (Elt F))
  :: StableHlo.binary main_v18 main_v26 main_v27 ((fun x i => Host.gather gather_S20000x4_S20000x1_S20000x4_1_0_n_n_0_1_14 x i) : (⟨S20000x4, .f32⟩ : BufTy).Contents (Elt F) → (⟨S20000x1, .i32⟩ : BufTy).Contents (Elt F) → (⟨S20000x4, .f32⟩ : BufTy).Contents (Elt F))
  :: StableHlo.unary main_v27 main_v28 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_v28 main_v29 (rfl : (.f32 : EltTy) = .f32) shapeCasts_S20000x1_S20000
  :: StableHlo.unary main_v27 main_v30 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_v30 main_v31 (rfl : (.f32 : EltTy) = .f32) shapeCasts_S20000x1_S20000
  :: StableHlo.unary main_v27 main_v32 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_v32 main_v33 (rfl : (.f32 : EltTy) = .f32) shapeCasts_S20000x1_S20000
  :: StableHlo.unary main_v27 main_v34 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_v34 main_v35 (rfl : (.f32 : EltTy) = .f32) shapeCasts_S20000x1_S20000
  :: StableHlo.binary main_v33 main_v29 main_v36 (subf : (⟨S20000, .f32⟩ : BufTy).Contents (Elt F) → (⟨S20000, .f32⟩ : BufTy).Contents (Elt F) → (⟨S20000, .f32⟩ : BufTy).Contents (Elt F))
  :: StableHlo.binary main_v35 main_v31 main_v37 (subf : (⟨S20000, .f32⟩ : BufTy).Contents (Elt F) → (⟨S20000, .f32⟩ : BufTy).Contents (Elt F) → (⟨S20000, .f32⟩ : BufTy).Contents (Elt F))
  :: StableHlo.binary main_v36 main_v37 main_v38 (mulf : (⟨S20000, .f32⟩ : BufTy).Contents (Elt F) → (⟨S20000, .f32⟩ : BufTy).Contents (Elt F) → (⟨S20000, .f32⟩ : BufTy).Contents (Elt F))
  :: StableHlo.nullary main_c_5 (constantI S_ 1 1#1)
  :: StableHlo.unary main_c_5 main_v39 (broadcastInDim S20000 ![] bcast_S_S20000 : (⟨S_, .i1⟩ : BufTy).Contents (Elt F) → (⟨S20000, .i1⟩ : BufTy).Contents (Elt F))
  :: StableHlo.nullary main_c_6 (constantI S_ 32 0#32)
  :: StableHlo.unary main_c_6 main_v40 (broadcastInDim S100 ![] bcast_S_S100 : (⟨S_, .i32⟩ : BufTy).Contents (Elt F) → (⟨S100, .i32⟩ : BufTy).Contents (Elt F))
  :: StableHlo.nullary main_c_7 (constantI S_ 32 0#32)
  :: StableHlo.nullary main_c_8 (constantI S_ 32 0#32)
  :: StableHlo.unary main_v29 main_v41_0 id
  :: StableHlo.unary main_v31 main_v41_1 id
  :: StableHlo.unary main_v33 main_v41_2 id
  :: StableHlo.unary main_v35 main_v41_3 id
  :: StableHlo.unary main_v38 main_v41_4 id
  :: StableHlo.unary main_c_8 main_v41_5 id
  :: StableHlo.unary main_c_7 main_v41_6 id
  :: StableHlo.unary main_v39 main_v41_7 id
  :: [] )
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- 1 host operation of @main, window 1 (statements 61 … 113), in order. -/
abbrev main_part1_ops0 : List (HloOp τ sig (Elt F)) :=
  [ StableHlo.unary main_v40 main_v41_8 id ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  StableHlo.unary_bufs_sub ..
/-- 50 host operations of @main, window 1 (statements 61 … 113), in order. -/
abbrev main_part1_ops1 : List (HloOp τ sig (Elt F)) :=
  ( StableHlo.nullary main_c_9 (constantI S_ 32 0#32)
  :: StableHlo.unary main_c_9 main_v42 (broadcastInDim S100 ![] bcast_S_S100 : (⟨S_, .i32⟩ : BufTy).Contents (Elt F) → (⟨S100, .i32⟩ : BufTy).Contents (Elt F))
  :: StableHlo.binary main_v41_8 main_v42 main_v43 (cmpi .slt : (⟨S100, .i32⟩ : BufTy).Contents (Elt F) → (⟨S100, .i32⟩ : BufTy).Contents (Elt F) → (⟨S100, .i1⟩ : BufTy).Contents (Elt F))
  :: StableHlo.nullary main_c_10 (constantI S_ 32 20000#32)
  :: StableHlo.unary main_c_10 main_v44 (broadcastInDim S100 ![] bcast_S_S100 : (⟨S_, .i32⟩ : BufTy).Contents (Elt F) → (⟨S100, .i32⟩ : BufTy).Contents (Elt F))
  :: StableHlo.binary main_v41_8 main_v44 main_v45 (addi : (⟨S100, .i32⟩ : BufTy).Contents (Elt F) → (⟨S100, .i32⟩ : BufTy).Contents (Elt F) → (⟨S100, .i32⟩ : BufTy).Contents (Elt F))
  :: StableHlo.ternary main_v43 main_v45 main_v41_8 main_v46 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v46 main_v47 (broadcastInDim S100x1 ![0] bcast_S100_S100x1_0 : (⟨S100, .i32⟩ : BufTy).Contents (Elt F) → (⟨S100x1, .i32⟩ : BufTy).Contents (Elt F))
  :: StableHlo.binary main_v20 main_v47 main_v48 ((fun x i => Host.gather gather_S20000_S100x1_S100_n_0_n_n_0_1_1 x i) : (⟨S20000, .i32⟩ : BufTy).Contents (Elt F) → (⟨S100x1, .i32⟩ : BufTy).Contents (Elt F) → (⟨S100, .i32⟩ : BufTy).Contents (Elt F))
  :: StableHlo.unary main_v11 main_v49 ((extractStridedSlice S20000x2 ![0, 4] · slices_S20000x18_S20000x2_0_4) : (⟨S20000x18, .f32⟩ : BufTy).Contents (Elt F) → (⟨S20000x2, .f32⟩ : BufTy).Contents (Elt F))
  :: StableHlo.nullary main_c_11 (constantI S_ 32 0#32)
  :: StableHlo.unary main_c_11 main_v50 (broadcastInDim S100 ![] bcast_S_S100 : (⟨S_, .i32⟩ : BufTy).Contents (Elt F) → (⟨S100, .i32⟩ : BufTy).Contents (Elt F))
  :: StableHlo.binary main_v48 main_v50 main_v51 (cmpi .slt : (⟨S100, .i32⟩ : BufTy).Contents (Elt F) → (⟨S100, .i32⟩ : BufTy).Contents (Elt F) → (⟨S100, .i1⟩ : BufTy).Contents (Elt F))
  :: StableHlo.nullary main_c_12 (constantI S_ 32 20000#32)
  :: StableHlo.unary main_c_12 main_v52 (broadcastInDim S100 ![] bcast_S_S100 : (⟨S_, .i32⟩ : BufTy).Contents (Elt F) → (⟨S100, .i32⟩ : BufTy).Contents (Elt F))
  :: StableHlo.binary main_v48 main_v52 main_v53 (addi : (⟨S100, .i32⟩ : BufTy).Contents (Elt F) → (⟨S100, .i32⟩ : BufTy).Contents (Elt F) → (⟨S100, .i32⟩ : BufTy).Contents (Elt F))
  :: StableHlo.ternary main_v51 main_v53 main_v48 main_v54 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v54 main_v55 (broadcastInDim S100x1 ![0] bcast_S100_S100x1_0 : (⟨S100, .i32⟩ : BufTy).Contents (Elt F) → (⟨S100x1, .i32⟩ : BufTy).Contents (Elt F))
  :: StableHlo.binary main_v49 main_v55 main_v56 ((fun x i => Host.gather gather_S20000x2_S100x1_S100x2_1_0_n_n_0_1_12 x i) : (⟨S20000x2, .f32⟩ : BufTy).Contents (Elt F) → (⟨S100x1, .i32⟩ : BufTy).Contents (Elt F) → (⟨S100x2, .f32⟩ : BufTy).Contents (Elt F))
  :: StableHlo.unary main_v11 main_v57 ((extractStridedSlice S20000x2 ![0, 8] · slices_S20000x18_S20000x2_0_8) : (⟨S20000x18, .f32⟩ : BufTy).Contents (Elt F) → (⟨S20000x2, .f32⟩ : BufTy).Contents (Elt F))
  :: StableHlo.nullary main_c_13 (constantI S_ 32 0#32)
  :: StableHlo.unary main_c_13 main_v58 (broadcastInDim S100 ![] bcast_S_S100 : (⟨S_, .i32⟩ : BufTy).Contents (Elt F) → (⟨S100, .i32⟩ : BufTy).Contents (Elt F))
  :: StableHlo.binary main_v48 main_v58 main_v59 (cmpi .slt : (⟨S100, .i32⟩ : BufTy).Contents (Elt F) → (⟨S100, .i32⟩ : BufTy).Contents (Elt F) → (⟨S100, .i1⟩ : BufTy).Contents (Elt F))
  :: StableHlo.nullary main_c_14 (constantI S_ 32 20000#32)
  :: StableHlo.unary main_c_14 main_v60 (broadcastInDim S100 ![] bcast_S_S100 : (⟨S_, .i32⟩ : BufTy).Contents (Elt F) → (⟨S100, .i32⟩ : BufTy).Contents (Elt F))
  :: StableHlo.binary main_v48 main_v60 main_v61 (addi : (⟨S100, .i32⟩ : BufTy).Contents (Elt F) → (⟨S100, .i32⟩ : BufTy).Contents (Elt F) → (⟨S100, .i32⟩ : BufTy).Contents (Elt F))
  :: StableHlo.ternary main_v59 main_v61 main_v48 main_v62 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v62 main_v63 (broadcastInDim S100x1 ![0] bcast_S100_S100x1_0 : (⟨S100, .i32⟩ : BufTy).Contents (Elt F) → (⟨S100x1, .i32⟩ : BufTy).Contents (Elt F))
  :: StableHlo.binary main_v57 main_v63 main_v64 ((fun x i => Host.gather gather_S20000x2_S100x1_S100x2_1_0_n_n_0_1_12 x i) : (⟨S20000x2, .f32⟩ : BufTy).Contents (Elt F) → (⟨S100x1, .i32⟩ : BufTy).Contents (Elt F) → (⟨S100x2, .f32⟩ : BufTy).Contents (Elt F))
  :: StableHlo.nullary main_c_15 (constantI S_ 32 0#32)
  :: StableHlo.unary main_c_15 main_v65 (broadcastInDim S100 ![] bcast_S_S100 : (⟨S_, .i32⟩ : BufTy).Contents (Elt F) → (⟨S100, .i32⟩ : BufTy).Contents (Elt F))
  :: StableHlo.binary main_v48 main_v65 main_v66 (cmpi .slt : (⟨S100, .i32⟩ : BufTy).Contents (Elt F) → (⟨S100, .i32⟩ : BufTy).Contents (Elt F) → (⟨S100, .i1⟩ : BufTy).Contents (Elt F))
  :: StableHlo.nullary main_c_16 (constantI S_ 32 20000#32)
  :: StableHlo.unary main_c_16 main_v67 (broadcastInDim S100 ![] bcast_S_S100 : (⟨S_, .i32⟩ : BufTy).Contents (Elt F) → (⟨S100, .i32⟩ : BufTy).Contents (Elt F))
  :: StableHlo.binary main_v48 main_v67 main_v68 (addi : (⟨S100, .i32⟩ : BufTy).Contents (Elt F) → (⟨S100, .i32⟩ : BufTy).Contents (Elt F) → (⟨S100, .i32⟩ : BufTy).Contents (Elt F))
  :: StableHlo.ternary main_v66 main_v68 main_v48 main_v69 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v69 main_v70 (broadcastInDim S100x1 ![0] bcast_S100_S100x1_0 : (⟨S100, .i32⟩ : BufTy).Contents (Elt F) → (⟨S100x1, .i32⟩ : BufTy).Contents (Elt F))
  :: StableHlo.binary main_v6 main_v70 main_v71 ((fun x i => Host.gather gather_S20000_S100x1_S100_n_0_n_n_0_1_1 x i) : (⟨S20000, .f32⟩ : BufTy).Contents (Elt F) → (⟨S100x1, .i32⟩ : BufTy).Contents (Elt F) → (⟨S100, .f32⟩ : BufTy).Contents (Elt F))
  :: StableHlo.unary main_v71 main_v72 (broadcastInDim S100x1 ![0] bcast_S100_S100x1_0 : (⟨S100, .f32⟩ : BufTy).Contents (Elt F) → (⟨S100x1, .f32⟩ : BufTy).Contents (Elt F))
  :: StableHlo.unary main_v11 main_v73 ((extractStridedSlice S20000x3 ![0, 0] · slices_S20000x18_S20000x3_0_0) : (⟨S20000x18, .f32⟩ : BufTy).Contents (Elt F) → (⟨S20000x3, .f32⟩ : BufTy).Contents (Elt F))
  :: StableHlo.nullary main_c_17 (constantI S_ 32 0#32)
  :: StableHlo.unary main_c_17 main_v74 (broadcastInDim S100 ![] bcast_S_S100 : (⟨S_, .i32⟩ : BufTy).Contents (Elt F) → (⟨S100, .i32⟩ : BufTy).Contents (Elt F))
  :: StableHlo.binary main_v48 main_v74 main_v75 (cmpi .slt : (⟨S100, .i32⟩ : BufTy).Contents (Elt F) → (⟨S100, .i32⟩ : BufTy).Contents (Elt F) → (⟨S100, .i1⟩ : BufTy).Contents (Elt F))
  :: StableHlo.nullary main_c_18 (constantI S_ 32 20000#32)
  :: StableHlo.unary main_c_18 main_v76 (broadcastInDim S100 ![] bcast_S_S100 : (⟨S_, .i32⟩ : BufTy).Contents (Elt F) → (⟨S100, .i32⟩ : BufTy).Contents (Elt F))
  :: StableHlo.binary main_v48 main_v76 main_v77 (addi : (⟨S100, .i32⟩ : BufTy).Contents (Elt F) → (⟨S100, .i32⟩ : BufTy).Contents (Elt F) → (⟨S100, .i32⟩ : BufTy).Contents (Elt F))
  :: StableHlo.ternary main_v75 main_v77 main_v48 main_v78 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v78 main_v79 (broadcastInDim S100x1 ![0] bcast_S100_S100x1_0 : (⟨S100, .i32⟩ : BufTy).Contents (Elt F) → (⟨S100x1, .i32⟩ : BufTy).Contents (Elt F))
  :: StableHlo.binary main_v73 main_v79 main_v80 ((fun x i => Host.gather gather_S20000x3_S100x1_S100x3_1_0_n_n_0_1_13 x i) : (⟨S20000x3, .f32⟩ : BufTy).Contents (Elt F) → (⟨S100x1, .i32⟩ : BufTy).Contents (Elt F) → (⟨S100x3, .f32⟩ : BufTy).Contents (Elt F))
  :: StableHlo.nary ![main_v72, main_v80, main_v56, main_v64] main_v81 (fun u => (concatenate S100x8 1 [⟨S100x1, (u 0 : (⟨S100x1, .f32⟩ : BufTy).Contents (Elt F))⟩, ⟨S100x3, (u 1 : (⟨S100x3, .f32⟩ : BufTy).Contents (Elt F))⟩, ⟨S100x2, (u 2 : (⟨S100x2, .f32⟩ : BufTy).Contents (Elt F))⟩, ⟨S100x2, (u 3 : (⟨S100x2, .f32⟩ : BufTy).Contents (Elt F))⟩] concatenates_S100x1_S100x3_S100x2_S100x2_S100x8_d1 : (⟨S100x8, .f32⟩ : BufTy).Contents (Elt F)))
  :: [] )
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub ..⟩
/-- The last window of `main` (`main_part1`, statements 61 … 113) is the chain of ITS items, each item aligned with the window's
    statements, then `chain_rfl`. -/
theorem main_part1_chain (c : Dev nD) : main_part1 (F := F) c = (Pipeline.chain
  [ StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2, main_part1_ops0],
    .prog (HostLoop.enter 0),
    .ops [main_part1_ops1] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part0_ops1,
    StableHlo.seq main_part0_ops2,
    StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    HostLoop.enter 0,
    StableHlo.seq hostOps0_3 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    HostLoop.enter 0,
    StableHlo.seq hostOps0_3 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 2 host operations of host loop 0's body region, in order. -/
abbrev while0Ops0 : List (HloOp τ sig (Elt F)) :=
  [ StableHlo.nullary main_while0b_c_27 (constantI S_ 32 1#32),
    StableHlo.binary main_v41_6 main_while0b_c_27 main_while0b_v82 (addi : (⟨S_, .i32⟩ : BufTy).Contents (Elt F) → (⟨S_, .i32⟩ : BufTy).Contents (Elt F) → (⟨S_, .i32⟩ : BufTy).Contents (Elt F)) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub ..⟩
/-- 5 host operations of @argmax (main_while0b_call1), in order. -/
abbrev while0Ops0_1 : List (HloOp τ sig (Elt F)) :=
  [ StableHlo.TRef.nullary (.of main_while0b_call1_v0 : StableHlo.TRef sig ⟨S20000, .i32⟩) (iotaInDim S20000 32 0),
    StableHlo.TRef.nullary (.of main_while0b_call1_c : StableHlo.TRef sig ⟨S_, .i1⟩) (constantI S_ 1 0#1),
    StableHlo.TRef.nullary (.of main_while0b_call1_c_0 : StableHlo.TRef sig ⟨S_, .i32⟩) (constantI S_ 32 0#32),
    StableHlo.TRef.quaternary (.of main_v41_7 : StableHlo.TRef sig ⟨S20000, .i1⟩) (.of main_while0b_call1_v0 : StableHlo.TRef sig ⟨S20000, .i32⟩) (.of main_while0b_call1_c : StableHlo.TRef sig ⟨S_, .i1⟩) (.of main_while0b_call1_c_0 : StableHlo.TRef sig ⟨S_, .i32⟩) (.of main_while0b_call1_v1_0 : StableHlo.TRef sig ⟨S_, .i1⟩) (fun x y u v j => (Host.reduce2 reducer_argmax_i1_i32 x y u v reducesTo_S20000_S_d0 h_S_ j).1),
    StableHlo.TRef.quaternary (.of main_v41_7 : StableHlo.TRef sig ⟨S20000, .i1⟩) (.of main_while0b_call1_v0 : StableHlo.TRef sig ⟨S20000, .i32⟩) (.of main_while0b_call1_c : StableHlo.TRef sig ⟨S_, .i1⟩) (.of main_while0b_call1_c_0 : StableHlo.TRef sig ⟨S_, .i32⟩) (.of main_while0b_v83 : StableHlo.TRef sig ⟨S_, .i32⟩) (fun x y u v j => (Host.reduce2 reducer_argmax_i1_i32 x y u v reducesTo_S20000_S_d0 h_S_ j).2) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
set_option maxHeartbeats 40000000 in  -- a long stretch: its list (or the term over it) exceeds the default budget
/-- 82 host operations of host loop 0's body region, in order. -/
abbrev while0Ops0_2 : List (HloOp τ sig (Elt F)) :=
  ( StableHlo.nullary main_while0b_c_28 (constantI S_ 32 0#32)
  :: StableHlo.binary main_v41_6 main_while0b_c_28 main_while0b_v84 (cmpi .slt : (⟨S_, .i32⟩ : BufTy).Contents (Elt F) → (⟨S_, .i32⟩ : BufTy).Contents (Elt F) → (⟨S_, .i1⟩ : BufTy).Contents (Elt F))
  :: StableHlo.nullary main_while0b_c_29 (constantI S_ 32 100#32)
  :: StableHlo.binary main_v41_6 main_while0b_c_29 main_while0b_v85 (addi : (⟨S_, .i32⟩ : BufTy).Contents (Elt F) → (⟨S_, .i32⟩ : BufTy).Contents (Elt F) → (⟨S_, .i32⟩ : BufTy).Contents (Elt F))
  :: StableHlo.ternary main_while0b_v84 main_while0b_v85 main_v41_6 main_while0b_v86 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v86 main_while0b_v87 (id : (⟨S_, .i32⟩ : BufTy).Contents (Elt F) → (⟨S_, .i32⟩ : BufTy).Contents (Elt F))
  :: StableHlo.unary main_while0b_v87 main_while0b_v88 (broadcastInDim S1 ![] bcast_S_S1 : (⟨S_, .i32⟩ : BufTy).Contents (Elt F) → (⟨S1, .i32⟩ : BufTy).Contents (Elt F))
  :: StableHlo.ternary main_v41_8 main_while0b_v88 main_while0b_v83 main_while0b_v89 ((fun x i u => Host.scatter scatter_S100_S1_S__n_0_0_0 (fun _ b => b) x i u) : (⟨S100, .i32⟩ : BufTy).Contents (Elt F) → (⟨S1, .i32⟩ : BufTy).Contents (Elt F) → (⟨S_, .i32⟩ : BufTy).Contents (Elt F) → (⟨S100, .i32⟩ : BufTy).Contents (Elt F))
  :: StableHlo.nullary main_while0b_c_30 (constantI S_ 32 0#32)
  :: StableHlo.binary main_while0b_v83 main_while0b_c_30 main_while0b_v90 (cmpi .slt : (⟨S_, .i32⟩ : BufTy).Contents (Elt F) → (⟨S_, .i32⟩ : BufTy).Contents (Elt F) → (⟨S_, .i1⟩ : BufTy).Contents (Elt F))
  :: StableHlo.nullary main_while0b_c_31 (constantI S_ 32 20000#32)
  :: StableHlo.binary main_while0b_v83 main_while0b_c_31 main_while0b_v91 (addi : (⟨S_, .i32⟩ : BufTy).Contents (Elt F) → (⟨S_, .i32⟩ : BufTy).Contents (Elt F) → (⟨S_, .i32⟩ : BufTy).Contents (Elt F))
  :: StableHlo.ternary main_while0b_v90 main_while0b_v91 main_while0b_v83 main_while0b_v92 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v41_0 ![main_while0b_v92] ⟨S_, .i32⟩ main_while0b_v93 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F))
  :: StableHlo.reshape main_while0b_v93 main_while0b_v94 (rfl : (.f32 : EltTy) = .f32) shapeCasts_S1_S_
  :: StableHlo.unary main_while0b_v94 main_while0b_v95 (broadcastInDim S20000 ![] bcast_S_S20000 : (⟨S_, .f32⟩ : BufTy).Contents (Elt F) → (⟨S20000, .f32⟩ : BufTy).Contents (Elt F))
  :: StableHlo.binary main_while0b_v95 main_v41_0 main_while0b_v96 (maximumf : (⟨S20000, .f32⟩ : BufTy).Contents (Elt F) → (⟨S20000, .f32⟩ : BufTy).Contents (Elt F) → (⟨S20000, .f32⟩ : BufTy).Contents (Elt F))
  :: StableHlo.nullary main_while0b_c_32 (constantI S_ 32 0#32)
  :: StableHlo.binary main_while0b_v83 main_while0b_c_32 main_while0b_v97 (cmpi .slt : (⟨S_, .i32⟩ : BufTy).Contents (Elt F) → (⟨S_, .i32⟩ : BufTy).Contents (Elt F) → (⟨S_, .i1⟩ : BufTy).Contents (Elt F))
  :: StableHlo.nullary main_while0b_c_33 (constantI S_ 32 20000#32)
  :: StableHlo.binary main_while0b_v83 main_while0b_c_33 main_while0b_v98 (addi : (⟨S_, .i32⟩ : BufTy).Contents (Elt F) → (⟨S_, .i32⟩ : BufTy).Contents (Elt F) → (⟨S_, .i32⟩ : BufTy).Contents (Elt F))
  :: StableHlo.ternary main_while0b_v97 main_while0b_v98 main_while0b_v83 main_while0b_v99 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v41_1 ![main_while0b_v99] ⟨S_, .i32⟩ main_while0b_v100 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F))
  :: StableHlo.reshape main_while0b_v100 main_while0b_v101 (rfl : (.f32 : EltTy) = .f32) shapeCasts_S1_S_
  :: StableHlo.unary main_while0b_v101 main_while0b_v102 (broadcastInDim S20000 ![] bcast_S_S20000 : (⟨S_, .f32⟩ : BufTy).Contents (Elt F) → (⟨S20000, .f32⟩ : BufTy).Contents (Elt F))
  :: StableHlo.binary main_while0b_v102 main_v41_1 main_while0b_v103 (maximumf : (⟨S20000, .f32⟩ : BufTy).Contents (Elt F) → (⟨S20000, .f32⟩ : BufTy).Contents (Elt F) → (⟨S20000, .f32⟩ : BufTy).Contents (Elt F))
  :: StableHlo.nullary main_while0b_c_34 (constantI S_ 32 0#32)
  :: StableHlo.binary main_while0b_v83 main_while0b_c_34 main_while0b_v104 (cmpi .slt : (⟨S_, .i32⟩ : BufTy).Contents (Elt F) → (⟨S_, .i32⟩ : BufTy).Contents (Elt F) → (⟨S_, .i1⟩ : BufTy).Contents (Elt F))
  :: StableHlo.nullary main_while0b_c_35 (constantI S_ 32 20000#32)
  :: StableHlo.binary main_while0b_v83 main_while0b_c_35 main_while0b_v105 (addi : (⟨S_, .i32⟩ : BufTy).Contents (Elt F) → (⟨S_, .i32⟩ : BufTy).Contents (Elt F) → (⟨S_, .i32⟩ : BufTy).Contents (Elt F))
  :: StableHlo.ternary main_while0b_v104 main_while0b_v105 main_while0b_v83 main_while0b_v106 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v41_2 ![main_while0b_v106] ⟨S_, .i32⟩ main_while0b_v107 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F))
  :: StableHlo.reshape main_while0b_v107 main_while0b_v108 (rfl : (.f32 : EltTy) = .f32) shapeCasts_S1_S_
  :: StableHlo.unary main_while0b_v108 main_while0b_v109 (broadcastInDim S20000 ![] bcast_S_S20000 : (⟨S_, .f32⟩ : BufTy).Contents (Elt F) → (⟨S20000, .f32⟩ : BufTy).Contents (Elt F))
  :: StableHlo.binary main_while0b_v109 main_v41_2 main_while0b_v110 (minimumf : (⟨S20000, .f32⟩ : BufTy).Contents (Elt F) → (⟨S20000, .f32⟩ : BufTy).Contents (Elt F) → (⟨S20000, .f32⟩ : BufTy).Contents (Elt F))
  :: StableHlo.nullary main_while0b_c_36 (constantI S_ 32 0#32)
  :: StableHlo.binary main_while0b_v83 main_while0b_c_36 main_while0b_v111 (cmpi .slt : (⟨S_, .i32⟩ : BufTy).Contents (Elt F) → (⟨S_, .i32⟩ : BufTy).Contents (Elt F) → (⟨S_, .i1⟩ : BufTy).Contents (Elt F))
  :: StableHlo.nullary main_while0b_c_37 (constantI S_ 32 20000#32)
  :: StableHlo.binary main_while0b_v83 main_while0b_c_37 main_while0b_v112 (addi : (⟨S_, .i32⟩ : BufTy).Contents (Elt F) → (⟨S_, .i32⟩ : BufTy).Contents (Elt F) → (⟨S_, .i32⟩ : BufTy).Contents (Elt F))
  :: StableHlo.ternary main_while0b_v111 main_while0b_v112 main_while0b_v83 main_while0b_v113 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v41_3 ![main_while0b_v113] ⟨S_, .i32⟩ main_while0b_v114 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F))
  :: StableHlo.reshape main_while0b_v114 main_while0b_v115 (rfl : (.f32 : EltTy) = .f32) shapeCasts_S1_S_
  :: StableHlo.unary main_while0b_v115 main_while0b_v116 (broadcastInDim S20000 ![] bcast_S_S20000 : (⟨S_, .f32⟩ : BufTy).Contents (Elt F) → (⟨S20000, .f32⟩ : BufTy).Contents (Elt F))
  :: StableHlo.binary main_while0b_v116 main_v41_3 main_while0b_v117 (minimumf : (⟨S20000, .f32⟩ : BufTy).Contents (Elt F) → (⟨S20000, .f32⟩ : BufTy).Contents (Elt F) → (⟨S20000, .f32⟩ : BufTy).Contents (Elt F))
  :: StableHlo.binary main_while0b_v110 main_while0b_v96 main_while0b_v118 (subf : (⟨S20000, .f32⟩ : BufTy).Contents (Elt F) → (⟨S20000, .f32⟩ : BufTy).Contents (Elt F) → (⟨S20000, .f32⟩ : BufTy).Contents (Elt F))
  :: StableHlo.nullary main_while0b_cst_38 (constant S_ .f32 0x00000000#32)
  :: StableHlo.unary main_while0b_cst_38 main_while0b_v119 (broadcastInDim S20000 ![] bcast_S_S20000 : (⟨S_, .f32⟩ : BufTy).Contents (Elt F) → (⟨S20000, .f32⟩ : BufTy).Contents (Elt F))
  :: StableHlo.binary main_while0b_v118 main_while0b_v119 main_while0b_v120 (maximumf : (⟨S20000, .f32⟩ : BufTy).Contents (Elt F) → (⟨S20000, .f32⟩ : BufTy).Contents (Elt F) → (⟨S20000, .f32⟩ : BufTy).Contents (Elt F))
  :: StableHlo.binary main_while0b_v117 main_while0b_v103 main_while0b_v121 (subf : (⟨S20000, .f32⟩ : BufTy).Contents (Elt F) → (⟨S20000, .f32⟩ : BufTy).Contents (Elt F) → (⟨S20000, .f32⟩ : BufTy).Contents (Elt F))
  :: StableHlo.nullary main_while0b_cst_39 (constant S_ .f32 0x00000000#32)
  :: StableHlo.unary main_while0b_cst_39 main_while0b_v122 (broadcastInDim S20000 ![] bcast_S_S20000 : (⟨S_, .f32⟩ : BufTy).Contents (Elt F) → (⟨S20000, .f32⟩ : BufTy).Contents (Elt F))
  :: StableHlo.binary main_while0b_v121 main_while0b_v122 main_while0b_v123 (maximumf : (⟨S20000, .f32⟩ : BufTy).Contents (Elt F) → (⟨S20000, .f32⟩ : BufTy).Contents (Elt F) → (⟨S20000, .f32⟩ : BufTy).Contents (Elt F))
  :: StableHlo.binary main_while0b_v120 main_while0b_v123 main_while0b_v124 (mulf : (⟨S20000, .f32⟩ : BufTy).Contents (Elt F) → (⟨S20000, .f32⟩ : BufTy).Contents (Elt F) → (⟨S20000, .f32⟩ : BufTy).Contents (Elt F))
  :: StableHlo.nullary main_while0b_c_40 (constantI S_ 32 0#32)
  :: StableHlo.binary main_while0b_v83 main_while0b_c_40 main_while0b_v125 (cmpi .slt : (⟨S_, .i32⟩ : BufTy).Contents (Elt F) → (⟨S_, .i32⟩ : BufTy).Contents (Elt F) → (⟨S_, .i1⟩ : BufTy).Contents (Elt F))
  :: StableHlo.nullary main_while0b_c_41 (constantI S_ 32 20000#32)
  :: StableHlo.binary main_while0b_v83 main_while0b_c_41 main_while0b_v126 (addi : (⟨S_, .i32⟩ : BufTy).Contents (Elt F) → (⟨S_, .i32⟩ : BufTy).Contents (Elt F) → (⟨S_, .i32⟩ : BufTy).Contents (Elt F))
  :: StableHlo.ternary main_while0b_v125 main_while0b_v126 main_while0b_v83 main_while0b_v127 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v41_4 ![main_while0b_v127] ⟨S_, .i32⟩ main_while0b_v128 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F))
  :: StableHlo.reshape main_while0b_v128 main_while0b_v129 (rfl : (.f32 : EltTy) = .f32) shapeCasts_S1_S_
  :: StableHlo.unary main_while0b_v129 main_while0b_v130 (broadcastInDim S20000 ![] bcast_S_S20000 : (⟨S_, .f32⟩ : BufTy).Contents (Elt F) → (⟨S20000, .f32⟩ : BufTy).Contents (Elt F))
  :: StableHlo.binary main_while0b_v130 main_v41_4 main_while0b_v131 (addf : (⟨S20000, .f32⟩ : BufTy).Contents (Elt F) → (⟨S20000, .f32⟩ : BufTy).Contents (Elt F) → (⟨S20000, .f32⟩ : BufTy).Contents (Elt F))
  :: StableHlo.binary main_while0b_v131 main_while0b_v124 main_while0b_v132 (subf : (⟨S20000, .f32⟩ : BufTy).Contents (Elt F) → (⟨S20000, .f32⟩ : BufTy).Contents (Elt F) → (⟨S20000, .f32⟩ : BufTy).Contents (Elt F))
  :: StableHlo.binary main_while0b_v124 main_while0b_v132 main_while0b_v133 (Host.divf : (⟨S20000, .f32⟩ : BufTy).Contents (Elt F) → (⟨S20000, .f32⟩ : BufTy).Contents (Elt F) → (⟨S20000, .f32⟩ : BufTy).Contents (Elt F))
  :: StableHlo.nullary main_while0b_cst_42 (constant S_ .f32 0x3E99999A#32)
  :: StableHlo.unary main_while0b_cst_42 main_while0b_v134 (broadcastInDim S20000 ![] bcast_S_S20000 : (⟨S_, .f32⟩ : BufTy).Contents (Elt F) → (⟨S20000, .f32⟩ : BufTy).Contents (Elt F))
  :: StableHlo.binary main_while0b_v133 main_while0b_v134 main_while0b_v135 (cmpf .ole : (⟨S20000, .f32⟩ : BufTy).Contents (Elt F) → (⟨S20000, .f32⟩ : BufTy).Contents (Elt F) → (⟨S20000, .i1⟩ : BufTy).Contents (Elt F))
  :: StableHlo.binary main_v41_7 main_while0b_v135 main_while0b_v136 (andi : (⟨S20000, .i1⟩ : BufTy).Contents (Elt F) → (⟨S20000, .i1⟩ : BufTy).Contents (Elt F) → (⟨S20000, .i1⟩ : BufTy).Contents (Elt F))
  :: StableHlo.nullary main_while0b_c_43 (constantI S_ 32 0#32)
  :: StableHlo.binary main_while0b_v83 main_while0b_c_43 main_while0b_v137 (cmpi .slt : (⟨S_, .i32⟩ : BufTy).Contents (Elt F) → (⟨S_, .i32⟩ : BufTy).Contents (Elt F) → (⟨S_, .i1⟩ : BufTy).Contents (Elt F))
  :: StableHlo.nullary main_while0b_c_44 (constantI S_ 32 20000#32)
  :: StableHlo.binary main_while0b_v83 main_while0b_c_44 main_while0b_v138 (addi : (⟨S_, .i32⟩ : BufTy).Contents (Elt F) → (⟨S_, .i32⟩ : BufTy).Contents (Elt F) → (⟨S_, .i32⟩ : BufTy).Contents (Elt F))
  :: StableHlo.ternary main_while0b_v137 main_while0b_v138 main_while0b_v83 main_while0b_v139 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v139 main_while0b_v140 (broadcastInDim S1 ![] bcast_S_S1 : (⟨S_, .i32⟩ : BufTy).Contents (Elt F) → (⟨S1, .i32⟩ : BufTy).Contents (Elt F))
  :: StableHlo.nullary main_while0b_c_45 (constantI S_ 1 0#1)
  :: StableHlo.ternary main_while0b_v136 main_while0b_v140 main_while0b_c_45 main_while0b_v141 ((fun x i u => Host.scatter scatter_S20000_S1_S__n_0_0_0 (fun _ b => b) x i u) : (⟨S20000, .i1⟩ : BufTy).Contents (Elt F) → (⟨S1, .i32⟩ : BufTy).Contents (Elt F) → (⟨S_, .i1⟩ : BufTy).Contents (Elt F) → (⟨S20000, .i1⟩ : BufTy).Contents (Elt F))
  :: StableHlo.nullary main_while0b_c_46 (constantI S_ 32 1#32)
  :: StableHlo.binary main_v41_5 main_while0b_c_46 main_while0b_v142 (addi : (⟨S_, .i32⟩ : BufTy).Contents (Elt F) → (⟨S_, .i32⟩ : BufTy).Contents (Elt F) → (⟨S_, .i32⟩ : BufTy).Contents (Elt F))
  :: StableHlo.unary main_while0b_v142 main_v41_5 id
  :: StableHlo.unary main_while0b_v82 main_v41_6 id
  :: StableHlo.unary main_while0b_v141 main_v41_7 id
  :: StableHlo.unary main_while0b_v89 main_v41_8 id
  :: [] )
set_option maxHeartbeats 40000000 in  -- a long stretch: its list (or the term over it) exceeds the default budget
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub .., StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_cst, main_v0, main_v1, main_v2, main_cst_0, main_v3, main_v4, main_cst_1, main_v5, main_v6, main_v7, main_cst_2, main_v8, main_v9, main_v10, main_v11, main_v12, main_v13, main_cst_3, main_v14, main_v15, main_v16, main_v17, main_v18, main_v19]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_v1_0, main_v20]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_c, main_v21, main_v22, main_c_4, main_v23, main_v24, main_v25, main_v26, main_v27, main_v28, main_v29, main_v30, main_v31, main_v32, main_v33, main_v34, main_v35, main_v36, main_v37, main_v38, main_c_5, main_v39, main_c_6, main_v40, main_c_7, main_c_8, main_v41_0, main_v41_1, main_v41_2, main_v41_3, main_v41_4, main_v41_5, main_v41_6, main_v41_7, main_v41_8]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_27, main_while0b_v82]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call1_v0, main_while0b_call1_c, main_while0b_call1_c_0, main_while0b_call1_v1_0, main_while0b_v83]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_c_28, main_while0b_v84, main_while0b_c_29, main_while0b_v85, main_while0b_v86, main_while0b_v87, main_while0b_v88, main_while0b_v89, main_while0b_c_30, main_while0b_v90, main_while0b_c_31, main_while0b_v91, main_while0b_v92, main_while0b_v93, main_while0b_v94, main_while0b_v95, main_while0b_v96, main_while0b_c_32, main_while0b_v97, main_while0b_c_33, main_while0b_v98, main_while0b_v99, main_while0b_v100, main_while0b_v101, main_while0b_v102, main_while0b_v103, main_while0b_c_34, main_while0b_v104, main_while0b_c_35, main_while0b_v105, main_while0b_v106, main_while0b_v107, main_while0b_v108, main_while0b_v109, main_while0b_v110, main_while0b_c_36, main_while0b_v111, main_while0b_c_37, main_while0b_v112, main_while0b_v113, main_while0b_v114, main_while0b_v115, main_while0b_v116, main_while0b_v117, main_while0b_v118, main_while0b_cst_38, main_while0b_v119, main_while0b_v120, main_while0b_v121, main_while0b_cst_39, main_while0b_v122, main_while0b_v123, main_while0b_v124, main_while0b_c_40, main_while0b_v125, main_while0b_c_41, main_while0b_v126, main_while0b_v127, main_while0b_v128, main_while0b_v129, main_while0b_v130, main_while0b_v131, main_while0b_v132, main_while0b_v133, main_while0b_cst_42, main_while0b_v134, main_while0b_v135, main_while0b_v136, main_while0b_c_43, main_while0b_v137, main_while0b_c_44, main_while0b_v138, main_while0b_v139, main_while0b_v140, main_while0b_c_45, main_while0b_v141, main_while0b_c_46, main_while0b_v142, main_v41_5, main_v41_6, main_v41_7, main_v41_8]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_27 (constantI S_ 32 100#32),
    StableHlo.binary main_v41_5 main_while0c_c_27 main_while0c_v82 (cmpi .slt) ]

/-- @main's stretches before the loop, the loop body's, and @main's after the loop. -/
abbrev preI : List (List (HloOp τ sig (Elt F))) := [hostOps0, hostOps0_1, hostOps0_2]
abbrev bodyI : List (List (HloOp τ sig (Elt F))) := [while0Ops0, while0Ops0_1, while0Ops0_2]
abbrev postI : List (List (HloOp τ sig (Elt F))) := [hostOps0_3]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.nil)))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.nil)))
theorem hpost : Plain (postI (F := F)) := .cons hostOps0_3_sub (hf := List.forall_iff_forall_mem.mp hostOps0_3_fresh) (.nil)

/-- The reference each operation of `condOps` writes, in order. -/
abbrev condOps_W : List (Ref sig .tc) := [main_while0c_c_27, main_while0c_v82]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v41_5`) is written by one stretch of the body, `while0Ops0_2`: not by the condition, nor by the
    body's other stretches. -/
theorem ctr_cond (V : Valuation τ sig (Elt F)) : after condOps V (Proc.devRef .tc main_v41_5) = V (Proc.devRef .tc main_v41_5) :=
  after_of_writes_sub condOps V condOps_writes (by decide +kernel)
theorem ctr_while0Ops0 (V : Valuation τ sig (Elt F)) : after while0Ops0 V (Proc.devRef .tc main_v41_5) = V (Proc.devRef .tc main_v41_5) :=
  after_of_writes_sub while0Ops0 V while0Ops0_writes (by decide +kernel)
theorem ctr_while0Ops0_1 (V : Valuation τ sig (Elt F)) : after while0Ops0_1 V (Proc.devRef .tc main_v41_5) = V (Proc.devRef .tc main_v41_5) :=
  after_of_writes_sub while0Ops0_1 V while0Ops0_1_writes (by decide +kernel)

/-- The body's operations 1 … 2 of 89. -/
abbrev trip_w0 : List (HloOp τ sig (Elt F)) :=
  [ StableHlo.nullary main_while0b_c_27 (constantI S_ 32 1#32),
    StableHlo.binary main_v41_6 main_while0b_c_27 main_while0b_v82 (addi : (⟨S_, .i32⟩ : BufTy).Contents (Elt F) → (⟨S_, .i32⟩ : BufTy).Contents (Elt F) → (⟨S_, .i32⟩ : BufTy).Contents (Elt F)) ]

/-- The body's operations 3 … 7 of 89. -/
abbrev trip_w1 : List (HloOp τ sig (Elt F)) :=
  [ StableHlo.TRef.nullary (.of main_while0b_call1_v0 : StableHlo.TRef sig ⟨S20000, .i32⟩) (iotaInDim S20000 32 0),
    StableHlo.TRef.nullary (.of main_while0b_call1_c : StableHlo.TRef sig ⟨S_, .i1⟩) (constantI S_ 1 0#1),
    StableHlo.TRef.nullary (.of main_while0b_call1_c_0 : StableHlo.TRef sig ⟨S_, .i32⟩) (constantI S_ 32 0#32),
    StableHlo.TRef.quaternary (.of main_v41_7 : StableHlo.TRef sig ⟨S20000, .i1⟩) (.of main_while0b_call1_v0 : StableHlo.TRef sig ⟨S20000, .i32⟩) (.of main_while0b_call1_c : StableHlo.TRef sig ⟨S_, .i1⟩) (.of main_while0b_call1_c_0 : StableHlo.TRef sig ⟨S_, .i32⟩) (.of main_while0b_call1_v1_0 : StableHlo.TRef sig ⟨S_, .i1⟩) (fun x y u v j => (Host.reduce2 reducer_argmax_i1_i32 x y u v reducesTo_S20000_S_d0 h_S_ j).1),
    StableHlo.TRef.quaternary (.of main_v41_7 : StableHlo.TRef sig ⟨S20000, .i1⟩) (.of main_while0b_call1_v0 : StableHlo.TRef sig ⟨S20000, .i32⟩) (.of main_while0b_call1_c : StableHlo.TRef sig ⟨S_, .i1⟩) (.of main_while0b_call1_c_0 : StableHlo.TRef sig ⟨S_, .i32⟩) (.of main_while0b_v83 : StableHlo.TRef sig ⟨S_, .i32⟩) (fun x y u v j => (Host.reduce2 reducer_argmax_i1_i32 x y u v reducesTo_S20000_S_d0 h_S_ j).2) ]

/-- The body's operations 8 … 21 of 89. -/
abbrev trip_w2 : List (HloOp τ sig (Elt F)) :=
  [ StableHlo.nullary main_while0b_c_28 (constantI S_ 32 0#32),
    StableHlo.binary main_v41_6 main_while0b_c_28 main_while0b_v84 (cmpi .slt : (⟨S_, .i32⟩ : BufTy).Contents (Elt F) → (⟨S_, .i32⟩ : BufTy).Contents (Elt F) → (⟨S_, .i1⟩ : BufTy).Contents (Elt F)),
    StableHlo.nullary main_while0b_c_29 (constantI S_ 32 100#32),
    StableHlo.binary main_v41_6 main_while0b_c_29 main_while0b_v85 (addi : (⟨S_, .i32⟩ : BufTy).Contents (Elt F) → (⟨S_, .i32⟩ : BufTy).Contents (Elt F) → (⟨S_, .i32⟩ : BufTy).Contents (Elt F)),
    StableHlo.ternary main_while0b_v84 main_while0b_v85 main_v41_6 main_while0b_v86 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v86 main_while0b_v87 (id : (⟨S_, .i32⟩ : BufTy).Contents (Elt F) → (⟨S_, .i32⟩ : BufTy).Contents (Elt F)),
    StableHlo.unary main_while0b_v87 main_while0b_v88 (broadcastInDim S1 ![] bcast_S_S1 : (⟨S_, .i32⟩ : BufTy).Contents (Elt F) → (⟨S1, .i32⟩ : BufTy).Contents (Elt F)),
    StableHlo.ternary main_v41_8 main_while0b_v88 main_while0b_v83 main_while0b_v89 ((fun x i u => Host.scatter scatter_S100_S1_S__n_0_0_0 (fun _ b => b) x i u) : (⟨S100, .i32⟩ : BufTy).Contents (Elt F) → (⟨S1, .i32⟩ : BufTy).Contents (Elt F) → (⟨S_, .i32⟩ : BufTy).Contents (Elt F) → (⟨S100, .i32⟩ : BufTy).Contents (Elt F)),
    StableHlo.nullary main_while0b_c_30 (constantI S_ 32 0#32),
    StableHlo.binary main_while0b_v83 main_while0b_c_30 main_while0b_v90 (cmpi .slt : (⟨S_, .i32⟩ : BufTy).Contents (Elt F) → (⟨S_, .i32⟩ : BufTy).Contents (Elt F) → (⟨S_, .i1⟩ : BufTy).Contents (Elt F)),
    StableHlo.nullary main_while0b_c_31 (constantI S_ 32 20000#32),
    StableHlo.binary main_while0b_v83 main_while0b_c_31 main_while0b_v91 (addi : (⟨S_, .i32⟩ : BufTy).Contents (Elt F) → (⟨S_, .i32⟩ : BufTy).Contents (Elt F) → (⟨S_, .i32⟩ : BufTy).Contents (Elt F)),
    StableHlo.ternary main_while0b_v90 main_while0b_v91 main_while0b_v83 main_while0b_v92 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v41_0 ![main_while0b_v92] ⟨S_, .i32⟩ main_while0b_v93 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F)) ]

/-- The body's operations 22 … 30 of 89. -/
abbrev trip_w3 : List (HloOp τ sig (Elt F)) :=
  [ StableHlo.reshape main_while0b_v93 main_while0b_v94 (rfl : (.f32 : EltTy) = .f32) shapeCasts_S1_S_,
    StableHlo.unary main_while0b_v94 main_while0b_v95 (broadcastInDim S20000 ![] bcast_S_S20000 : (⟨S_, .f32⟩ : BufTy).Contents (Elt F) → (⟨S20000, .f32⟩ : BufTy).Contents (Elt F)),
    StableHlo.binary main_while0b_v95 main_v41_0 main_while0b_v96 (maximumf : (⟨S20000, .f32⟩ : BufTy).Contents (Elt F) → (⟨S20000, .f32⟩ : BufTy).Contents (Elt F) → (⟨S20000, .f32⟩ : BufTy).Contents (Elt F)),
    StableHlo.nullary main_while0b_c_32 (constantI S_ 32 0#32),
    StableHlo.binary main_while0b_v83 main_while0b_c_32 main_while0b_v97 (cmpi .slt : (⟨S_, .i32⟩ : BufTy).Contents (Elt F) → (⟨S_, .i32⟩ : BufTy).Contents (Elt F) → (⟨S_, .i1⟩ : BufTy).Contents (Elt F)),
    StableHlo.nullary main_while0b_c_33 (constantI S_ 32 20000#32),
    StableHlo.binary main_while0b_v83 main_while0b_c_33 main_while0b_v98 (addi : (⟨S_, .i32⟩ : BufTy).Contents (Elt F) → (⟨S_, .i32⟩ : BufTy).Contents (Elt F) → (⟨S_, .i32⟩ : BufTy).Contents (Elt F)),
    StableHlo.ternary main_while0b_v97 main_while0b_v98 main_while0b_v83 main_while0b_v99 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v41_1 ![main_while0b_v99] ⟨S_, .i32⟩ main_while0b_v100 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F)) ]

/-- The body's operations 31 … 39 of 89. -/
abbrev trip_w4 : List (HloOp τ sig (Elt F)) :=
  [ StableHlo.reshape main_while0b_v100 main_while0b_v101 (rfl : (.f32 : EltTy) = .f32) shapeCasts_S1_S_,
    StableHlo.unary main_while0b_v101 main_while0b_v102 (broadcastInDim S20000 ![] bcast_S_S20000 : (⟨S_, .f32⟩ : BufTy).Contents (Elt F) → (⟨S20000, .f32⟩ : BufTy).Contents (Elt F)),
    StableHlo.binary main_while0b_v102 main_v41_1 main_while0b_v103 (maximumf : (⟨S20000, .f32⟩ : BufTy).Contents (Elt F) → (⟨S20000, .f32⟩ : BufTy).Contents (Elt F) → (⟨S20000, .f32⟩ : BufTy).Contents (Elt F)),
    StableHlo.nullary main_while0b_c_34 (constantI S_ 32 0#32),
    StableHlo.binary main_while0b_v83 main_while0b_c_34 main_while0b_v104 (cmpi .slt : (⟨S_, .i32⟩ : BufTy).Contents (Elt F) → (⟨S_, .i32⟩ : BufTy).Contents (Elt F) → (⟨S_, .i1⟩ : BufTy).Contents (Elt F)),
    StableHlo.nullary main_while0b_c_35 (constantI S_ 32 20000#32),
    StableHlo.binary main_while0b_v83 main_while0b_c_35 main_while0b_v105 (addi : (⟨S_, .i32⟩ : BufTy).Contents (Elt F) → (⟨S_, .i32⟩ : BufTy).Contents (Elt F) → (⟨S_, .i32⟩ : BufTy).Contents (Elt F)),
    StableHlo.ternary main_while0b_v104 main_while0b_v105 main_while0b_v83 main_while0b_v106 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v41_2 ![main_while0b_v106] ⟨S_, .i32⟩ main_while0b_v107 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F)) ]

/-- The body's operations 40 … 48 of 89. -/
abbrev trip_w5 : List (HloOp τ sig (Elt F)) :=
  [ StableHlo.reshape main_while0b_v107 main_while0b_v108 (rfl : (.f32 : EltTy) = .f32) shapeCasts_S1_S_,
    StableHlo.unary main_while0b_v108 main_while0b_v109 (broadcastInDim S20000 ![] bcast_S_S20000 : (⟨S_, .f32⟩ : BufTy).Contents (Elt F) → (⟨S20000, .f32⟩ : BufTy).Contents (Elt F)),
    StableHlo.binary main_while0b_v109 main_v41_2 main_while0b_v110 (minimumf : (⟨S20000, .f32⟩ : BufTy).Contents (Elt F) → (⟨S20000, .f32⟩ : BufTy).Contents (Elt F) → (⟨S20000, .f32⟩ : BufTy).Contents (Elt F)),
    StableHlo.nullary main_while0b_c_36 (constantI S_ 32 0#32),
    StableHlo.binary main_while0b_v83 main_while0b_c_36 main_while0b_v111 (cmpi .slt : (⟨S_, .i32⟩ : BufTy).Contents (Elt F) → (⟨S_, .i32⟩ : BufTy).Contents (Elt F) → (⟨S_, .i1⟩ : BufTy).Contents (Elt F)),
    StableHlo.nullary main_while0b_c_37 (constantI S_ 32 20000#32),
    StableHlo.binary main_while0b_v83 main_while0b_c_37 main_while0b_v112 (addi : (⟨S_, .i32⟩ : BufTy).Contents (Elt F) → (⟨S_, .i32⟩ : BufTy).Contents (Elt F) → (⟨S_, .i32⟩ : BufTy).Contents (Elt F)),
    StableHlo.ternary main_while0b_v111 main_while0b_v112 main_while0b_v83 main_while0b_v113 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v41_3 ![main_while0b_v113] ⟨S_, .i32⟩ main_while0b_v114 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F)) ]

/-- The body's operations 49 … 66 of 89. -/
abbrev trip_w6 : List (HloOp τ sig (Elt F)) :=
  [ StableHlo.reshape main_while0b_v114 main_while0b_v115 (rfl : (.f32 : EltTy) = .f32) shapeCasts_S1_S_,
    StableHlo.unary main_while0b_v115 main_while0b_v116 (broadcastInDim S20000 ![] bcast_S_S20000 : (⟨S_, .f32⟩ : BufTy).Contents (Elt F) → (⟨S20000, .f32⟩ : BufTy).Contents (Elt F)),
    StableHlo.binary main_while0b_v116 main_v41_3 main_while0b_v117 (minimumf : (⟨S20000, .f32⟩ : BufTy).Contents (Elt F) → (⟨S20000, .f32⟩ : BufTy).Contents (Elt F) → (⟨S20000, .f32⟩ : BufTy).Contents (Elt F)),
    StableHlo.binary main_while0b_v110 main_while0b_v96 main_while0b_v118 (subf : (⟨S20000, .f32⟩ : BufTy).Contents (Elt F) → (⟨S20000, .f32⟩ : BufTy).Contents (Elt F) → (⟨S20000, .f32⟩ : BufTy).Contents (Elt F)),
    StableHlo.nullary main_while0b_cst_38 (constant S_ .f32 0x00000000#32),
    StableHlo.unary main_while0b_cst_38 main_while0b_v119 (broadcastInDim S20000 ![] bcast_S_S20000 : (⟨S_, .f32⟩ : BufTy).Contents (Elt F) → (⟨S20000, .f32⟩ : BufTy).Contents (Elt F)),
    StableHlo.binary main_while0b_v118 main_while0b_v119 main_while0b_v120 (maximumf : (⟨S20000, .f32⟩ : BufTy).Contents (Elt F) → (⟨S20000, .f32⟩ : BufTy).Contents (Elt F) → (⟨S20000, .f32⟩ : BufTy).Contents (Elt F)),
    StableHlo.binary main_while0b_v117 main_while0b_v103 main_while0b_v121 (subf : (⟨S20000, .f32⟩ : BufTy).Contents (Elt F) → (⟨S20000, .f32⟩ : BufTy).Contents (Elt F) → (⟨S20000, .f32⟩ : BufTy).Contents (Elt F)),
    StableHlo.nullary main_while0b_cst_39 (constant S_ .f32 0x00000000#32),
    StableHlo.unary main_while0b_cst_39 main_while0b_v122 (broadcastInDim S20000 ![] bcast_S_S20000 : (⟨S_, .f32⟩ : BufTy).Contents (Elt F) → (⟨S20000, .f32⟩ : BufTy).Contents (Elt F)),
    StableHlo.binary main_while0b_v121 main_while0b_v122 main_while0b_v123 (maximumf : (⟨S20000, .f32⟩ : BufTy).Contents (Elt F) → (⟨S20000, .f32⟩ : BufTy).Contents (Elt F) → (⟨S20000, .f32⟩ : BufTy).Contents (Elt F)),
    StableHlo.binary main_while0b_v120 main_while0b_v123 main_while0b_v124 (mulf : (⟨S20000, .f32⟩ : BufTy).Contents (Elt F) → (⟨S20000, .f32⟩ : BufTy).Contents (Elt F) → (⟨S20000, .f32⟩ : BufTy).Contents (Elt F)),
    StableHlo.nullary main_while0b_c_40 (constantI S_ 32 0#32),
    StableHlo.binary main_while0b_v83 main_while0b_c_40 main_while0b_v125 (cmpi .slt : (⟨S_, .i32⟩ : BufTy).Contents (Elt F) → (⟨S_, .i32⟩ : BufTy).Contents (Elt F) → (⟨S_, .i1⟩ : BufTy).Contents (Elt F)),
    StableHlo.nullary main_while0b_c_41 (constantI S_ 32 20000#32),
    StableHlo.binary main_while0b_v83 main_while0b_c_41 main_while0b_v126 (addi : (⟨S_, .i32⟩ : BufTy).Contents (Elt F) → (⟨S_, .i32⟩ : BufTy).Contents (Elt F) → (⟨S_, .i32⟩ : BufTy).Contents (Elt F)),
    StableHlo.ternary main_while0b_v125 main_while0b_v126 main_while0b_v83 main_while0b_v127 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v41_4 ![main_while0b_v127] ⟨S_, .i32⟩ main_while0b_v128 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F)) ]

/-- The body's operations 67 … 83 of 89. -/
abbrev trip_w7 : List (HloOp τ sig (Elt F)) :=
  [ StableHlo.reshape main_while0b_v128 main_while0b_v129 (rfl : (.f32 : EltTy) = .f32) shapeCasts_S1_S_,
    StableHlo.unary main_while0b_v129 main_while0b_v130 (broadcastInDim S20000 ![] bcast_S_S20000 : (⟨S_, .f32⟩ : BufTy).Contents (Elt F) → (⟨S20000, .f32⟩ : BufTy).Contents (Elt F)),
    StableHlo.binary main_while0b_v130 main_v41_4 main_while0b_v131 (addf : (⟨S20000, .f32⟩ : BufTy).Contents (Elt F) → (⟨S20000, .f32⟩ : BufTy).Contents (Elt F) → (⟨S20000, .f32⟩ : BufTy).Contents (Elt F)),
    StableHlo.binary main_while0b_v131 main_while0b_v124 main_while0b_v132 (subf : (⟨S20000, .f32⟩ : BufTy).Contents (Elt F) → (⟨S20000, .f32⟩ : BufTy).Contents (Elt F) → (⟨S20000, .f32⟩ : BufTy).Contents (Elt F)),
    StableHlo.binary main_while0b_v124 main_while0b_v132 main_while0b_v133 (Host.divf : (⟨S20000, .f32⟩ : BufTy).Contents (Elt F) → (⟨S20000, .f32⟩ : BufTy).Contents (Elt F) → (⟨S20000, .f32⟩ : BufTy).Contents (Elt F)),
    StableHlo.nullary main_while0b_cst_42 (constant S_ .f32 0x3E99999A#32),
    StableHlo.unary main_while0b_cst_42 main_while0b_v134 (broadcastInDim S20000 ![] bcast_S_S20000 : (⟨S_, .f32⟩ : BufTy).Contents (Elt F) → (⟨S20000, .f32⟩ : BufTy).Contents (Elt F)),
    StableHlo.binary main_while0b_v133 main_while0b_v134 main_while0b_v135 (cmpf .ole : (⟨S20000, .f32⟩ : BufTy).Contents (Elt F) → (⟨S20000, .f32⟩ : BufTy).Contents (Elt F) → (⟨S20000, .i1⟩ : BufTy).Contents (Elt F)),
    StableHlo.binary main_v41_7 main_while0b_v135 main_while0b_v136 (andi : (⟨S20000, .i1⟩ : BufTy).Contents (Elt F) → (⟨S20000, .i1⟩ : BufTy).Contents (Elt F) → (⟨S20000, .i1⟩ : BufTy).Contents (Elt F)),
    StableHlo.nullary main_while0b_c_43 (constantI S_ 32 0#32),
    StableHlo.binary main_while0b_v83 main_while0b_c_43 main_while0b_v137 (cmpi .slt : (⟨S_, .i32⟩ : BufTy).Contents (Elt F) → (⟨S_, .i32⟩ : BufTy).Contents (Elt F) → (⟨S_, .i1⟩ : BufTy).Contents (Elt F)),
    StableHlo.nullary main_while0b_c_44 (constantI S_ 32 20000#32),
    StableHlo.binary main_while0b_v83 main_while0b_c_44 main_while0b_v138 (addi : (⟨S_, .i32⟩ : BufTy).Contents (Elt F) → (⟨S_, .i32⟩ : BufTy).Contents (Elt F) → (⟨S_, .i32⟩ : BufTy).Contents (Elt F)),
    StableHlo.ternary main_while0b_v137 main_while0b_v138 main_while0b_v83 main_while0b_v139 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v139 main_while0b_v140 (broadcastInDim S1 ![] bcast_S_S1 : (⟨S_, .i32⟩ : BufTy).Contents (Elt F) → (⟨S1, .i32⟩ : BufTy).Contents (Elt F)),
    StableHlo.nullary main_while0b_c_45 (constantI S_ 1 0#1),
    StableHlo.ternary main_while0b_v136 main_while0b_v140 main_while0b_c_45 main_while0b_v141 ((fun x i u => Host.scatter scatter_S20000_S1_S__n_0_0_0 (fun _ b => b) x i u) : (⟨S20000, .i1⟩ : BufTy).Contents (Elt F) → (⟨S1, .i32⟩ : BufTy).Contents (Elt F) → (⟨S_, .i1⟩ : BufTy).Contents (Elt F) → (⟨S20000, .i1⟩ : BufTy).Contents (Elt F)) ]

/-- The body's operations 84 … 89 of 89: the counter's step and the copies back into the carried buffers. -/
abbrev while0Ops0_2_step : List (HloOp τ sig (Elt F)) :=
  [ StableHlo.nullary main_while0b_c_46 (constantI S_ 32 1#32),
    StableHlo.binary main_v41_5 main_while0b_c_46 main_while0b_v142 (addi : (⟨S_, .i32⟩ : BufTy).Contents (Elt F) → (⟨S_, .i32⟩ : BufTy).Contents (Elt F) → (⟨S_, .i32⟩ : BufTy).Contents (Elt F)),
    StableHlo.unary main_while0b_v142 main_v41_5 id,
    StableHlo.unary main_while0b_v82 main_v41_6 id,
    StableHlo.unary main_while0b_v141 main_v41_7 id,
    StableHlo.unary main_while0b_v89 main_v41_8 id ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order, then the step. -/
theorem while0Ops0_2_cut : (while0Ops0_2 : List (HloOp τ sig (Elt F))) = trip_w2 ++ (trip_w3 ++ (trip_w4 ++ (trip_w5 ++ (trip_w6 ++ (trip_w7 ++ (while0Ops0_2_step)))))) := rfl

/-- The buffers that window `trip_w0`'s operations write. -/
abbrev trip_w0_W : List (Ref sig .tc) := [main_while0b_c_27, main_while0b_v82]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_call1_v0, main_while0b_call1_c, main_while0b_call1_c_0, main_while0b_call1_v1_0, main_while0b_v83]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w2`'s operations write. -/
abbrev trip_w2_W : List (Ref sig .tc) := [main_while0b_c_28, main_while0b_v84, main_while0b_c_29, main_while0b_v85, main_while0b_v86, main_while0b_v87, main_while0b_v88, main_while0b_v89, main_while0b_c_30, main_while0b_v90, main_while0b_c_31, main_while0b_v91, main_while0b_v92, main_while0b_v93]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_v94, main_while0b_v95, main_while0b_v96, main_while0b_c_32, main_while0b_v97, main_while0b_c_33, main_while0b_v98, main_while0b_v99, main_while0b_v100]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w4`'s operations write. -/
abbrev trip_w4_W : List (Ref sig .tc) := [main_while0b_v101, main_while0b_v102, main_while0b_v103, main_while0b_c_34, main_while0b_v104, main_while0b_c_35, main_while0b_v105, main_while0b_v106, main_while0b_v107]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w5`'s operations write. -/
abbrev trip_w5_W : List (Ref sig .tc) := [main_while0b_v108, main_while0b_v109, main_while0b_v110, main_while0b_c_36, main_while0b_v111, main_while0b_c_37, main_while0b_v112, main_while0b_v113, main_while0b_v114]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w6`'s operations write. -/
abbrev trip_w6_W : List (Ref sig .tc) := [main_while0b_v115, main_while0b_v116, main_while0b_v117, main_while0b_v118, main_while0b_cst_38, main_while0b_v119, main_while0b_v120, main_while0b_v121, main_while0b_cst_39, main_while0b_v122, main_while0b_v123, main_while0b_v124, main_while0b_c_40, main_while0b_v125, main_while0b_c_41, main_while0b_v126, main_while0b_v127, main_while0b_v128]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w7`'s operations write. -/
abbrev trip_w7_W : List (Ref sig .tc) := [main_while0b_v129, main_while0b_v130, main_while0b_v131, main_while0b_v132, main_while0b_v133, main_while0b_cst_42, main_while0b_v134, main_while0b_v135, main_while0b_v136, main_while0b_c_43, main_while0b_v137, main_while0b_c_44, main_while0b_v138, main_while0b_v139, main_while0b_v140, main_while0b_c_45, main_while0b_v141]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w2 (V : Valuation τ sig (Elt F)) : after trip_w2 V (Proc.devRef .tc main_v41_5) = V (Proc.devRef .tc main_v41_5) :=
  after_of_writes_sub trip_w2 V trip_w2_writes (by decide +kernel)
theorem ctr_trip_w3 (V : Valuation τ sig (Elt F)) : after trip_w3 V (Proc.devRef .tc main_v41_5) = V (Proc.devRef .tc main_v41_5) :=
  after_of_writes_sub trip_w3 V trip_w3_writes (by decide +kernel)
theorem ctr_trip_w4 (V : Valuation τ sig (Elt F)) : after trip_w4 V (Proc.devRef .tc main_v41_5) = V (Proc.devRef .tc main_v41_5) :=
  after_of_writes_sub trip_w4 V trip_w4_writes (by decide +kernel)
theorem ctr_trip_w5 (V : Valuation τ sig (Elt F)) : after trip_w5 V (Proc.devRef .tc main_v41_5) = V (Proc.devRef .tc main_v41_5) :=
  after_of_writes_sub trip_w5 V trip_w5_writes (by decide +kernel)
theorem ctr_trip_w6 (V : Valuation τ sig (Elt F)) : after trip_w6 V (Proc.devRef .tc main_v41_5) = V (Proc.devRef .tc main_v41_5) :=
  after_of_writes_sub trip_w6 V trip_w6_writes (by decide +kernel)
theorem ctr_trip_w7 (V : Valuation τ sig (Elt F)) : after trip_w7 V (Proc.devRef .tc main_v41_5) = V (Proc.devRef .tc main_v41_5) :=
  after_of_writes_sub trip_w7 V trip_w7_writes (by decide +kernel)

set_option maxRecDepth 100000 in
/-- `while0Ops0_2_step` leaves the counter one step on. -/
theorem ctr_while0Ops0_2_step (Y : Valuation τ sig (Elt F)) :
    after while0Ops0_2_step Y (Proc.devRef .tc main_v41_5) = addi (Y (Proc.devRef .tc main_v41_5)) (constantI S_ 32 1#32) := by
  after_results
  rfl

set_option maxRecDepth 100000 in
/-- `while0Ops0_2` leaves the counter one step on: its windows do not write the counter, and `while0Ops0_2_step` steps it. -/
theorem ctr_step (X : Valuation τ sig (Elt F)) :
    after while0Ops0_2 X (Proc.devRef .tc main_v41_5) = addi (X (Proc.devRef .tc main_v41_5)) (constantI S_ 32 1#32) := by
  simp only [while0Ops0_2_cut, after_append]
  rw [ctr_while0Ops0_2_step, ctr_trip_w7, ctr_trip_w6, ctr_trip_w5, ctr_trip_w4, ctr_trip_w3, ctr_trip_w2]

/-- The counter is the loop's lower bound at the loop's entry: its last writer before the loop read back. -/
theorem ctr_entry (c : Dev nD) : entryContents preI m c (Proc.devRef .tc main_v41_5) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v41_5) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v41_5 HostLoop.idx0)
        (HloOp.result _ (atK m k c) main_while0c_c_27 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 100 m ρ (cond_spec m)

end Cert.ReferenceIdeal.Value

end
-- ==== Proof.RefFrame.lean ====
/-
  What the reference program leaves unchanged: no operation of it writes an argument or one of the buffers @main fills
  before the loop and reads after it. From this, its frame at any float values (`frame`).
-/
module

public import proofs.«01_k».proof.Proof.RefRun
public import Idealize.ShloMosaic.Lib.Quiescent

@[expose] public section

set_option maxRecDepth 1980

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]
variable (m : (ℓ : Loc nD τ sig) → Buf (Elt F) ℓ) (ρ : Dev nD → PrngReg)

/-- The references that the operations after the loop write. -/
abbrev hostOps0_3_W : List (Ref sig .tc) := [main_c_9, main_v42, main_v43, main_c_10, main_v44, main_v45, main_v46, main_v47, main_v48, main_v49, main_c_11, main_v50, main_v51, main_c_12, main_v52, main_v53, main_v54, main_v55, main_v56, main_v57, main_c_13, main_v58, main_v59, main_c_14, main_v60, main_v61, main_v62, main_v63, main_v64, main_c_15, main_v65, main_v66, main_c_16, main_v67, main_v68, main_v69, main_v70, main_v71, main_v72, main_v73, main_c_17, main_v74, main_v75, main_c_18, main_v76, main_v77, main_v78, main_v79, main_v80, main_v81]
set_option maxRecDepth 8192 in
theorem hostOps0_3_writes : (hostOps0_3 : List (HloOp τ sig (Elt F))).Forall fun op => op.writes ⊆ (hostOps0_3_W.map (Proc.devRef (τ := τ) .tc)).toFinset :=
  StableHlo.forall_writes_sub_of_map rfl

/-- A buffer that neither the test nor the body writes holds before every test what it held at the loop's entry. -/
theorem atK_keep (c : Dev nD) (r : Ref sig .tc) (hc : r ∉ condOps_W) (h0 : r ∉ while0Ops0_W) (h1 : r ∉ while0Ops0_1_W)
    (h2 : r ∉ while0Ops0_2_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub _ _ while0Ops0_2_writes h2, after_of_writes_sub _ _ while0Ops0_1_writes h1,
      after_of_writes_sub _ _ while0Ops0_writes h0, after_of_writes_sub _ _ condOps_writes hc, atK_keep c r hc h0 h1 h2 k]
    rfl

/-- A buffer that no operation of the program writes ends as it was at the launch. -/
theorem final_keep (c : Dev nD) (r : Ref sig .tc) (hc : r ∉ condOps_W) (h0 : r ∉ while0Ops0_W) (h1 : r ∉ while0Ops0_1_W)
    (h2 : r ∉ while0Ops0_2_W) (g0 : r ∉ hostOps0_W) (g1 : r ∉ hostOps0_1_W) (g2 : r ∉ hostOps0_2_W) (g3 : r ∉ hostOps0_3_W) :
    finalContents condOps preI bodyI postI 100 m c (Proc.devRef .tc r) = m ((c.tc : Thread nD τ).loc r) := by
  simp only [finalContents, afterL_cons, afterL_nil]
  rw [after_of_writes_sub _ _ hostOps0_3_writes g3, after_of_writes_sub _ _ condOps_writes hc]
  refine (atK_keep m c r hc h0 h1 h2 100).trans ?_
  simp only [entryContents, afterL_cons, afterL_nil]
  rw [after_of_writes_sub _ _ hostOps0_2_writes g2, after_of_writes_sub _ _ hostOps0_1_writes g1,
    after_of_writes_sub _ _ hostOps0_writes g0]

/-- The three arguments end as they were at the launch. -/
theorem args_keep (c : Dev nD) :
    finalContents condOps preI bodyI postI 100 m c (Proc.devRef .tc main_arg0) = m ((c.tc : Thread nD τ).loc main_arg0)
    ∧ finalContents condOps preI bodyI postI 100 m c (Proc.devRef .tc main_arg1) = m ((c.tc : Thread nD τ).loc main_arg1)
    ∧ finalContents condOps preI bodyI postI 100 m c (Proc.devRef .tc main_arg2) = m ((c.tc : Thread nD τ).loc main_arg2) :=
  ⟨final_keep m c main_arg0 (by decide +kernel) (by decide +kernel) (by decide +kernel) (by decide +kernel) (by decide +kernel)
      (by decide +kernel) (by decide +kernel) (by decide +kernel),
    final_keep m c main_arg1 (by decide +kernel) (by decide +kernel) (by decide +kernel) (by decide +kernel) (by decide +kernel)
      (by decide +kernel) (by decide +kernel) (by decide +kernel),
    final_keep m c main_arg2 (by decide +kernel) (by decide +kernel) (by decide +kernel) (by decide +kernel) (by decide +kernel)
      (by decide +kernel) (by decide +kernel) (by decide +kernel)⟩

/-- The reference's run: it ends, its result buffer at the fold's value, its arguments unchanged. -/
theorem run_result : θ_run (defs (F := F)) (onTc (τ := τ) (main (F := F))) ⟨m, fun _ => 0, ρ⟩
    (fun r => ∀ c : Dev nD,
      r.2.mem ((c.tc : Thread nD τ).loc main_v81) = finalContents condOps preI bodyI postI 100 m c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨h c main_v81 rfl, (h c main_arg0 rfl).trans (args_keep m c).1, (h c main_arg1 rfl).trans (args_keep m c).2.1,
        (h c main_arg2 rfl).trans (args_keep m c).2.2⟩) (run_fold m ρ)

/-- The reference's frame: it ends, its arguments unchanged and every counter at zero (it declares none). -/
theorem frame : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) r.2⟩) (run_result m ρ)

end Cert.ReferenceIdeal.Value

end
-- ==== Proof.KerTrip.lean ====
/- One trip of the kernel's loop, as a function of what the trip finds in the live array and in the output block. -/
module

public import proofs.«01_k».proof.Proof.Gen.KernelIdeal.Loops
public import proofs.«01_k».proof.Proof.Gen.KernelIdeal.Frame
public import Idealize.ShloMosaic.Lib.Pipeline.Value
public import Idealize.ShloMosaic.Lib.VecWindow

@[expose] public section

set_option maxRecDepth 16384

noncomputable section

namespace Cert.KernelIdeal.Value

open Idealize.ShloMosaic Idealize.ShloMosaic.TcCoe Idealize.ShloMosaic.Tactic
open Idealize.SL Idealize.SL.Sem
open Cert.KernelIdeal Cert.KernelIdeal.Gen

variable {F : FTy → Type} [FloatOps F] [Named F]

/-- Both offsets of a whole access are zero. -/
theorem hz : (![0, 0] : Fin 2 → Nat) = fun _ => 0 := funext fun a => by fin_cases a <;> rfl

/-- The arrays the loop's region takes from before the loop. -/
structure Env (F : FTy → Type) where
  v1 : FVec F S160x128 .f32
  v28 : FVec F S160x128 .f32
  v33 : FVec F S160x128 .f32
  v38 : FVec F S160x128 .f32
  v43 : FVec F S160x128 .f32
  v48 : FVec F S160x128 .f32
  v49 : FVec F S160x128 .f32
  v50 : FVec F S160x128 .f32
  v51 : FVec F S160x128 .f32
  v54 : FVec F S160x128 .f32
  v59 : IVec S160x128 32
  v77 : BitVec 32
  v78 : IVec S8x128 32
  v79 : IVec S8x128 32
  cst : F .f32

/-- The mask of the box a trip picks, from the live array. -/
def Env.mask (e : Env F) (live : Vec F S160x128 .f32) : IVec S160x128 1 := k0_pay4 e.v59 e.v77 1073741824#32 e.cst live
def Env.px1 (e : Env F) (live : Vec F S160x128 .f32) : F .f32 := k0_pay5 e.v48 e.v59 e.v77 1073741824#32 e.cst live
def Env.py1 (e : Env F) (live : Vec F S160x128 .f32) : F .f32 := k0_pay6 e.v50 e.v59 e.v77 1073741824#32 e.cst live
def Env.px2 (e : Env F) (live : Vec F S160x128 .f32) : F .f32 := k0_pay7 e.v49 e.v59 e.v77 1073741824#32 e.cst live
def Env.py2 (e : Env F) (live : Vec F S160x128 .f32) : F .f32 := k0_pay8 e.v51 e.v59 e.v77 1073741824#32 e.cst live

/-- The live array after a trip. -/
def Env.live (e : Env F) (live : Vec F S160x128 .f32) : Vec F S160x128 .f32 :=
  k0_pay17 e.cst live (e.mask live)
    (k0_pay15 e.v48 e.v49 e.v50 e.v51 e.v54 (e.px1 live) (e.py1 live) (e.px2 live) (e.py2 live)) (k0_pay16 (F := F))

/-- The column a trip writes, spread over the output block. -/
def Env.col (e : Env F) (live : Vec F S160x128 .f32) : FVec F S8x128 .f32 :=
  k0_pay18 e.v79 (e.px1 live) (e.py1 live) (e.px2 live) (e.py2 live)
    (k0_pay10 (k0_pay9 e.v28 e.v59 e.v77 1073741824#32 e.cst live))
    (k0_pay11 e.v33 (e.mask live)) (k0_pay12 e.v38 (e.mask live)) (k0_pay13 e.v43 (e.mask live)) (k0_pay14 e.v1 (e.mask live))

/-- The output block after trip `k`. -/
def Env.out (e : Env F) (live : Vec F S160x128 .f32) (out : Vec F S8x128 .f32) (k : ℕ) : Vec F S8x128 .f32 :=
  k0_pay3 (e.col live) (k0_pay19 e.v78 (Scf.iv 0#32 1#32 k)) out

/-- The live array and the output block after `k` trips. -/
def Env.state (e : Env F) (l0 : Vec F S160x128 .f32) (o0 : Vec F S8x128 .f32) : ℕ → Vec F S160x128 .f32 × Vec F S8x128 .f32
  | 0 => (l0, o0)
  | k + 1 => (e.live (e.state l0 o0 k).1, e.out (e.state l0 o0 k).1 (e.state l0 o0 k).2 k)

variable (𝒱 : Variants) (c : Dev nD) (bd : Option 𝒱.V) (arg0 : Memref sig .tc .vmem S160x128 .f32) (harg0 : arg0.IsWhole) (arg1 : Memref sig .tc .vmem S160x128 .f32) (harg1 : arg1.IsWhole) (arg2 : Memref sig .tc .vmem S160x128 .f32) (harg2 : arg2.IsWhole) (arg3 : Memref sig .tc .vmem S160x128 .f32) (harg3 : arg3.IsWhole) (arg4 : Memref sig .tc .vmem S160x128 .f32) (harg4 : arg4.IsWhole) (arg5 : Memref sig .tc .vmem S160x128 .f32) (harg5 : arg5.IsWhole) (arg6 : Memref sig .tc .vmem S160x128 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S160x128 .f32) (harg10 : arg10.IsWhole) (arg11 : Memref sig .tc .vmem S8x128 .f32) (harg11 : arg11.IsWhole) (arg12 : Memref sig .tc .vmem S160x128 .f32) (harg12 : arg12.IsWhole)

/-- One trip stores the new live array over the whole live buffer and the new output block over the whole output buffer. -/
theorem tripOf_eq (e : Env F) (k : Fin k0_t1_loop.trips) (f11 : BufTy.Contents (Elt F) arg11.view.ty) (f12 : BufTy.Contents (Elt F) arg12.view.ty) :
    tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 e.v1 e.v28 e.v33 e.v38 e.v43 e.v48 e.v49 e.v50 e.v51 e.v54 e.v59 e.v77 e.v78 e.v79 e.cst k f11 f12
      = ([⟨Rect.unit (s := S8x128) ![0, 0] S8x128.size inb_S8x128_S8x128_0_0, e.out (arg12.view.read (Elt F) f12) (arg11.view.read (Elt F) f11) k.val⟩],
         [⟨Rect.unit (s := S160x128) ![0, 0] S160x128.size inb_S160x128_S160x128_0_0, e.live (arg12.view.read (Elt F) f12)⟩]) := by
  unfold tripL_k0_t1 trip_k0_t1
  dsimp only
  sl_unfold_words
  simp only [View.readAt_eq_ld, View.ld_unit_zero (S := S8x128) hz, View.ld_unit_zero (S := S160x128) hz]
  rfl

/-- After `k` trips the two buffers read as the state. -/
theorem pb_read (e : Env F) (l0 : Vec F S160x128 .f32) (o0 : Vec F S8x128 .f32)
    (G11 : BufTy.Contents (Elt F) arg11.view.ty) (G12 : BufTy.Contents (Elt F) arg12.view.ty)
    (h11 : arg11.view.read (Elt F) G11 = o0) (h12 : arg12.view.read (Elt F) G12 = l0) (k : ℕ) (hk : k ≤ k0_t1_loop.trips) :
    arg12.view.read (Elt F) (arg12.view.writes (Elt F) G12 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 e.v1 e.v28 e.v33 e.v38 e.v43 e.v48 e.v49 e.v50 e.v51 e.v54 e.v59 e.v77 e.v78 e.v79 e.cst G11 G12 k).2) = (e.state l0 o0 k).1
    ∧ arg11.view.read (Elt F) (arg11.view.writes (Elt F) G11 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 e.v1 e.v28 e.v33 e.v38 e.v43 e.v48 e.v49 e.v50 e.v51 e.v54 e.v59 e.v77 e.v78 e.v79 e.cst G11 G12 k).1) = (e.state l0 o0 k).2 := by
  induction k with
  | zero => exact ⟨h12, h11⟩
  | succ k ih =>
    obtain ⟨ih1, ih2⟩ := ih (Nat.le_of_succ_le hk)
    have hs := pb_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 e.v1 e.v28 e.v33 e.v38 e.v43 e.v48 e.v49 e.v50 e.v51 e.v54 e.v59 e.v77 e.v78 e.v79 e.cst G11 G12 ⟨k, hk⟩
    rw [tripOf_eq] at hs
    dsimp only at hs
    rw [hs]
    dsimp only
    rw [List.singleton_append, List.singleton_append]
    refine ⟨(View.read_writes_full _ _ _ _ _).trans ?_, (View.read_writes_full _ _ _ _ _).trans ?_⟩
    · rw [ih1]; rfl
    · rw [ih1, ih2]; rfl

variable (x0 : Vec F S160x128 .f32) (x1 : Vec F S160x128 .f32) (x2 : Vec F S160x128 .f32) (x3 : Vec F S160x128 .f32) (x4 : Vec F S160x128 .f32) (x5 : Vec F S160x128 .f32) (x6 : Vec F S160x128 .f32) (x7 : Vec F S160x128 .f32) (x8 : Vec F S160x128 .f32) (x9 : Vec F S160x128 .f32) (x10 : Vec F S160x128 .f32)

/-- The arrays the kernel computes from its inputs before the loop. -/
def envOf : Env F where
  v1 := k0_pay20 x0
  v28 := k0_pay27 x9 x5
  v33 := k0_pay28 x10 x6
  v38 := k0_pay29 (k0_pay21 x9) x7
  v43 := k0_pay30 (k0_pay22 x10) x8
  v48 := k0_pay33 (k0_pay23 x9 x1) (k0_pay25 x3)
  v49 := k0_pay34 (k0_pay23 x9 x1) (k0_pay25 x3)
  v50 := k0_pay35 (k0_pay24 x10 x2) (k0_pay26 x4)
  v51 := k0_pay36 (k0_pay24 x10 x2) (k0_pay26 x4)
  v54 := k0_pay37 (k0_pay23 x9 x1) (k0_pay24 x10 x2) (k0_pay25 x3) (k0_pay26 x4)
  v59 := k0_pay38
  v77 := extractAt ![0, 0, 0] (k0_pay40 (k0_pay20 x0)) inpos_S1x1x1_p0_0_0
  v78 := iota Kind.tc S8x128 32 [1] iota_S8x128_d1_w32
  v79 := iota Kind.tc S8x128 32 [0] iota_S8x128_d0_w32
  cst := FloatOps.ofBits FTy.f32 3212836864#32

/-- The live array before the loop: the scores of the boxes, minus one in the padding. -/
def live0 : Vec F S160x128 .f32 := k0_pay1 (k0_pay20 x0) k0_pay39 (FloatOps.ofBits FTy.f32 3212836864#32)

/-- What the body leaves in the output block: the state after the last trip. -/
theorem out_eq : out0_A_11 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
    = ((envOf x0 x1 x2 x3 x4 x5 x6 x7 x8 x9 x10).state (live0 x0) k0_pay2 k0_t1_loop.trips).2 := by
  unfold out0_A_11
  rw [View.read_writes_of_cover VO0_11 _ arg11.view arg11.view.junk _ (cover0_A_11 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  unfold kernelRun0_A
  dsimp only
  sl_unfold_words
  simp only [View.readAt_eq_ld, View.ld_unit_zero (S := S8x128) hz, View.ld_unit_zero (S := S160x128) hz, harg0.read_unread, harg1.read_unread, harg2.read_unread, harg3.read_unread, harg4.read_unread, harg5.read_unread, harg6.read_unread, harg7.read_unread, harg8.read_unread, harg9.read_unread, harg10.read_unread]
  rw [View.writes_append]
  have h := (pb_read Variants.none c none arg0 harg0 arg1 harg1 arg2 harg2 arg3 harg3 arg4 harg4 arg5 harg5 arg6 harg6 arg7 harg7 arg8 harg8 arg9 harg9 arg10 harg10 arg11 harg11 arg12 harg12 (envOf x0 x1 x2 x3 x4 x5 x6 x7 x8 x9 x10) (live0 x0) k0_pay2
    (arg11.view.writes (Elt F) arg11.view.junk [⟨Rect.unit ![0, 0] ![8, 128] inb_S8x128_S8x128_0_0, k0_pay2⟩])
    (arg12.view.writes (Elt F) arg12.view.junk [⟨Rect.unit ![0, 0] ![160, 128] inb_S160x128_S160x128_0_0, live0 x0⟩])
    (View.read_writes_full _ _ _ _ _) (View.read_writes_full _ _ _ _ _) k0_t1_loop.trips le_rfl).2
  unfold envOf live0 at h
  dsimp only at h
  unfold envOf live0
  rw [show Scf.trips 0#32 (Scalar.addi 0#32 100#32) 1#32 = k0_t1_loop.trips from rfl]
  exact h

end Cert.KernelIdeal.Value

end
-- ==== Proof.Core.lean ====
/- Greedy suppression on twenty thousand boxes, stated without either program: what a pick is, what a run of picks is, and
   that the scores and the overlap relation determine the run. -/
module

public import Idealize.ShloMosaic.PureOps
public import Idealize.ShloMosaic.PureOps.Ideal.Laws
public import Idealize.ShloMosaic.Lib.IdealHost
public import Idealize.ShloMosaic.Lib.ValueIdxCore

@[expose] public section

noncomputable section

namespace Cert.Nms

open Idealize.ShloMosaic

/-- A box number. -/
abbrev Box := Fin 20000

/-- A box may be picked: it is live, or no box is. -/
def Elig (live : Box → Prop) (j : Box) : Prop := (∃ i, live i) → live j

/-- The pick: the first of the boxes of greatest score among those that may be picked. -/
def IsPick (s : Box → EReal) (live : Box → Prop) (p : Box) : Prop :=
  Elig live p ∧ ∀ j, Elig live j → s j < s p ∨ (s j = s p ∧ p ≤ j)

/-- There is at most one pick. -/
theorem IsPick.unique {s : Box → EReal} {live live' : Box → Prop} (hl : ∀ j, live j ↔ live' j) {p p' : Box}
    (h : IsPick s live p) (h' : IsPick s live' p') : p = p' := by
  have hl' : live = live' := funext fun j => propext (hl j)
  subst hl'
  rcases h.2 p' h'.1 with a | ⟨a, b⟩ <;> rcases h'.2 p h.1 with c | ⟨c, d⟩
  · exact absurd (lt_trans a c) (lt_irrefl _)
  · rw [c] at a; exact absurd a (lt_irrefl _)
  · rw [a] at c; exact absurd c (lt_irrefl _)
  · exact le_antisymm b d

/-- A run of picks: every box is live at first; each trip picks, and keeps the boxes that do not overlap the pick. -/
def Follows (s : Box → EReal) (ok : Box → Box → Prop) (live : ℕ → Box → Prop) (p : ℕ → Box) : Prop :=
  (∀ j, live 0 j) ∧ ∀ k, IsPick s (live k) (p k) ∧ ∀ j, live (k + 1) j ↔ (live k j ∧ ok (p k) j) ∧ j ≠ p k

/-- Two runs of picks agree. -/
theorem Follows.unique {s : Box → EReal} {ok : Box → Box → Prop} {live live' : ℕ → Box → Prop} {p p' : ℕ → Box}
    (h : Follows s ok live p) (h' : Follows s ok live' p') (k : ℕ) : (∀ j, live k j ↔ live' k j) ∧ p k = p' k := by
  induction k with
  | zero =>
    have e : ∀ j, live 0 j ↔ live' 0 j := fun j => ⟨fun _ => h'.1 j, fun _ => h.1 j⟩
    exact ⟨e, (h.2 0).1.unique e (h'.2 0).1⟩
  | succ k ih =>
    have e : ∀ j, live (k + 1) j ↔ live' (k + 1) j := fun j => by
      rw [(h.2 k).2 j, (h'.2 k).2 j, ih.1 j, ih.2]
    exact ⟨e, (h.2 (k + 1)).1.unique e (h'.2 (k + 1)).1⟩

/-! ## The inputs and what both programs compute of a box -/

/-- The three inputs: a logit, eighteen numbers and two anchor coordinates for each box. -/
structure Inp where
  X : Box → EReal
  Y : Box → Fin 18 → EReal
  A : Box → Fin 2 → EReal

/-- The inputs read from the three argument arrays. -/
def Inp.of (a0 : (⟨3, ![1, 20000, 1]⟩ : Shape).Idx → EReal) (a1 : (⟨3, ![1, 20000, 18]⟩ : Shape).Idx → EReal)
    (a2 : (⟨2, ![20000, 2]⟩ : Shape).Idx → EReal) : Inp where
  X n := a0 (ValueIdx.ix3 0 n 0)
  Y n d := a1 (ValueIdx.ix3 0 n d)
  A n a := a2 (ValueIdx.ix2 n a)

/-- One, as both programs spell it. -/
def one : EReal := FloatOps.ofBits (F := Ideal) FTy.f32 1065353216#32
/-- One over 128. -/
def inv : EReal := FloatOps.ofBits (F := Ideal) FTy.f32 0x3C000000#32
/-- One half. -/
def half : EReal := FloatOps.ofBits (F := Ideal) FTy.f32 0x3F000000#32
/-- The overlap a kept box may have. -/
def thr : EReal := FloatOps.ofBits (F := Ideal) FTy.f32 0x3E99999A#32
/-- Zero. -/
def zero : EReal := FloatOps.ofBits (F := Ideal) FTy.f32 0x00000000#32
/-- Minus one. -/
def neg1 : EReal := FloatOps.ofBits (F := Ideal) FTy.f32 3212836864#32

namespace Inp

variable (I : Inp)

/-- The score: the logistic function of the logit. -/
def score (n : Box) : EReal := Ideal.div one (one + Ideal.exp (-I.X n))
/-- A number of the box scaled, without and with an anchor coordinate. -/
def cw (d : Fin 18) (n : Box) : EReal := I.Y n d * inv
def ca (d : Fin 18) (a : Fin 2) (n : Box) : EReal := I.Y n d * inv + I.A n a
/-- The corners. -/
def x1 (n : Box) : EReal := I.ca 0 0 n - I.cw 2 n * half
def x2 (n : Box) : EReal := I.ca 0 0 n + I.cw 2 n * half
def y1 (n : Box) : EReal := I.ca 1 1 n - I.cw 3 n * half
def y2 (n : Box) : EReal := I.ca 1 1 n + I.cw 3 n * half
/-- The area. -/
def area (n : Box) : EReal := (I.x2 n - I.x1 n) * (I.y2 n - I.y1 n)
/-- The area two boxes share. -/
def inter (i j : Box) : EReal :=
  max (min (I.x2 i) (I.x2 j) - max (I.x1 i) (I.x1 j)) zero * max (min (I.y2 i) (I.y2 j) - max (I.y1 i) (I.y1 j)) zero
/-- The overlap of two boxes. -/
def iou (i j : Box) : EReal := Ideal.div (I.inter i j) ((I.area i + I.area j) - I.inter i j)
/-- A box survives the pick `i`. -/
def ok (i j : Box) : Prop := I.iou i j ≤ thr
/-- The result's row for a picked box. -/
def row (p : Box) (r : Fin 8) : EReal :=
  match r with
  | 0 => I.score p
  | 1 => I.ca 0 0 p
  | 2 => I.ca 1 1 p
  | 3 => I.cw 2 p
  | 4 => I.ca 4 0 p
  | 5 => I.ca 5 1 p
  | 6 => I.ca 8 0 p
  | 7 => I.ca 9 1 p

/-- The numbers the corners are made of are finite. -/
structure Finite : Prop where
  Y0 : ∀ n, ∃ r : ℝ, I.Y n 0 = r
  Y1 : ∀ n, ∃ r : ℝ, I.Y n 1 = r
  Y2 : ∀ n, ∃ r : ℝ, I.Y n 2 = r
  Y3 : ∀ n, ∃ r : ℝ, I.Y n 3 = r
  A0 : ∀ n, ∃ r : ℝ, I.A n 0 = r
  A1 : ∀ n, ∃ r : ℝ, I.A n 1 = r

end Inp

/-! ## The constants' values, and the arithmetic both sides need -/

theorem one_eq : one = 1 := by
  rw [one, Ideal.ofBits_def]; exact Ideal.ofBits_one_f32
theorem zero_eq : zero = 0 := Ideal.ofBits_zero_f32
theorem half_eq : half = ((1 / 2 : ℝ) : EReal) := by
  rw [half, Ideal.ofBits_def]
  simp [Ideal.ofBits, Ideal.ieee, -EReal.coe_mul, -EReal.coe_neg]; norm_num
theorem inv_eq : inv = ((1 / 128 : ℝ) : EReal) := by
  rw [inv, Ideal.ofBits_def]
  simp [Ideal.ofBits, Ideal.ieee, -EReal.coe_mul, -EReal.coe_neg]; norm_num
theorem neg1_eq : neg1 = ((-1 : ℝ) : EReal) := by
  rw [neg1, Ideal.ofBits_def]
  simp [Ideal.ofBits, Ideal.ieee, -EReal.coe_mul, -EReal.coe_neg]; norm_num
/-- Division by 128 is multiplication by its inverse. -/
theorem div128 (y : EReal) : Ideal.div y (FloatOps.ofBits (F := Ideal) FTy.f32 0x43000000#32) = y * inv := by
  have h : (FloatOps.ofBits (F := Ideal) FTy.f32 0x43000000#32 : EReal) = ((128 : ℝ) : EReal) := by
    rw [Ideal.ofBits_def]
    simp [Ideal.ofBits, Ideal.ieee, -EReal.coe_mul]; norm_num
  rw [h, inv_eq, Ideal.div, if_neg (by exact_mod_cast (by norm_num : (128 : ℝ) ≠ 0))]
  congr 1
  rw [← EReal.coe_inv]; norm_num

theorem exp_nonneg (x : EReal) : 0 ≤ Ideal.exp x := by
  induction x using EReal.rec with
  | bot => exact le_rfl
  | top => exact le_top
  | coe r => exact EReal.coe_nonneg.2 (Real.exp_pos r).le

/-- A score is above minus one. -/
theorem Inp.neg1_lt_score (I : Inp) (n : Box) : neg1 < I.score n := by
  have h : (0 : EReal) ≤ I.score n := by
    unfold Inp.score Ideal.div
    rw [one_eq]
    have := exp_nonneg (-I.X n)
    split
    · rw [if_pos (by norm_num)]; exact le_top
    · rw [one_mul]; exact EReal.inv_nonneg_of_nonneg (add_nonneg zero_le_one this)
  refine lt_of_lt_of_le ?_ h
  rw [neg1_eq]; exact_mod_cast (by norm_num : (-1 : ℝ) < 0)

/-- The middle of a finite box's two corners is the centre they were made from. -/
theorem mid {y a w : EReal} (hy : ∃ r : ℝ, y = r) (ha : ∃ r : ℝ, a = r) (hw : ∃ r : ℝ, w = r) :
    ((y * inv + a - w * inv * half) + (y * inv + a + w * inv * half)) * half = y * inv + a := by
  obtain ⟨y, rfl⟩ := hy; obtain ⟨a, rfl⟩ := ha; obtain ⟨w, rfl⟩ := hw
  rw [inv_eq, half_eq]
  norm_cast
  ring

/-- The distance of a finite box's two corners is the width they were made from. -/
theorem wid {y a w : EReal} (hy : ∃ r : ℝ, y = r) (ha : ∃ r : ℝ, a = r) (hw : ∃ r : ℝ, w = r) :
    (y * inv + a + w * inv * half) - (y * inv + a - w * inv * half) = w * inv := by
  obtain ⟨y, rfl⟩ := hy; obtain ⟨a, rfl⟩ := ha; obtain ⟨w, rfl⟩ := hw
  rw [inv_eq, half_eq]
  norm_cast
  ring

end Cert.Nms

end
-- ==== Proof.KerRed.lean ====
/- The kernel's reductions at the extended reals: the greatest element of a block, the least number of a position that
   attains it, and the element a one-position mask selects. -/
module

public import proofs.«01_k».proof.Proof.KerTrip
public import proofs.«01_k».proof.Proof.Core
public import Idealize.ShloMosaic.Lib.ValueIdxCore

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Nms Idealize.ShloMosaic.ValueIdx

/-- A left fold of an operation that returns one of its operands, related to both: related to the start and to every element,
    and equal to the start or to an element. -/
theorem foldl_sel {α ι : Type} (f : α → α → α) (r : α → α → Prop) (hr : ∀ a, r a a) (ht : ∀ a b c, r a b → r b c → r a c)
    (h1 : ∀ a b, r (f a b) a) (h2 : ∀ a b, r (f a b) b) (hs : ∀ a b, f a b = a ∨ f a b = b) (x : ι → α) :
    ∀ (l : List ι) (init : α), r (l.foldl (fun a i => f a (x i)) init) init
      ∧ (∀ i ∈ l, r (l.foldl (fun a i => f a (x i)) init) (x i))
      ∧ (l.foldl (fun a i => f a (x i)) init = init ∨ ∃ i ∈ l, l.foldl (fun a i => f a (x i)) init = x i)
  | [], init => ⟨hr _, fun _ h => (nomatch h), .inl rfl⟩
  | a :: l, init => by
    obtain ⟨A, B, C⟩ := foldl_sel f r hr ht h1 h2 hs x l (f init (x a))
    refine ⟨ht _ _ _ A (h1 _ _), fun i hi => ?_, ?_⟩
    · rcases List.mem_cons.1 hi with rfl | hi
      · exact ht _ _ _ A (h2 _ _)
      · exact B i hi
    · rcases C with C | ⟨i, hi, C⟩
      · rcases hs init (x a) with e | e
        · exact .inl (C.trans e)
        · exact .inr ⟨a, List.mem_cons_self .., C.trans e⟩
      · exact .inr ⟨i, List.mem_cons_of_mem _ hi, C⟩

/-- The block's greatest element, as the kernel spells it. -/
def blockMax (x : FVec Ideal S160x128 .f32) : EReal :=
  extractAt ![0, 0, 0] (shapeCast S1x1x1 (multiReduction .maximumf [1, 2] S1 (shapeCast S1x160x128 x shapeCasts_S160x128_S1x160x128)
    0xFF800000#32 reduces_S1x160x128_S1 (.inl rfl) rfl) shapeCasts_S1_S1x1x1) inpos_S1x1x1_p0_0_0

/-- The block's least word, as the kernel spells it. -/
def blockMin (x : IVec S160x128 32) : BitVec 32 :=
  extractAt ![0, 0, 0] (shapeCast S1x1x1 (multiReductionI .minsi [1, 2] S1 (shapeCast S1x160x128 x shapeCasts_S160x128_S1x160x128)
    2147483647#32 reduces_S1x160x128_S1 rfl) shapeCasts_S1_S1x1x1) inpos_S1x1x1_p0_0_0

/-- Every element of the block stands in its reshaped form. -/
theorem cast_surj {α : Type} (x : S160x128.Idx → α) (i : S160x128.Idx) :
    ∃ j, shapeCast S1x160x128 x shapeCasts_S160x128_S1x160x128 j = x i := by
  refine ⟨S1x160x128.rowMajor.symm ((S160x128.rowMajor i).cast (by decide)), ?_⟩
  refine shapeCast_apply x _ _ i ?_
  simp

theorem cast_mem {α : Type} (x : S160x128.Idx → α) (j : S1x160x128.Idx) :
    ∃ i, shapeCast S1x160x128 x shapeCasts_S160x128_S1x160x128 j = x i := ⟨_, rfl⟩

theorem ext_mem {α : Type} (z : S1.Idx → α) :
    ∃ j, extractAt ![0, 0, 0] (shapeCast S1x1x1 z shapeCasts_S1_S1x1x1) inpos_S1x1x1_p0_0_0 = z j := ⟨_, rfl⟩

theorem one_size : ∀ b, S1.size b = 1 := by intro b; fin_cases b; rfl

theorem ninf : (FloatOps.ofBits (F := Ideal) FTy.f32 0xFF800000#32 : EReal) = ⊥ := by
  rw [Ideal.ofBits_def]; simp [Ideal.ofBits, Ideal.ieee]

theorem blockMax_spec (x : FVec Ideal S160x128 .f32) : (∀ i, (x i : EReal) ≤ blockMax x) ∧ ∃ i, blockMax x = x i := by
  set y := shapeCast S1x160x128 x shapeCasts_S160x128_S1x160x128 with hy
  have key : blockMax x = ((List.finRange S1x160x128.numel).map S1x160x128.rowMajor.symm).foldl
      (fun r i => FloatOps.maximumf (F := Ideal) (φ := .f32) r (y i)) (FloatOps.ofBits (F := Ideal) FTy.f32 0xFF800000#32) := by
    obtain ⟨j, hj⟩ := ext_mem (multiReduction .maximumf [1, 2] S1 y 0xFF800000#32 reduces_S1x160x128_S1 (.inl rfl) rfl)
    refine Eq.trans hj ?_
    refine (congrFun (multiReduction_maximumf_eq_reduceFold _ _ _ _ _) j).trans ?_
    exact reduceFold_eq_foldl_of_size_one _ one_size _ _ _ _
  obtain ⟨-, B, C⟩ := foldl_sel (α := EReal) (fun a b => max a b) (fun a b => b ≤ a) (fun _ => le_rfl) (fun a b c h h' => h'.trans h)
    (fun a b => le_max_left a b) (fun a b => le_max_right a b) (fun a b => max_choice a b) y
    ((List.finRange S1x160x128.numel).map S1x160x128.rowMajor.symm) (FloatOps.ofBits (F := Ideal) FTy.f32 0xFF800000#32)
  have all : ∀ j, j ∈ (List.finRange S1x160x128.numel).map S1x160x128.rowMajor.symm := fun j =>
    List.mem_map.2 ⟨S1x160x128.rowMajor j, List.mem_finRange _, Equiv.symm_apply_apply _ _⟩
  rw [key]
  have le : ∀ i, (x i : EReal) ≤ _ := fun i => by
    obtain ⟨j, hj⟩ := cast_surj x i
    have := B j (all j)
    rw [← hj]; exact this
  refine ⟨le, ?_⟩
  rcases C with C | ⟨j, _, C⟩
  · refine ⟨ix2 0 0, le_antisymm ?_ (le _)⟩
    rw [ninf] at C
    exact (le_of_eq C).trans bot_le
  · obtain ⟨i, hi⟩ := cast_mem x j
    exact ⟨i, C.trans hi⟩

theorem blockMin_spec (x : IVec S160x128 32) : (∀ i, (blockMin x).toInt ≤ (x i).toInt) ∧ ∃ i, blockMin x = x i := by
  set y := shapeCast S1x160x128 x shapeCasts_S160x128_S1x160x128 with hy
  have key : blockMin x = ((List.finRange S1x160x128.numel).map S1x160x128.rowMajor.symm).foldl
      (fun r i => IntOp.minsi r (y i)) 2147483647#32 := by
    obtain ⟨j, hj⟩ := ext_mem (multiReductionI .minsi [1, 2] S1 y 2147483647#32 reduces_S1x160x128_S1 rfl)
    refine Eq.trans hj ?_
    refine (congrFun (multiReductionI_eq_reduceFold _ _ _ _ _) j).trans ?_
    exact reduceFold_eq_foldl_of_size_one _ one_size _ _ _ _
  have hm : ∀ a b : BitVec 32, IntOp.minsi a b = if a.toInt < b.toInt then a else b := fun a b => by
    unfold IntOp.minsi; simp [BitVec.slt]
  obtain ⟨-, B, C⟩ := foldl_sel (α := BitVec 32) IntOp.minsi (fun a b => a.toInt ≤ b.toInt) (fun _ => le_rfl) (fun a b c h h' => h.trans h')
    (fun a b => by rw [hm]; split <;> omega) (fun a b => by rw [hm]; split <;> omega) (fun a b => by rw [hm]; split <;> simp) y
    ((List.finRange S1x160x128.numel).map S1x160x128.rowMajor.symm) 2147483647#32
  have all : ∀ j, j ∈ (List.finRange S1x160x128.numel).map S1x160x128.rowMajor.symm := fun j =>
    List.mem_map.2 ⟨S1x160x128.rowMajor j, List.mem_finRange _, Equiv.symm_apply_apply _ _⟩
  rw [key]
  have le : ∀ i, _ ≤ (x i).toInt := fun i => by
    obtain ⟨j, hj⟩ := cast_surj x i
    have := B j (all j)
    rw [← hj]; exact this
  refine ⟨le, ?_⟩
  rcases C with C | ⟨j, _, C⟩
  · refine ⟨ix2 0 0, BitVec.eq_of_toInt_eq (le_antisymm (le _) ?_)⟩
    rw [C]
    exact BitVec.toInt_le
  · obtain ⟨i, hi⟩ := cast_mem x j
    exact ⟨i, C.trans hi⟩

/-! ## Positions -/

/-- The number of a position of the block. -/
def flat (i : S160x128.Idx) : ℕ := (i 0).val * 128 + (i 1).val

theorem flat_lt (i : S160x128.Idx) : flat i < 20480 := by
  have h0 : (i 0).val < 160 := (i 0).isLt
  have h1 : (i 1).val < 128 := (i 1).isLt
  unfold flat; omega

theorem flat_inj {i j : S160x128.Idx} (h : flat i = flat j) : i = j := by
  have h0 : (i 1).val < 128 := (i 1).isLt
  have h1 : (j 1).val < 128 := (j 1).isLt
  unfold flat at h
  funext a
  refine Fin.ext ?_
  fin_cases a
  · show (i 0).val = (j 0).val; omega
  · show (i 1).val = (j 1).val; omega

/-- Where a box stands in the block. -/
def pos (n : Box) : S160x128.Idx := ix2 ⟨n.val / 128, by have := n.isLt; omega⟩ ⟨n.val % 128, by omega⟩

theorem flat_pos (n : Box) : flat (pos n) = n.val := by
  show n.val / 128 * 128 + n.val % 128 = n.val; omega

theorem pos_of_flat {i : S160x128.Idx} (h : flat i < 20000) : pos ⟨flat i, h⟩ = i := flat_inj (flat_pos _)

theorem pay38_apply (i : S160x128.Idx) : k0_pay38 i = BitVec.ofNat 32 (flat i) := by
  show BitVec.ofNat 32 (0 * S160x128.size 0 + (i 0).val) * 128#32 + BitVec.ofNat 32 (0 * S160x128.size 1 + (i 1).val) = _
  unfold flat
  apply BitVec.eq_of_toNat_eq
  have h0 : (i 0).val < 160 := (i 0).isLt
  have h1 : (i 1).val < 128 := (i 1).isLt
  simp only [BitVec.toNat_add, BitVec.toNat_mul, BitVec.toNat_ofNat]
  omega

theorem toInt_small {n : ℕ} (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

theorem pay39_apply (i : S160x128.Idx) : k0_pay39 i = if flat i < 20000 then 1#1 else 0#1 := by
  show BitVec.ofBool ((k0_pay38 i).slt 20000#32) = _
  rw [pay38_apply]
  have := flat_lt i
  have e : (BitVec.ofNat 32 (flat i)).slt 20000#32 = decide (flat i < 20000) := by
    rw [BitVec.slt, toInt_small (by omega)]
    rw [show (20000#32 : BitVec 32).toInt = 20000 from rfl]
    simp
  rw [e]
  by_cases h : flat i < 20000 <;> simp [h]

theorem select_oeq (x : FVec Ideal S160x128 .f32) (M : EReal) (b : BitVec 32) (j : S160x128.Idx) :
    select (cmpf .oeq x (broadcast S160x128 (M : Ideal .f32))) k0_pay38 (broadcast S160x128 b) j
      = if (x j : EReal) = M then BitVec.ofNat 32 (flat j) else b := by
  rw [← pay38_apply]
  show (if BitVec.ofBool (decide ((x j : EReal) = M)) = 1 then k0_pay38 j else b) = _
  by_cases h : (x j : EReal) = M
  · rw [if_pos h, decide_eq_true h]; rfl
  · rw [if_neg h, decide_eq_false h]; rfl

/-- The least number of a position of greatest element, as the kernel spells it. -/
def blockArg (x : FVec Ideal S160x128 .f32) : BitVec 32 :=
  blockMin (select (cmpf .oeq x (broadcast S160x128 (blockMax x))) k0_pay38 (broadcast S160x128 1073741824#32))

theorem blockArg_spec (x : FVec Ideal S160x128 .f32) : ∃ i, blockArg x = BitVec.ofNat 32 (flat i) ∧ blockMax x = x i
    ∧ ∀ j, (x j : EReal) = x i → flat i ≤ flat j := by
  obtain ⟨hle, i0, hi0⟩ := blockMax_spec x
  obtain ⟨ml, i, hi⟩ := blockMin_spec (select (cmpf .oeq x (broadcast S160x128 (blockMax x))) k0_pay38 (broadcast S160x128 1073741824#32))
  have sel : ∀ j, select (cmpf .oeq x (broadcast S160x128 (blockMax x))) k0_pay38 (broadcast S160x128 1073741824#32) j
      = if (x j : EReal) = blockMax x then BitVec.ofNat 32 (flat j) else 1073741824#32 := select_oeq x _ _
  have hmax : (x i : EReal) = blockMax x := by
    by_contra hne
    have a := ml i0
    rw [hi, sel i, sel i0, if_neg hne, if_pos hi0.symm] at a
    have := flat_lt i0
    simp only [BitVec.toInt_eq_toNat_cond, BitVec.toNat_ofNat] at a
    omega
  refine ⟨i, ?_, hmax.symm, fun j hj => ?_⟩
  · unfold blockArg; rw [hi, sel i, if_pos hmax]
  · have a := ml j
    rw [hi, sel i, sel j, if_pos hmax, if_pos (hj.trans hmax), toInt_small (by have := flat_lt i; omega), toInt_small (by have := flat_lt j; omega)] at a
    exact_mod_cast a

/-- A block masked by one position has that position's element as its greatest. -/
theorem blockMax_masked (m : IVec S160x128 1) (p : S160x128.Idx) (hm : ∀ i, m i = if i = p then 1#1 else 0#1) (x : FVec Ideal S160x128 .f32) :
    blockMax (select m x (broadcast S160x128 (Named.named (F := Ideal) κ "masked" 0xFF61B1E6#32 : Ideal .f32))) = x p := by
  obtain ⟨hle, i, hi⟩ := blockMax_spec (select m x (broadcast S160x128 (Named.named (F := Ideal) κ "masked" 0xFF61B1E6#32 : Ideal .f32)))
  have sel : ∀ j, (select m x (broadcast S160x128 (Named.named (F := Ideal) κ "masked" 0xFF61B1E6#32 : Ideal .f32)) j : EReal)
      = if j = p then x j else ⊥ := fun j => by
    show Scalar.select (m j) (x j) _ = _
    rw [hm]
    by_cases h : j = p
    · simp [h, Scalar.select]
    · simp only [h, if_false, Scalar.select]; rfl
  apply le_antisymm
  · rw [hi, sel i]; split
    · rename_i h; rw [h]
    · exact bot_le
  · have := hle p; rw [sel p, if_pos rfl] at this; exact this

end Cert.KernelIdeal.Value

end
-- ==== Proof.KerSem.lean ====
/- The kernel's loop at the extended reals: its trips follow a run of picks, and each leaves the picked box's row in its lane. -/
module

public import proofs.«01_k».proof.Proof.KerRed

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Nms Idealize.ShloMosaic.ValueIdx

variable (I : Inp)

/-- A live array that holds the scores of the live boxes and minus one everywhere else. -/
structure LiveIs (L : Vec Ideal S160x128 .f32) (live : Box → Prop) : Prop where
  yes : ∀ n, live n → (L (pos n) : EReal) = I.score n
  no : ∀ n, ¬ live n → (L (pos n) : EReal) = neg1
  pad : ∀ i, 20000 ≤ flat i → (L i : EReal) = neg1

variable {I}

/-- With no live box the greatest element is minus one. -/
theorem LiveIs.max_none {L : Vec Ideal S160x128 .f32} {live : Box → Prop} (h : LiveIs I L live) (hn : ¬ ∃ i, live i) : blockMax L = neg1 := by
  obtain ⟨-, i, hi⟩ := blockMax_spec L
  refine hi.trans ?_
  by_cases hf : flat i < 20000
  · rw [← pos_of_flat hf]; exact h.no _ fun hl => hn ⟨_, hl⟩
  · exact h.pad i (by omega)

/-- With a live box the least position of greatest element is the pick. -/
theorem LiveIs.arg {L : Vec Ideal S160x128 .f32} {live : Box → Prop} (h : LiveIs I L live) (hs : ∃ i, live i) :
    ∃ p, IsPick I.score live p ∧ blockArg L = BitVec.ofNat 32 p.val ∧ blockMax L ≠ neg1 := by
  obtain ⟨hle, -⟩ := blockMax_spec L
  obtain ⟨i, ha, hm, hmin⟩ := blockArg_spec L
  obtain ⟨q, hq⟩ := hs
  have hgt : neg1 < blockMax L := lt_of_lt_of_le (I.neg1_lt_score q) (by rw [← h.yes q hq]; exact hle _)
  have hf : flat i < 20000 := by
    by_contra hf
    rw [hm, h.pad i (by omega)] at hgt
    exact lt_irrefl _ hgt
  have hi : pos ⟨flat i, hf⟩ = i := pos_of_flat hf
  have hl : live ⟨flat i, hf⟩ := by
    by_contra hl
    rw [hm, ← hi, h.no _ hl] at hgt
    exact lt_irrefl _ hgt
  have hsc : blockMax L = I.score ⟨flat i, hf⟩ := by rw [hm, ← h.yes _ hl, hi]
  refine ⟨⟨flat i, hf⟩, ⟨fun _ => hl, fun j hj => ?_⟩, ha, ne_of_gt hgt⟩
  have hj := hj ⟨q, hq⟩
  have hjs := h.yes j hj
  rw [← hsc]
  rcases lt_or_eq_of_le (hle (pos j)) with a | a
  · exact .inl (by rw [← hjs]; exact a)
  · refine .inr ⟨by rw [← hjs]; exact a, ?_⟩
    have := hmin (pos j) (a.trans hm)
    rw [flat_pos] at this
    exact this

variable (I) in
/-- The eleven blocks hold the inputs' columns at the boxes' positions. -/
structure Reads (x0 x1 x2 x3 x4 x5 x6 x7 x8 x9 x10 : Vec Ideal S160x128 .f32) : Prop where
  h0 : ∀ n, (x0 (pos n) : EReal) = I.score n
  h1 : ∀ n, (x1 (pos n) : EReal) = I.Y n 0
  h2 : ∀ n, (x2 (pos n) : EReal) = I.Y n 1
  h3 : ∀ n, (x3 (pos n) : EReal) = I.Y n 2
  h4 : ∀ n, (x4 (pos n) : EReal) = I.Y n 3
  h5 : ∀ n, (x5 (pos n) : EReal) = I.Y n 4
  h6 : ∀ n, (x6 (pos n) : EReal) = I.Y n 5
  h7 : ∀ n, (x7 (pos n) : EReal) = I.Y n 8
  h8 : ∀ n, (x8 (pos n) : EReal) = I.Y n 9
  h9 : ∀ n, (x9 (pos n) : EReal) = I.A n 0
  h10 : ∀ n, (x10 (pos n) : EReal) = I.A n 1

variable (I) in
/-- The arrays the loop takes hold the boxes' numbers at the boxes' positions. -/
structure EnvIs (e : Env Ideal) : Prop where
  v1 : ∀ n, (e.v1 (pos n) : EReal) = I.score n
  v28 : ∀ n, (e.v28 (pos n) : EReal) = I.ca 4 0 n
  v33 : ∀ n, (e.v33 (pos n) : EReal) = I.ca 5 1 n
  v38 : ∀ n, (e.v38 (pos n) : EReal) = I.ca 8 0 n
  v43 : ∀ n, (e.v43 (pos n) : EReal) = I.ca 9 1 n
  v48 : ∀ n, (e.v48 (pos n) : EReal) = I.x1 n
  v49 : ∀ n, (e.v49 (pos n) : EReal) = I.x2 n
  v50 : ∀ n, (e.v50 (pos n) : EReal) = I.y1 n
  v51 : ∀ n, (e.v51 (pos n) : EReal) = I.y2 n
  v54 : ∀ n, (e.v54 (pos n) : EReal) = I.area n
  v59 : e.v59 = k0_pay38
  v77 : ∃ t, IsPick I.score (fun _ => True) t ∧ e.v77 = BitVec.ofNat 32 t.val
  v78 : e.v78 = iota Kind.tc S8x128 32 [1] iota_S8x128_d1_w32
  v79 : e.v79 = iota Kind.tc S8x128 32 [0] iota_S8x128_d0_w32
  cst : e.cst = FloatOps.ofBits FTy.f32 3212836864#32

section
variable {x0 x1 x2 x3 x4 x5 x6 x7 x8 x9 x10 : Vec Ideal S160x128 .f32} (h : Reads I x0 x1 x2 x3 x4 x5 x6 x7 x8 x9 x10)
include h

theorem live0_apply (x0 : Vec Ideal S160x128 .f32) (i : S160x128.Idx) : (live0 x0 i : EReal) = if flat i < 20000 then x0 i else neg1 := by
  unfold live0 k0_pay1 k0_pay20
  simp only [shapeCast_self]
  show (if k0_pay39 i = 1 then (x0 i : EReal) else neg1) = _
  rw [pay39_apply]
  by_cases hf : flat i < 20000
  · simp [hf]
  · simp [hf]

theorem live0_is : LiveIs I (live0 x0) (fun _ => True) where
  yes n _ := by rw [live0_apply h, if_pos (by rw [flat_pos]; exact n.isLt)]; exact h.h0 n
  no n hn := absurd trivial hn
  pad i hi := by rw [live0_apply h, if_neg (by omega)]

omit h in
theorem pay40_apply (v1 : FVec Ideal S160x128 .f32) : extractAt ![0, 0, 0] (k0_pay40 v1) inpos_S1x1x1_p0_0_0
    = blockArg (select k0_pay39 v1 (broadcast S160x128 (FloatOps.ofBits FTy.f32 3212836864#32))) := by
  unfold k0_pay40 blockArg blockMin blockMax
  dsimp only

theorem env_is : EnvIs I (envOf x0 x1 x2 x3 x4 x5 x6 x7 x8 x9 x10) where
  v1 n := by show (shapeCast S160x128 x0 _ (pos n) : EReal) = _; rw [shapeCast_self]; exact h.h0 n
  v28 n := by
    unfold envOf k0_pay27 k0_pay21; simp only [shapeCast_self]
    show (x5 (pos n) : EReal) * inv + x9 (pos n) = _
    rw [h.h5, h.h9]; rfl
  v33 n := by
    unfold envOf k0_pay28 k0_pay22; simp only [shapeCast_self]
    show (x6 (pos n) : EReal) * inv + x10 (pos n) = _
    rw [h.h6, h.h10]; rfl
  v38 n := by
    unfold envOf k0_pay29 k0_pay21; simp only [shapeCast_self]
    show (x7 (pos n) : EReal) * inv + x9 (pos n) = _
    rw [h.h7, h.h9]; rfl
  v43 n := by
    unfold envOf k0_pay30 k0_pay22; simp only [shapeCast_self]
    show (x8 (pos n) : EReal) * inv + x10 (pos n) = _
    rw [h.h8, h.h10]; rfl
  v48 n := by
    unfold envOf k0_pay33 k0_pay23 k0_pay21 k0_pay25 k0_pay31; simp only [shapeCast_self]
    show ((x1 (pos n) : EReal) * inv + x9 (pos n)) - (x3 (pos n) : EReal) * inv * half = _
    rw [h.h1, h.h9, h.h3]; rfl
  v49 n := by
    unfold envOf k0_pay34 k0_pay23 k0_pay21 k0_pay25 k0_pay31; simp only [shapeCast_self]
    show ((x1 (pos n) : EReal) * inv + x9 (pos n)) + (x3 (pos n) : EReal) * inv * half = _
    rw [h.h1, h.h9, h.h3]; rfl
  v50 n := by
    unfold envOf k0_pay35 k0_pay24 k0_pay22 k0_pay26 k0_pay32; simp only [shapeCast_self]
    show ((x2 (pos n) : EReal) * inv + x10 (pos n)) - (x4 (pos n) : EReal) * inv * half = _
    rw [h.h2, h.h10, h.h4]; rfl
  v51 n := by
    unfold envOf k0_pay36 k0_pay24 k0_pay22 k0_pay26 k0_pay32; simp only [shapeCast_self]
    show ((x2 (pos n) : EReal) * inv + x10 (pos n)) + (x4 (pos n) : EReal) * inv * half = _
    rw [h.h2, h.h10, h.h4]; rfl
  v54 n := by
    unfold envOf k0_pay37 k0_pay34 k0_pay33 k0_pay36 k0_pay35 k0_pay23 k0_pay21 k0_pay24 k0_pay22 k0_pay25 k0_pay26 k0_pay31 k0_pay32; simp only [shapeCast_self]
    show ((((x1 (pos n) : EReal) * inv + x9 (pos n)) + (x3 (pos n) : EReal) * inv * half)
      - (((x1 (pos n) : EReal) * inv + x9 (pos n)) - (x3 (pos n) : EReal) * inv * half))
      * ((((x2 (pos n) : EReal) * inv + x10 (pos n)) + (x4 (pos n) : EReal) * inv * half)
      - (((x2 (pos n) : EReal) * inv + x10 (pos n)) - (x4 (pos n) : EReal) * inv * half)) = _
    rw [h.h1, h.h9, h.h3, h.h2, h.h10, h.h4]; rfl
  v59 := rfl
  v77 := by
    obtain ⟨p, hp, ha, -⟩ := (live0_is h).arg ⟨0, trivial⟩
    refine ⟨p, hp, ?_⟩
    rw [← ha]
    unfold envOf
    dsimp only
    rw [pay40_apply (k0_pay20 x0)]
    unfold live0 k0_pay1
    simp only [shapeCast_self]
  v78 := rfl
  v79 := rfl
  cst := rfl

end

section
variable {e : Env Ideal} (he : EnvIs I e) {L : Vec Ideal S160x128 .f32} {live : Box → Prop} (hL : LiveIs I L live)

theorem cmpi_eq_apply (a b : BitVec 32) : IntOp.cmpi .eq a b = if a = b then 1#1 else 0#1 := by
  show BitVec.ofBool (a == b) = _
  by_cases h : a = b
  · simp [h]
  · rw [if_neg h, beq_eq_false_iff_ne.2 h]; rfl

theorem ofNat_inj {a b : ℕ} (ha : a < 2 ^ 32) (hb : b < 2 ^ 32) (h : BitVec.ofNat 32 a = BitVec.ofNat 32 b) : a = b := by
  have := congrArg BitVec.toNat h
  simp only [BitVec.toNat_ofNat] at this
  omega

theorem cmpi_bc (a : IVec S160x128 32) (w : BitVec 32) (i : S160x128.Idx) : cmpi .eq a (broadcast S160x128 w) i = IntOp.cmpi .eq (a i) w := rfl

theorem pay4_apply (v59 : IVec S160x128 32) (v77 c : BitVec 32) (cst : Ideal .f32) (L : Vec Ideal S160x128 .f32) (i : S160x128.Idx) :
    k0_pay4 v59 v77 c cst L i = IntOp.cmpi .eq (v59 i) (Scalar.select (Scalar.cmpf .oeq (blockMax L) cst) v77
      (blockMin (select (cmpf (F := Ideal) (φ := .f32) .oeq L (broadcast S160x128 (blockMax L))) v59 (broadcast S160x128 c)))) := by
  have h : k0_pay4 v59 v77 c cst L = cmpi .eq v59 (broadcast S160x128 (Scalar.select (Scalar.cmpf .oeq (blockMax L) cst) v77
      (blockMin (select (cmpf (F := Ideal) (φ := .f32) .oeq L (broadcast S160x128 (blockMax L))) v59 (broadcast S160x128 c))))) := by
    unfold k0_pay4 blockMin blockMax
    with_reducible rfl
  rw [h, cmpi_bc]

theorem cmpf_oeq (a b : EReal) : Scalar.cmpf (F := Ideal) (φ := .f32) .oeq a b = BitVec.ofBool (decide (a = b)) := rfl

include he hL in
/-- A trip's mask is one at the pick and nowhere else. -/
theorem mask_is : ∃ p, IsPick I.score live p ∧ ∀ i, e.mask L i = if i = pos p then 1#1 else 0#1 := by
  have hm : ∀ i, e.mask L i = IntOp.cmpi .eq (k0_pay38 i)
      (Scalar.select (Scalar.cmpf .oeq (blockMax L : Ideal .f32) e.cst) e.v77 (blockArg L)) := fun i => by
    unfold Env.mask blockArg; rw [he.v59]; exact pay4_apply _ _ _ _ _ _
  have fin : ∀ p : Box, Scalar.select (Scalar.cmpf .oeq (blockMax L : Ideal .f32) e.cst) e.v77 (blockArg L) = BitVec.ofNat 32 p.val →
      ∀ i, e.mask L i = if i = pos p then 1#1 else 0#1 := fun p hp i => by
    rw [hm, hp, pay38_apply, cmpi_eq_apply]
    by_cases h : i = pos p
    · rw [if_pos h, if_pos (by rw [h, flat_pos])]
    · rw [if_neg h, if_neg fun h' => h ?_]
      apply flat_inj
      rw [flat_pos]
      have := flat_lt i; have := p.isLt
      exact ofNat_inj (by omega) (by omega) h'
  have hc : Scalar.cmpf .oeq (blockMax L : Ideal .f32) e.cst = BitVec.ofBool (decide (blockMax L = neg1)) := by rw [he.cst, cmpf_oeq]; rfl
  by_cases hs : ∃ i, live i
  · obtain ⟨p, hp, ha, hne⟩ := hL.arg hs
    refine ⟨p, hp, fin p ?_⟩
    rw [hc, decide_eq_false hne, ha]; rfl
  · obtain ⟨t, ht, hv⟩ := he.v77
    refine ⟨t, ⟨fun h => absurd h hs, fun j _ => ht.2 j fun _ => trivial⟩, fin t ?_⟩
    rw [hc, decide_eq_true (hL.max_none hs), hv]; rfl

variable {p : Box} (hp : ∀ i, e.mask L i = if i = pos p then 1#1 else 0#1)

include he hp in
/-- The picked box's corners. -/
theorem px1_is : (e.px1 L : EReal) = I.x1 p := (blockMax_masked _ _ hp e.v48).trans (he.v48 p)
include he hp in
theorem py1_is : (e.py1 L : EReal) = I.y1 p := (blockMax_masked _ _ hp e.v50).trans (he.v50 p)
include he hp in
theorem px2_is : (e.px2 L : EReal) = I.x2 p := (blockMax_masked _ _ hp e.v49).trans (he.v49 p)
include he hp in
theorem py2_is : (e.py2 L : EReal) = I.y2 p := (blockMax_masked _ _ hp e.v51).trans (he.v51 p)

theorem and_not (P Q : Prop) [Decidable P] [Decidable Q] :
    IntOp.andi (BitVec.ofBool (decide P)) (IntOp.xori (if Q then 1#1 else 0#1) 1#1) = if P ∧ ¬ Q then 1#1 else 0#1 := by
  by_cases hP : P <;> by_cases hQ : Q <;> simp [hP, hQ, IntOp.andi, IntOp.xori]

theorem pay17_apply (cst : Ideal .f32) (L : Vec Ideal S160x128 .f32) (m : IVec S160x128 1) (v t : FVec Ideal S160x128 .f32) (i : S160x128.Idx) :
    (k0_pay17 cst L m v t i : EReal) = Scalar.select (IntOp.andi (BitVec.ofBool (decide ((v i : EReal) ≤ t i))) (IntOp.xori (m i) 1#1)) (L i : EReal) (cst : EReal) := by
  unfold k0_pay17
  simp only [shapeCast_self]
  rfl

theorem pay16_apply (i : S160x128.Idx) : (k0_pay16 (F := Ideal) i : EReal) = thr := by
  unfold k0_pay16 thr; rfl

theorem pay15_apply (v48 v49 v50 v51 v54 : FVec Ideal S160x128 .f32) (a b c d : Ideal .f32) (i : S160x128.Idx) :
    (k0_pay15 v48 v49 v50 v51 v54 a b c d i : EReal) =
    Ideal.div (max (min (c : EReal) (v49 i) - max (a : EReal) (v48 i)) zero * max (min (d : EReal) (v51 i) - max (b : EReal) (v50 i)) zero)
      (((((c : EReal) - a) * ((d : EReal) - b)) + v54 i)
      - max (min (c : EReal) (v49 i) - max (a : EReal) (v48 i)) zero * max (min (d : EReal) (v51 i) - max (b : EReal) (v50 i)) zero) := by
  unfold k0_pay15 zero; rfl

/-- The new live array at a position. -/
theorem live_apply (i : S160x128.Idx) : (e.live L i : EReal) =
    Scalar.select (IntOp.andi (BitVec.ofBool (decide ((k0_pay15 e.v48 e.v49 e.v50 e.v51 e.v54 (e.px1 L) (e.py1 L) (e.px2 L) (e.py2 L) i : EReal) ≤ thr)))
      (IntOp.xori (e.mask L i) 1#1)) (L i) (e.cst : EReal) := by
  unfold Env.live
  rw [pay17_apply, pay16_apply]

include he hp in
/-- The overlap of a box with the pick. -/
theorem iou_is (n : Box) :
    (k0_pay15 e.v48 e.v49 e.v50 e.v51 e.v54 (e.px1 L) (e.py1 L) (e.px2 L) (e.py2 L) (pos n) : EReal) = I.iou p n := by
  rw [pay15_apply]
  rw [px1_is he hp, px2_is he hp, py1_is he hp, py2_is he hp, he.v48, he.v49, he.v50, he.v51, he.v54]
  rfl

open Classical in
include he hL hp in
/-- The live array after a trip: the boxes that survive the pick. -/
theorem live_is : LiveIs I (e.live L) (fun j => (live j ∧ I.ok p j) ∧ j ≠ p) := by
  have hc : (e.cst : EReal) = neg1 := by rw [he.cst]; rfl
  have key : ∀ n, (e.live L (pos n) : EReal) = if I.ok p n ∧ n ≠ p then (L (pos n) : EReal) else neg1 := fun n => by
    rw [live_apply, iou_is he hp, hp, and_not, hc]
    have hq : (pos n = pos p) = (n = p) := propext ⟨fun h => Fin.ext (by rw [← flat_pos n, h, flat_pos]), fun h => by rw [h]⟩
    by_cases h : I.iou p n ≤ thr ∧ ¬ (n = p)
    · rw [if_pos (by rw [hq]; exact h), if_pos (by exact h)]; rfl
    · rw [if_neg (by rw [hq]; exact h), if_neg (by exact h)]; rfl
  refine ⟨fun n hn => ?_, fun n hn => ?_, fun i hi => ?_⟩
  · rw [key, if_pos ⟨hn.1.2, hn.2⟩]; exact hL.yes n hn.1.1
  · rw [key]
    split
    · rename_i h
      exact hL.no n fun hl => hn ⟨⟨hl, h.1⟩, h.2⟩
    · rfl
  · rw [live_apply, hc, hL.pad i hi]
    unfold Scalar.select; split <;> rfl

theorem pay18_apply (v79 : IVec S8x128 32) (a b c d x0 x1 x2 x3 x4 : Ideal .f32) (i : S8x128.Idx) :
    (k0_pay18 v79 a b c d x0 x1 x2 x3 x4 i : EReal) =
      Scalar.select (IntOp.cmpi .eq (v79 i) 0#32) (x4 : EReal)
      (Scalar.select (IntOp.cmpi .eq (v79 i) 1#32) (((a : EReal) + c) * half)
      (Scalar.select (IntOp.cmpi .eq (v79 i) 2#32) (((b : EReal) + d) * half)
      (Scalar.select (IntOp.cmpi .eq (v79 i) 3#32) ((c : EReal) - a)
      (Scalar.select (IntOp.cmpi .eq (v79 i) 4#32) (x0 : EReal)
      (Scalar.select (IntOp.cmpi .eq (v79 i) 5#32) (x1 : EReal)
      (Scalar.select (IntOp.cmpi .eq (v79 i) 6#32) (x2 : EReal) (x3 : EReal))))))) := by
  unfold k0_pay18 half; rfl

include he hp in
/-- The column a trip writes is the picked box's row. -/
theorem col_is (hI : I.Finite) (r : Fin 8) (l : Fin 128) : (e.col L (ix2 r l) : EReal) = I.row p r := by
  have h3 : (k0_pay10 (k0_pay9 e.v28 e.v59 e.v77 1073741824#32 e.cst L) : EReal) = I.ca 4 0 p := (blockMax_masked _ _ hp e.v28).trans (he.v28 p)
  have h4 : (k0_pay11 e.v33 (e.mask L) : EReal) = I.ca 5 1 p := (blockMax_masked _ _ hp e.v33).trans (he.v33 p)
  have h5 : (k0_pay12 e.v38 (e.mask L) : EReal) = I.ca 8 0 p := (blockMax_masked _ _ hp e.v38).trans (he.v38 p)
  have h6 : (k0_pay13 e.v43 (e.mask L) : EReal) = I.ca 9 1 p := (blockMax_masked _ _ hp e.v43).trans (he.v43 p)
  have h7 : (k0_pay14 e.v1 (e.mask L) : EReal) = I.score p := (blockMax_masked _ _ hp e.v1).trans (he.v1 p)
  have hx := px1_is he hp
  have hx' := px2_is he hp
  have hy := py1_is he hp
  have hy' := py2_is he hp
  have hc : ∀ a b : EReal, ∀ r : Fin 8, ∀ k : ℕ, k < 8 →
      Scalar.select (IntOp.cmpi .eq (BitVec.ofNat 32 (0 * S8x128.size 0 + r.val)) (BitVec.ofNat 32 k)) a b = if r.val = k then a else b := fun a b r k hk => by
    rw [cmpi_eq_apply]
    by_cases h : r.val = k
    · rw [if_pos h, if_pos (by rw [h]; simp)]; rfl
    · rw [if_neg h, if_neg fun h' => h ?_]
      · rfl
      · have := r.isLt
        have := ofNat_inj (by omega) (by omega) h'
        omega
  have hcol : (e.col L (ix2 r l) : EReal) =
      if r.val = 0 then (k0_pay14 e.v1 (e.mask L) : EReal) else
      if r.val = 1 then ((e.px1 L : EReal) + e.px2 L) * half else
      if r.val = 2 then ((e.py1 L : EReal) + e.py2 L) * half else
      if r.val = 3 then (e.px2 L : EReal) - e.px1 L else
      if r.val = 4 then (k0_pay10 (k0_pay9 e.v28 e.v59 e.v77 1073741824#32 e.cst L) : EReal) else
      if r.val = 5 then (k0_pay11 e.v33 (e.mask L) : EReal) else
      if r.val = 6 then (k0_pay12 e.v38 (e.mask L) : EReal) else (k0_pay13 e.v43 (e.mask L) : EReal) := by
    rw [← hc _ _ r 0 (by omega), ← hc _ _ r 1 (by omega), ← hc _ _ r 2 (by omega), ← hc _ _ r 3 (by omega), ← hc _ _ r 4 (by omega),
      ← hc _ _ r 5 (by omega), ← hc _ _ r 6 (by omega)]
    unfold Env.col
    rw [he.v79, pay18_apply, show iota Kind.tc S8x128 32 [0] iota_S8x128_d0_w32 (ix2 r l) = BitVec.ofNat 32 (0 * S8x128.size 0 + r.val) from rfl]
  rw [hcol, h3, h4, h5, h6, h7, hx, hx', hy, hy']
  have m0 : (I.x1 p + I.x2 p) * half = I.ca 0 0 p := mid (hI.Y0 p) (hI.A0 p) (hI.Y2 p)
  have m1 : (I.y1 p + I.y2 p) * half = I.ca 1 1 p := mid (hI.Y1 p) (hI.A1 p) (hI.Y3 p)
  have m2 : I.x2 p - I.x1 p = I.cw 2 p := wid (hI.Y0 p) (hI.A0 p) (hI.Y2 p)
  rw [m0, m1, m2]
  fin_cases r <;> rfl

include he in
/-- The output block after trip `k`: the new column in lane `k`, the rest as it was. -/
theorem out_apply (O : Vec Ideal S8x128 .f32) (k : ℕ) (hk : k < 100) (r : Fin 8) (l : Fin 128) :
    (e.out L O k (ix2 r l) : EReal) = if l.val = k then (e.col L (ix2 r l) : EReal) else O (ix2 r l) := by
  unfold Env.out k0_pay3
  simp only [shapeCast_self]
  have hv : Scf.iv 0#32 1#32 k = BitVec.ofNat 32 k := by
    unfold Scf.iv; apply BitVec.eq_of_toNat_eq; simp
  show Scalar.select (IntOp.cmpi .eq (e.v78 (ix2 r l)) (Scf.iv 0#32 1#32 k)) (e.col L (ix2 r l) : EReal) (O (ix2 r l)) = _
  rw [he.v78, hv, cmpi_eq_apply]
  show Scalar.select (if BitVec.ofNat 32 (0 * S8x128.size 1 + l.val) = BitVec.ofNat 32 k then 1#1 else 0#1) (e.col L (ix2 r l) : EReal) (O (ix2 r l)) = _
  by_cases h : l.val = k
  · rw [if_pos h, if_pos (by rw [h]; simp)]; rfl
  · rw [if_neg h, if_neg fun h' => h ?_]
    · rfl
    · have := l.isLt
      have := ofNat_inj (by omega) (by omega) h'
      omega

end

/-- The loop follows a run of picks, and leaves in lane `k` the row of pick `k`. -/
theorem state_is {e : Env Ideal} (he : EnvIs I e) (hI : I.Finite) {l0 : Vec Ideal S160x128 .f32} (h0 : LiveIs I l0 (fun _ => True)) (o0 : Vec Ideal S8x128 .f32) :
    ∃ live p, Follows I.score I.ok live p ∧ ∀ n, n ≤ 100 → ∀ k : Fin 128, k.val < n → ∀ r : Fin 8, ((e.state l0 o0 n).2 (ix2 r k) : EReal) = I.row (p k.val) r := by
  classical
  let live : ℕ → Box → Prop := fun k => {n | ((e.state l0 o0 k).1 (pos n) : EReal) ≠ neg1}
  have norm : ∀ {L : Vec Ideal S160x128 .f32} {lv : Box → Prop}, LiveIs I L lv → ∀ n, ((L (pos n) : EReal) ≠ neg1 ↔ lv n) := fun {L lv} h n =>
    ⟨fun hne => by by_contra hn; exact hne (h.no n hn), fun hl => by rw [h.yes n hl]; exact ne_of_gt (I.neg1_lt_score n)⟩
  have renorm : ∀ {L : Vec Ideal S160x128 .f32} {lv : Box → Prop}, LiveIs I L lv → LiveIs I L (fun n => (L (pos n) : EReal) ≠ neg1) := fun {L lv} h => by
    have : (fun n => (L (pos n) : EReal) ≠ neg1) = lv := funext fun n => propext (norm h n)
    rw [this]; exact h
  have inv : ∀ k, LiveIs I (e.state l0 o0 k).1 (live k) := by
    intro k
    induction k with
    | zero => exact renorm h0
    | succ k ih =>
      obtain ⟨p, -, hm⟩ := mask_is he ih
      exact renorm (live_is he ih hm)
  choose p hp hm using fun k => mask_is he (inv k)
  refine ⟨live, p, ⟨fun j => (norm h0 j).2 trivial, fun k => ⟨hp k, fun j => norm (live_is he (inv k) (hm k)) j⟩⟩, ?_⟩
  intro n
  induction n with
  | zero => intro _ k hk; exact absurd hk (Nat.not_lt_zero _)
  | succ n ih =>
    intro hn k hk r
    show (e.out (e.state l0 o0 n).1 (e.state l0 o0 n).2 n (ix2 r k) : EReal) = _
    rw [out_apply he _ n (by omega)]
    split
    · rename_i h
      rw [h]
      exact col_is he (hm n) hI r k
    · exact ih (by omega) k (by omega) r

/-- The loop's output block from the eleven input blocks. -/
theorem block_is {x0 x1 x2 x3 x4 x5 x6 x7 x8 x9 x10 : Vec Ideal S160x128 .f32} (h : Reads I x0 x1 x2 x3 x4 x5 x6 x7 x8 x9 x10) (hI : I.Finite)
    (o0 : Vec Ideal S8x128 .f32) : ∃ live p, Follows I.score I.ok live p ∧ ∀ k : Fin 128, k.val < 100 → ∀ r : Fin 8,
      (((envOf x0 x1 x2 x3 x4 x5 x6 x7 x8 x9 x10).state (live0 x0) o0 100).2 (ix2 r k) : EReal) = I.row (p k.val) r := by
  obtain ⟨live, p, hf, ho⟩ := state_is (env_is h) hI (live0_is h) o0
  exact ⟨live, p, hf, ho 100 le_rfl⟩

end Cert.KernelIdeal.Value

end
-- ==== Proof.KerHost.lean ====
/- The kernel program's host lines at the extended reals: what the eleven operands hold at the boxes' positions. -/
module

public import proofs.«01_k».proof.Proof.KerSem
public import Idealize.ShloMosaic.Lib.StableHlo.ReadAt
public import Idealize.ShloMosaic.Lib.KernelVsHost

@[expose] public section

set_option maxRecDepth 16384

noncomputable section

namespace Cert.KernelIdeal.Value

open Idealize.ShloMosaic hiding ix1 ix2 ix3
open Idealize.ShloMosaic.TcCoe Idealize.ShloMosaic.Tactic
open Idealize.SL Idealize.SL.Sem
open Cert.KernelIdeal Cert.KernelIdeal.Gen Cert.Nms Idealize.ShloMosaic.ValueIdx

/-- A padded column laid out as a block holds box `n`'s element at the box's position. -/
theorem padded (x : S20000.Idx → EReal) (v : S_.Idx → EReal) (n : Box) :
    shapeCast S160x128 (pad S20480 ![0] ![480] ![0] x v pads_S20000_S20480_04800 h_S_) shapeCasts_S20480_S160x128 (pos n) = x (ix1 n) := by
  have hn := n.isLt
  refine (shapeCast_apply _ _ (pos n) (ix1 (⟨n.val, by omega⟩ : Fin 20480)) ?_).trans ?_
  · rw [Shape.rowMajor_val_one, Shape.rowMajor_val_two]
    show n.val = n.val / 128 * 128 + n.val % 128
    omega
  · refine pad_apply_of_inside _ _ _ x v _ _ _ (ix1 n) fun a => ?_
    fin_cases a
    show n.val = 0 + n.val * (0 + 1)
    omega

/-- A column's only column. -/
theorem col1 (x : S20000x1.Idx → EReal) (n : Box) : shapeCast S20000 x shapeCasts_S20000x1_S20000 (ix1 n) = x (ix2 n 0) := by
  refine shapeCast_apply _ _ _ (ix2 n 0) ?_
  rw [Shape.rowMajor_val_one, Shape.rowMajor_val_two]
  show n.val * 1 + 0 = n.val
  omega

/-- The second input without its unit axis. -/
theorem row18 (x : S1x20000x18.Idx → EReal) (n : Box) (d : Fin 18) : shapeCast S20000x18 x shapeCasts_S1x20000x18_S20000x18 (ix2 n d) = x (ix3 0 n d) := by
  refine shapeCast_apply _ _ _ (ix3 0 n d) ?_
  rw [Shape.rowMajor_val_three, Shape.rowMajor_val_two]
  show (0 * 20000 + n.val) * 18 + d.val = n.val * 18 + d.val
  omega

/-- The first input without its unit axes. -/
theorem logit (x : S1x20000x1.Idx → EReal) (n : Box) : shapeCast S20000 x shapeCasts_S1x20000x1_S20000 (ix1 n) = x (ix3 0 n 0) := by
  refine shapeCast_apply _ _ _ (ix3 0 n 0) ?_
  rw [Shape.rowMajor_val_three, Shape.rowMajor_val_one]
  show (0 * 20000 + n.val) * 1 + 0 = n.val
  omega

/-- One column of the second input, and of the third. -/
theorem slice18 (x : S20000x18.Idx → EReal) (d : Fin 18) (h : S20000x18.Slices ![0, d.val] S20000x1) (n : Box) :
    extractStridedSlice S20000x1 ![0, d.val] x h (ix2 n 0) = x (ix2 n d) := by
  unfold extractStridedSlice
  refine congrArg x (funext fun a => Fin.ext ?_)
  fin_cases a
  · exact Nat.zero_add _
  · exact Nat.add_zero _
theorem slice2 (x : S20000x2.Idx → EReal) (d : Fin 2) (h : S20000x2.Slices ![0, d.val] S20000x1) (n : Box) :
    extractStridedSlice S20000x1 ![0, d.val] x h (ix2 n 0) = x (ix2 n d) := by
  unfold extractStridedSlice
  refine congrArg x (funext fun a => Fin.ext ?_)
  fin_cases a
  · exact Nat.zero_add _
  · exact Nat.add_zero _

variable (m : (ℓ : Loc nD τ sig) → Buf (Elt Ideal) ℓ) (c : Dev nD)

/-- The inputs as core `c` finds them. -/
def inp : Inp := Inp.of (m (c, Proc.devRef .tc main_arg0)) (m (c, Proc.devRef .tc main_arg1)) (m (c, Proc.devRef .tc main_arg2))

theorem V_v9 (n : Box) : (V m c main_v9 (pos n) : EReal) = (inp m c).score n := by
  unfold V V0
  after_reads_simp
  simp -implicitDefEqProofs only [StableHlo.TRef.toBuf, StableHlo.TRef.ofBuf, cast_cast, cast_eq]
  refine (padded _ _ n).trans ?_
  show Ideal.div one (one + Ideal.exp (-(shapeCast S20000 (m (c, Proc.devRef .tc main_arg0)) shapeCasts_S1x20000x1_S20000 (ix1 n) : EReal))) = _
  rw [logit]
  rfl

theorem V_v13 (n : Box) : (V m c main_v13 (pos n) : EReal) = (inp m c).Y n 0 := by
  unfold V V0
  after_reads_simp
  simp -implicitDefEqProofs only [StableHlo.TRef.toBuf, StableHlo.TRef.ofBuf, cast_cast, cast_eq]
  exact (padded _ _ n).trans ((col1 _ n).trans ((slice18 _ 0 _ n).trans (row18 _ n 0)))
theorem V_v17 (n : Box) : (V m c main_v17 (pos n) : EReal) = (inp m c).Y n 1 := by
  unfold V V0
  after_reads_simp
  simp -implicitDefEqProofs only [StableHlo.TRef.toBuf, StableHlo.TRef.ofBuf, cast_cast, cast_eq]
  exact (padded _ _ n).trans ((col1 _ n).trans ((slice18 _ 1 _ n).trans (row18 _ n 1)))
theorem V_v21 (n : Box) : (V m c main_v21 (pos n) : EReal) = (inp m c).Y n 2 := by
  unfold V V0
  after_reads_simp
  simp -implicitDefEqProofs only [StableHlo.TRef.toBuf, StableHlo.TRef.ofBuf, cast_cast, cast_eq]
  exact (padded _ _ n).trans ((col1 _ n).trans ((slice18 _ 2 _ n).trans (row18 _ n 2)))
theorem V_v25 (n : Box) : (V m c main_v25 (pos n) : EReal) = (inp m c).Y n 3 := by
  unfold V V0
  after_reads_simp
  simp -implicitDefEqProofs only [StableHlo.TRef.toBuf, StableHlo.TRef.ofBuf, cast_cast, cast_eq]
  exact (padded _ _ n).trans ((col1 _ n).trans ((slice18 _ 3 _ n).trans (row18 _ n 3)))
theorem V_v29 (n : Box) : (V m c main_v29 (pos n) : EReal) = (inp m c).Y n 4 := by
  unfold V V0
  after_reads_simp
  simp -implicitDefEqProofs only [StableHlo.TRef.toBuf, StableHlo.TRef.ofBuf, cast_cast, cast_eq]
  exact (padded _ _ n).trans ((col1 _ n).trans ((slice18 _ 4 _ n).trans (row18 _ n 4)))
theorem V_v33 (n : Box) : (V m c main_v33 (pos n) : EReal) = (inp m c).Y n 5 := by
  unfold V V0
  after_reads_simp
  simp -implicitDefEqProofs only [StableHlo.TRef.toBuf, StableHlo.TRef.ofBuf, cast_cast, cast_eq]
  exact (padded _ _ n).trans ((col1 _ n).trans ((slice18 _ 5 _ n).trans (row18 _ n 5)))
theorem V_v37 (n : Box) : (V m c main_v37 (pos n) : EReal) = (inp m c).Y n 8 := by
  unfold V V0
  after_reads_simp
  simp -implicitDefEqProofs only [StableHlo.TRef.toBuf, StableHlo.TRef.ofBuf, cast_cast, cast_eq]
  exact (padded _ _ n).trans ((col1 _ n).trans ((slice18 _ 8 _ n).trans (row18 _ n 8)))
theorem V_v41 (n : Box) : (V m c main_v41 (pos n) : EReal) = (inp m c).Y n 9 := by
  unfold V V0
  after_reads_simp
  simp -implicitDefEqProofs only [StableHlo.TRef.toBuf, StableHlo.TRef.ofBuf, cast_cast, cast_eq]
  exact (padded _ _ n).trans ((col1 _ n).trans ((slice18 _ 9 _ n).trans (row18 _ n 9)))
theorem V_v45 (n : Box) : (V m c main_v45 (pos n) : EReal) = (inp m c).A n 0 := by
  unfold V V0
  after_reads_simp
  simp -implicitDefEqProofs only [StableHlo.TRef.toBuf, StableHlo.TRef.ofBuf, cast_cast, cast_eq]
  exact (padded _ _ n).trans ((col1 _ n).trans (slice2 _ 0 _ n))
theorem V_v49 (n : Box) : (V m c main_v49 (pos n) : EReal) = (inp m c).A n 1 := by
  unfold V V0
  after_reads_simp
  simp -implicitDefEqProofs only [StableHlo.TRef.toBuf, StableHlo.TRef.ofBuf, cast_cast, cast_eq]
  exact (padded _ _ n).trans ((col1 _ n).trans (slice2 _ 1 _ n))

/-! Each operand's block is its whole array. -/

theorem iblk0 (t : Fin cfg0.N) : iblk m c 0 t = V m c main_v9 := by
  obtain rfl := fin_N0 t
  exact Memref.read_access_unit_zero (Elt Ideal) main_v9 (off := fun a => win0_0.index t0_0 a * main_v9.ty.shape.size a) (funext fun a => by fin_cases a <;> decide) _ _
theorem iblk1 (t : Fin cfg0.N) : iblk m c 1 t = V m c main_v13 := by
  obtain rfl := fin_N0 t
  exact Memref.read_access_unit_zero (Elt Ideal) main_v13 (off := fun a => win0_1.index t0_0 a * main_v13.ty.shape.size a) (funext fun a => by fin_cases a <;> decide) _ _
theorem iblk2 (t : Fin cfg0.N) : iblk m c 2 t = V m c main_v17 := by
  obtain rfl := fin_N0 t
  exact Memref.read_access_unit_zero (Elt Ideal) main_v17 (off := fun a => win0_2.index t0_0 a * main_v17.ty.shape.size a) (funext fun a => by fin_cases a <;> decide) _ _
theorem iblk3 (t : Fin cfg0.N) : iblk m c 3 t = V m c main_v21 := by
  obtain rfl := fin_N0 t
  exact Memref.read_access_unit_zero (Elt Ideal) main_v21 (off := fun a => win0_3.index t0_0 a * main_v21.ty.shape.size a) (funext fun a => by fin_cases a <;> decide) _ _
theorem iblk4 (t : Fin cfg0.N) : iblk m c 4 t = V m c main_v25 := by
  obtain rfl := fin_N0 t
  exact Memref.read_access_unit_zero (Elt Ideal) main_v25 (off := fun a => win0_4.index t0_0 a * main_v25.ty.shape.size a) (funext fun a => by fin_cases a <;> decide) _ _
theorem iblk5 (t : Fin cfg0.N) : iblk m c 5 t = V m c main_v29 := by
  obtain rfl := fin_N0 t
  exact Memref.read_access_unit_zero (Elt Ideal) main_v29 (off := fun a => win0_5.index t0_0 a * main_v29.ty.shape.size a) (funext fun a => by fin_cases a <;> decide) _ _
theorem iblk6 (t : Fin cfg0.N) : iblk m c 6 t = V m c main_v33 := by
  obtain rfl := fin_N0 t
  exact Memref.read_access_unit_zero (Elt Ideal) main_v33 (off := fun a => win0_6.index t0_0 a * main_v33.ty.shape.size a) (funext fun a => by fin_cases a <;> decide) _ _
theorem iblk7 (t : Fin cfg0.N) : iblk m c 7 t = V m c main_v37 := by
  obtain rfl := fin_N0 t
  exact Memref.read_access_unit_zero (Elt Ideal) main_v37 (off := fun a => win0_7.index t0_0 a * main_v37.ty.shape.size a) (funext fun a => by fin_cases a <;> decide) _ _
theorem iblk8 (t : Fin cfg0.N) : iblk m c 8 t = V m c main_v41 := by
  obtain rfl := fin_N0 t
  exact Memref.read_access_unit_zero (Elt Ideal) main_v41 (off := fun a => win0_8.index t0_0 a * main_v41.ty.shape.size a) (funext fun a => by fin_cases a <;> decide) _ _
theorem iblk9 (t : Fin cfg0.N) : iblk m c 9 t = V m c main_v45 := by
  obtain rfl := fin_N0 t
  exact Memref.read_access_unit_zero (Elt Ideal) main_v45 (off := fun a => win0_9.index t0_0 a * main_v45.ty.shape.size a) (funext fun a => by fin_cases a <;> decide) _ _
theorem iblk10 (t : Fin cfg0.N) : iblk m c 10 t = V m c main_v49 := by
  obtain rfl := fin_N0 t
  exact Memref.read_access_unit_zero (Elt Ideal) main_v49 (off := fun a => win0_10.index t0_0 a * main_v49.ty.shape.size a) (funext fun a => by fin_cases a <;> decide) _ _

/-- The eleven blocks hold the boxes' numbers at the boxes' positions. -/
theorem reads (t : Fin cfg0.N) : Reads (inp m c) (iblk m c 0 t) (iblk m c 1 t) (iblk m c 2 t) (iblk m c 3 t) (iblk m c 4 t) (iblk m c 5 t) (iblk m c 6 t) (iblk m c 7 t) (iblk m c 8 t) (iblk m c 9 t) (iblk m c 10 t) where
  h0 n := by rw [iblk0]; exact V_v9 m c n
  h1 n := by rw [iblk1]; exact V_v13 m c n
  h2 n := by rw [iblk2]; exact V_v17 m c n
  h3 n := by rw [iblk3]; exact V_v21 m c n
  h4 n := by rw [iblk4]; exact V_v25 m c n
  h5 n := by rw [iblk5]; exact V_v29 m c n
  h6 n := by rw [iblk6]; exact V_v33 m c n
  h7 n := by rw [iblk7]; exact V_v37 m c n
  h8 n := by rw [iblk8]; exact V_v41 m c n
  h9 n := by rw [iblk9]; exact V_v45 m c n
  h10 n := by rw [iblk10]; exact V_v49 m c n

end Cert.KernelIdeal.Value

end
-- ==== Proof.KerRun.lean ====
/- The kernel program's run at the extended reals: its result array holds the hundred picks' rows. -/
module

public import proofs.«01_k».proof.Proof.KerHost

@[expose] public section

set_option maxRecDepth 16384

noncomputable section

namespace Cert.KernelIdeal.Value

open Idealize.ShloMosaic hiding ix1 ix2 ix3
open Idealize.ShloMosaic.TcCoe Idealize.ShloMosaic.Tactic
open Idealize.SL Idealize.SL.Sem
open Cert.KernelIdeal Cert.KernelIdeal.Gen Cert.Nms Idealize.ShloMosaic.ValueIdx

variable (m : (ℓ : Loc nD τ sig) → Buf (Elt Ideal) ℓ) (ρ : Dev nD → PrngReg) (c : Dev nD)

/-- The loop's output block, as contents of the output window's array. -/
abbrev result : Buf (Elt Ideal) ((c.tc : Thread nD τ).loc main_v50) := outsAt0 m c t0_0

/-- The output window's one write-back is the loop's output block. -/
theorem flushed_eq (t : Fin cfg0.N) (_hf : (cfg0.win 11).flush t = true) :
    (dats m 0 c).flushed 11 t = ((cfg0.win 11).blk t).view.read (Elt Ideal) (result m c) := by
  obtain rfl := fin_N0 t
  show (cfg0.win 11).cut (grid0.coords t0_0) ((dats m 0 c).after 11 t0_0) = _
  rw [after0_11]
  have hz' : (fun a => win0_11.index t0_0 a * main_v50.ty.shape.size a) = fun _ => 0 := funext fun a => by fin_cases a <;> decide
  exact (Memref.read_access_unit_zero (Elt Ideal) main_v50 hz' (fun a => by rw [congrFun hz' a]; simp) (result m c)).symm

/-- The output array after the launch is the loop's output block. -/
theorem final_o : (dats m 0 c).arrAt 11 cfg0.N = result m c :=
  (dats m 0 c).arrAt_eq_of_cover 11 (result m c) (flushed_eq m c) fun i => ⟨t0_0, flush0_11 _, by
    show i ∈ ((View.whole main_v50).slice (win0_11.rect t0_0)).set
    rw [View.set_slice_whole, Rect.mem_set_unit]
    intro a
    have h0 : (i 0 : Nat) < 8 := (i 0).isLt
    have h1 : (i 1 : Nat) < 128 := (i 1).isLt
    match a with
    | ⟨0, _⟩ => show win0_11.index t0_0 0 * win0_11.size 0 ≤ (i 0 : Nat) ∧ (i 0 : Nat) < win0_11.index t0_0 0 * win0_11.size 0 + win0_11.xsize (grid0.coords t0_0) 0
                rw [show win0_11.index t0_0 0 * win0_11.size 0 = 0 from by decide +kernel, show win0_11.xsize (grid0.coords t0_0) 0 = 8 from by decide +kernel]; omega
    | ⟨1, _⟩ => show win0_11.index t0_0 1 * win0_11.size 1 ≤ (i 1 : Nat) ∧ (i 1 : Nat) < win0_11.index t0_0 1 * win0_11.size 1 + win0_11.xsize (grid0.coords t0_0) 1
                rw [show win0_11.index t0_0 1 * win0_11.size 1 = 0 from by decide +kernel, show win0_11.xsize (grid0.coords t0_0) 1 = 128 from by decide +kernel]; omega⟩

/-- The last two host lines: the first hundred columns, transposed. -/
def cut (x : S8x128.Idx → EReal) : S100x8.Idx → EReal :=
  transpose S100x8 [1, 0] (extractStridedSlice S8x100 ![0, 0] x slices_S8x128_S8x100_0_0) transposes_S8x100_S100x8_1_0

/-- The cut at a pick and a column of its row. -/
theorem cut_apply (x : S8x128.Idx → EReal) (k : Fin 100) (r : Fin 8) : cut x (ix2 k r) = x (ix2 r ⟨k.val, by omega⟩) := by
  unfold cut
  refine (transpose_apply _ _ _ _ (ix2 r k) ?_).trans ?_
  · intro a
    fin_cases a <;> rfl
  · unfold extractStridedSlice
    refine congrArg x (funext fun a => Fin.ext ?_)
    fin_cases a
    · exact Nat.zero_add _
    · exact Nat.zero_add _

/-- What the run leaves in the result array. -/
theorem tail_eq : Pipeline.afterTail₀ cfgs (dats m) 0 (V0 m) [hostOps1] c main_v52 = cut (outsAt0 m c t0_0) := by
  unfold Pipeline.afterTail₀
  show StableHlo.after hostOps1 (Pipeline.withArrays spec0 c (V0 m c) fun w => (dats m 0 c).arrAt w cfg0.N) (Proc.devRef .tc main_v52) = _
  after_reads_simp
  rw [show Pipeline.withArrays spec0 c (V0 m c) (fun w => (dats m 0 c).arrAt w cfg0.N) (Proc.devRef .tc main_v50) = result m c from
    (Pipeline.withArrays_arr spec0 winFacts0.arr_inj c (V0 m c) (fun w => (dats m 0 c).arrAt w cfg0.N) 11).trans (final_o m c)]
  rfl

/-- The kernel program's run: it ends with the result array at the picks' rows and its arguments unchanged. -/
theorem run : θ_run (defs (F := Ideal)) (onTc (τ := τ) (main (F := Ideal))) ⟨m, fun _ => 0, ρ⟩ fun r => ∀ c : Dev nD,
      r.2.mem ((c.tc : Thread nD τ).loc main_v52) = cut (outsAt0 m c t0_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v52 (Pipeline.mem_restRefs_of main_v52 (by decide) (by decide))).trans (tail_eq m c), h.2 c⟩)
    (θ_run_and (run_main m ρ) (unchanged m ρ))

/-- The result array's rows are the rows of the greedy picks. -/
theorem result_is (hI : (inp m c).Finite) : ∃ live p, Follows (inp m c).score (inp m c).ok live p ∧
    ∀ (k : Fin 100) (r : Fin 8), cut (outsAt0 m c t0_0) (ix2 k r) = (inp m c).row (p k.val) r := by
  obtain ⟨live, p, hf, ho⟩ := block_is (reads m c t0_0) hI (k0_pay2 (F := Ideal))
  refine ⟨live, p, hf, fun k r => ?_⟩
  rw [cut_apply]
  unfold outsAt0
  rw [out_eq]
  exact ho ⟨k.val, by omega⟩ k.isLt r

end Cert.KernelIdeal.Value

end
-- ==== Proof.RefSort.lean ====
/- The reference's order of the boxes, by descending score and then by number, and its search for the first valid one. -/
module

public import proofs.«01_k».proof.Proof.Core
public import proofs.«01_k».proof.Proof.KerRed
public import proofs.«01_k».proof.Proof.RefRun
public import Idealize.ShloMosaic.Lib.SortFacts
public import Idealize.ShloMosaic.PureOps.Reduce

@[expose] public section

set_option maxRecDepth 16384

noncomputable section

namespace Cert.ReferenceIdeal.Value

open Idealize.ShloMosaic
open Cert.ReferenceIdeal Cert.Nms Idealize.ShloMosaic.ValueIdx

/-! ## The stable sort -/

section sort
variable {ι : Type} [LinearOrder ι] (R : ι → ι → Bool)

/-- `b` stands properly before `c`: `c` is not strictly before it, and it is strictly before `c` or an earlier position. -/
def Before (b c : ι) : Prop := R c b = false ∧ (R b c = true ∨ b < c)

/-- Inserting a position below all the list's keeps the list properly ordered. -/
theorem pairwise_insert (hR : ∀ a b c, R a b = false → R b c = false → R a c = false) (hA : ∀ a b, R a b = true → R b a = false) (a : ι) (l : List ι)
    (ha : ∀ b ∈ l, a < b) (hl : l.Pairwise (Before R)) : (insertBefore R a l).Pairwise (Before R) := by
  induction l with
  | nil => exact List.pairwise_singleton _ _
  | cons b l ih =>
    rw [List.pairwise_cons] at hl
    unfold insertBefore
    split
    · rename_i h
      refine List.pairwise_cons.2 ⟨fun c hc => ?_, ih (fun c hc => ha c (List.mem_cons_of_mem _ hc)) hl.2⟩
      rcases List.mem_cons.1 ((perm_insertBefore R a l).mem_iff.1 hc) with rfl | hc
      · exact ⟨hA _ _ h, .inl h⟩
      · exact hl.1 c hc
    · rename_i h
      have h : R b a = false := by simpa using h
      refine List.pairwise_cons.2 ⟨fun c hc => ?_, List.pairwise_cons.2 hl⟩
      rcases List.mem_cons.1 hc with rfl | hc'
      · exact ⟨h, .inr (ha _ hc)⟩
      · exact ⟨hR _ _ _ (hl.1 c hc').1 h, .inr (ha _ hc)⟩

/-- The stable sort of an ascending list is properly ordered. -/
theorem pairwise_sort (hR : ∀ a b c, R a b = false → R b c = false → R a c = false) (hA : ∀ a b, R a b = true → R b a = false) (l : List ι)
    (hl : l.Pairwise (· < ·)) : (stableSort R l).Pairwise (Before R) := by
  induction l with
  | nil => exact List.Pairwise.nil
  | cons a l ih =>
    rw [List.pairwise_cons] at hl
    unfold stableSort
    exact pairwise_insert R hR hA a _ (fun b hb => hl.1 b ((perm_stableSort R l).mem_iff.1 hb)) (ih hl.2)

end sort

/-- The box at a position of the order by descending score. -/
def ord (s : Box → EReal) : Box → Box := sortedFrom fun a b => decide (s b < s a)

theorem ord_surj (s : Box → EReal) : Function.Surjective (ord s) := sortedFrom_surjective _
theorem ord_inj (s : Box → EReal) : Function.Injective (ord s) := sortedFrom_injective _

/-- The same for any number of positions. -/
theorem sorted_pair {n : ℕ} (s : Fin n → EReal) {i j : Fin n} (h : i < j) :
    Before (fun a b : Fin n => decide (s b < s a)) (sortedFrom (fun a b => decide (s b < s a)) i) (sortedFrom (fun a b => decide (s b < s a)) j) :=
  List.pairwise_iff_get.1 (pairwise_sort (fun a b : Fin n => decide (s b < s a))
      (fun a b c hab hbc => by simp only [decide_eq_false_iff_not, not_lt] at hab hbc ⊢; exact le_trans hab hbc)
      (fun a b hab => by simp only [decide_eq_true_eq, decide_eq_false_iff_not, not_lt] at hab ⊢; exact hab.le)
      (List.finRange n) (List.pairwise_lt_finRange n)) (i.cast (length_sortPositions n _).symm) (j.cast (length_sortPositions n _).symm) h

/-- Of two positions the earlier holds the box of greater score or, the scores equal, the earlier box. -/
theorem ord_pair (s : Box → EReal) {i j : Box} (h : i < j) : s (ord s j) < s (ord s i) ∨ (s (ord s j) = s (ord s i) ∧ ord s i < ord s j) := by
  obtain ⟨h1, h2⟩ := sorted_pair s h
  simp only [decide_eq_false_iff_not, not_lt, decide_eq_true_eq] at h1 h2
  change s (ord s j) ≤ s (ord s i) at h1
  change s (ord s j) < s (ord s i) ∨ ord s i < ord s j at h2
  rcases h1.lt_or_eq with e | e
  · exact .inl e
  · exact .inr ⟨e, h2.resolve_left (by rw [e]; exact lt_irrefl _)⟩

/-- The sort's comparator compares the keys. -/
theorem comparator_apply (a b : EReal × BitVec 32) :
    comparator_f32_i32_d0 (F := Ideal) a b = BitVec.ofBool (decide (a.1 < b.1)) := by
  have e : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have h1 : FloatOps.cmpf (F := Ideal) (φ := .f32) .une x x = 0#1 := by simp [Ideal.cmpf_def, Ideal.cmp]
    rw [h1]
    show (if (0#1 : BitVec 1) = 1 then _ else Scalar.select _ _ _) = x
    rw [if_neg (by decide)]
    show (if BitVec.ofBool (decide (x = FloatOps.ofBits (F := Ideal) .f32 0x00000000#32)) = 1 then _ else x) = x
    by_cases h : x = FloatOps.ofBits (F := Ideal) .f32 0x00000000#32
    · rw [decide_eq_true h]; exact h.symm
    · rw [decide_eq_false h]; rfl
  unfold comparator_f32_i32_d0
  dsimp only
  rw [e, e]
  rfl

/-- The sorted numbers: position `k` holds the number of the box there. -/
theorem order_apply (x : S20000.Idx → EReal) (s : Box → EReal) (h : ∀ n, x (ix1 n) = -(s n)) (k : Box) :
    (Host.sort2 S20000 0 (comparator_f32_i32_d0 (F := Ideal)) x (iotaInDim S20000 32 0)).2 (ix1 k) = BitVec.ofNat 32 (ord s k).val := by
  have ha : ∀ a : Box, (ix1 k : S20000.Idx).along 0 a = ix1 a := fun a => by
    funext t; obtain rfl : t = 0 := Subsingleton.elim _ _; exact Function.update_self _ _ _
  have key : ∀ a : Box, BitVec.ofNat 32 (((ix1 k : S20000.Idx).along 0 a) 0).val = BitVec.ofNat 32 a.val := fun a => by rw [ha a]
  have e : (fun a b : Box => comparator_f32_i32_d0 (F := Ideal) (x ((ix1 k).along 0 a), iotaInDim S20000 32 0 ((ix1 k).along 0 a))
      (x ((ix1 k).along 0 b), iotaInDim S20000 32 0 ((ix1 k).along 0 b)) == 1#1) = fun a b : Box => decide (s b < s a) := by
    funext a b
    rw [comparator_apply, ha, ha]
    show (BitVec.ofBool (decide (x (ix1 a) < x (ix1 b))) == 1#1) = _
    rw [h, h]
    have : (-(s a) < -(s b)) ↔ s b < s a := EReal.neg_lt_neg_iff
    by_cases c : s b < s a
    · rw [decide_eq_true (this.2 c), decide_eq_true c]; rfl
    · rw [decide_eq_false (fun t => c (this.1 t)), decide_eq_false c]; rfl
  show BitVec.ofNat 32 (((ix1 k : S20000.Idx).along 0 (sortedFrom (n := 20000) (fun a b : Box => comparator_f32_i32_d0 (F := Ideal) (x ((ix1 k).along 0 a), iotaInDim S20000 32 0 ((ix1 k).along 0 a))
      (x ((ix1 k).along 0 b), iotaInDim S20000 32 0 ((ix1 k).along 0 b)) == 1#1) k)) 0).val = _
  rw [e]
  exact key _

/-! ## The search -/

/-- A validity bit and a position beat others: the greater bit, or the same bit and no later position. -/
def Beats (a b : BitVec 1 × BitVec 32) : Prop := (a.1 = 1#1 ∧ b.1 = 0#1) ∨ (a.1 = b.1 ∧ a.2.toInt ≤ b.2.toInt)

theorem bit_cases (v : BitVec 1) : v = 0#1 ∨ v = 1#1 := by
  have : ∀ v : BitVec 1, v = 0#1 ∨ v = 1#1 := by decide
  exact this v

/-- One comparison of the search. -/
theorem reducer_apply (a b : BitVec 1 × BitVec 32) : (reducer_argmax_i1_i32 a b = a ∧ Beats a b) ∨ (reducer_argmax_i1_i32 a b = b ∧ Beats b a) := by
  obtain ⟨a1, a2⟩ := a
  obtain ⟨b1, b2⟩ := b
  have hs : IntOp.cmpi .slt a2 b2 = BitVec.ofBool (decide (a2.toInt < b2.toInt)) := rfl
  unfold Beats
  rcases bit_cases a1 with rfl | rfl <;> rcases bit_cases b1 with rfl | rfl
  · by_cases h : a2.toInt < b2.toInt
    · refine .inl ⟨?_, .inr ⟨rfl, h.le⟩⟩
      unfold reducer_argmax_i1_i32
      dsimp only
      rw [hs, decide_eq_true h]; rfl
    · refine .inr ⟨?_, .inr ⟨rfl, not_lt.1 h⟩⟩
      unfold reducer_argmax_i1_i32
      dsimp only
      rw [hs, decide_eq_false h]; rfl
  · refine .inr ⟨?_, .inl ⟨rfl, rfl⟩⟩
    unfold reducer_argmax_i1_i32
    dsimp only
    rw [hs]
    rcases bit_cases (BitVec.ofBool (decide (a2.toInt < b2.toInt))) with h | h <;> rw [h] <;> rfl
  · refine .inl ⟨?_, .inl ⟨rfl, rfl⟩⟩
    unfold reducer_argmax_i1_i32
    dsimp only
    rw [hs]
    rcases bit_cases (BitVec.ofBool (decide (a2.toInt < b2.toInt))) with h | h <;> rw [h] <;> rfl
  · by_cases h : a2.toInt < b2.toInt
    · refine .inl ⟨?_, .inr ⟨rfl, h.le⟩⟩
      unfold reducer_argmax_i1_i32
      dsimp only
      rw [hs, decide_eq_true h]; rfl
    · refine .inr ⟨?_, .inr ⟨rfl, not_lt.1 h⟩⟩
      unfold reducer_argmax_i1_i32
      dsimp only
      rw [hs, decide_eq_false h]; rfl

theorem Beats.refl (a : BitVec 1 × BitVec 32) : Beats a a := .inr ⟨rfl, le_rfl⟩

theorem Beats.trans {a b c : BitVec 1 × BitVec 32} (h : Beats a b) (h' : Beats b c) : Beats a c := by
  rcases h with ⟨h1, h2⟩ | ⟨h1, h2⟩ <;> rcases h' with ⟨k1, k2⟩ | ⟨k1, k2⟩
  · exact .inl ⟨h1, k2⟩
  · exact .inl ⟨h1, k1 ▸ h2⟩
  · exact .inl ⟨h1.trans k1, k2⟩
  · exact .inr ⟨h1.trans k1, h2.trans k2⟩

/-- The search finds the first valid position, or position zero when none is valid. -/
theorem argmax_spec (x : S20000.Idx → BitVec 1) (j : S_.Idx) (hr : S20000.ReducesTo [0] S_) (hu : 0 < S_.numel) : ∃ q : Box,
    (Host.reduce2 reducer_argmax_i1_i32 x (iotaInDim S20000 32 0) (constantI S_ 1 0#1) (constantI S_ 32 0#32) hr hu j).2 = BitVec.ofNat 32 q.val
    ∧ ((x (ix1 q) = 1#1 ∧ ∀ i : Box, x (ix1 i) = 1#1 → q ≤ i) ∨ ((∀ i : Box, x (ix1 i) ≠ 1#1) ∧ q = 0)) := by
  unfold Host.reduce2
  obtain ⟨A, B, C⟩ := Cert.KernelIdeal.Value.foldl_sel reducer_argmax_i1_i32 Beats Beats.refl (fun _ _ _ => Beats.trans)
    (fun a b => by rcases reducer_apply a b with ⟨e, h⟩ | ⟨e, h⟩ <;> rw [e]; exacts [Beats.refl _, h])
    (fun a b => by rcases reducer_apply a b with ⟨e, h⟩ | ⟨e, h⟩ <;> rw [e]; exacts [h, Beats.refl _])
    (fun a b => (reducer_apply a b).imp And.left And.left)
    (fun n => (x (S20000.rowMajor.symm n), iotaInDim S20000 32 0 (S20000.rowMajor.symm n)))
    ((List.finRange S20000.numel).filter fun n => hr.drop (S20000.rowMajor.symm n) = j)
    (constantI S_ 1 0#1 (Shape.Idx.first hu), constantI S_ 32 0#32 (Shape.Idx.first hu))
  generalize List.foldl _ _ _ = w at A B C
  have B' : ∀ i : Box, Beats w (x (ix1 i), BitVec.ofNat 32 i.val) := fun i => by
    have := B (S20000.rowMajor (ix1 i)) (List.mem_filter.2 ⟨List.mem_finRange _, decide_eq_true (funext fun a => a.elim0)⟩)
    rw [Equiv.symm_apply_apply] at this
    exact this
  have hq : ∃ q : Box, w.2 = BitVec.ofNat 32 q.val ∧ (w.1 = 1#1 → x (ix1 q) = 1#1) ∧ (w.1 = 0#1 → q = 0) := by
    rcases C with C | ⟨n, _, C⟩
    · exact ⟨0, by rw [C]; rfl, fun h => by rw [C] at h; exact absurd h (show ¬((0#1 : BitVec 1) = 1#1) by decide), fun _ => rfl⟩
    · obtain ⟨q, hq⟩ : ∃ q : Box, S20000.rowMajor.symm n = ix1 q := ⟨S20000.rowMajor.symm n 0, by
        funext t; obtain rfl : t = 0 := Subsingleton.elim _ _; rfl⟩
      rw [hq] at C
      refine ⟨q, by rw [C]; rfl, fun h => by rw [C] at h; exact h, fun h => ?_⟩
      rcases A with ⟨a, _⟩ | ⟨_, a⟩
      · rw [h] at a; exact absurd a (by decide)
      · rw [C] at a
        change (BitVec.ofNat 32 q.val).toInt ≤ (0#32 : BitVec 32).toInt at a
        rw [Cert.KernelIdeal.Value.toInt_small (by have := q.isLt; omega)] at a
        have a' : ((q.val : ℕ) : ℤ) ≤ 0 := a
        exact Fin.ext (by show q.val = 0; omega)
  obtain ⟨q, hq, h1, h0⟩ := hq
  refine ⟨q, hq, ?_⟩
  rcases bit_cases w.1 with hw | hw
  · refine .inr ⟨fun i hi => ?_, h0 hw⟩
    rcases B' i with ⟨a, _⟩ | ⟨a, _⟩
    · rw [hw] at a; exact absurd a (by decide)
    · rw [hw] at a; change 0#1 = x (ix1 i) at a; rw [hi] at a; exact absurd a (by decide)
  · refine .inl ⟨h1 hw, fun i hi => ?_⟩
    rcases B' i with ⟨_, a⟩ | ⟨_, a⟩
    · change x (ix1 i) = 0#1 at a; rw [hi] at a; exact absurd a (by decide)
    · rw [hq] at a
      change (BitVec.ofNat 32 q.val).toInt ≤ (BitVec.ofNat 32 i.val).toInt at a
      rw [Cert.KernelIdeal.Value.toInt_small (by have := q.isLt; omega), Cert.KernelIdeal.Value.toInt_small (by have := i.isLt; omega)] at a
      exact Fin.le_def.2 (by omega)

/-- The box at the position the search finds is the pick. -/
theorem pick_is (s : Box → EReal) (live : Box → Prop) (v : Box → Prop) (hv : ∀ q, v q ↔ live (ord s q)) (q : Box)
    (h : (v q ∧ ∀ i, v i → q ≤ i) ∨ ((∀ i, ¬v i) ∧ q = 0)) : IsPick s live (ord s q) := by
  have le : ∀ i, q ≤ i → s (ord s i) < s (ord s q) ∨ (s (ord s i) = s (ord s q) ∧ ord s q ≤ ord s i) := fun i hi => by
    rcases hi.lt_or_eq with e | rfl
    · exact (ord_pair s e).imp id fun h => ⟨h.1, h.2.le⟩
    · exact .inr ⟨rfl, le_rfl⟩
  rcases h with ⟨h1, h2⟩ | ⟨h1, rfl⟩
  · refine ⟨fun _ => (hv q).1 h1, fun j hj => ?_⟩
    obtain ⟨i, rfl⟩ := ord_surj s j
    exact le i (h2 i ((hv i).2 (hj ⟨_, (hv q).1 h1⟩)))
  · refine ⟨fun ⟨j, hj⟩ => ?_, fun j _ => ?_⟩
    · obtain ⟨i, rfl⟩ := ord_surj s j
      exact absurd ((hv i).2 hj) (h1 i)
    · obtain ⟨i, rfl⟩ := ord_surj s j
      exact le i (Fin.zero_le _)

end Cert.ReferenceIdeal.Value

end
-- ==== Proof.RefTrip.lean ====
/-
  One trip of the reference program's loop, from any contents of the buffers: each carried buffer's value after the
  trip's operations as a term of the carried buffers before it (`trip_…`), the trip as one step `STEP`, and the buffers
  before the `k`-th test as `STEP` iterated (`atK_agree`).
-/
module

public import proofs.«01_k».proof.Proof.RefRun

@[expose] public section

set_option maxRecDepth 1980

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-! ## One trip's values -/

set_option maxRecDepth 8192 in
/-- `main_while0b_call1_v0`'s composed term of the carried buffers (named: it is used 2 times). -/
def res_main_while0b_call1_v0 (V0 : Valuation τ sig (Elt F)) : (Proc.devRef .tc main_while0b_call1_v0 : DevRef τ sig).ty.Contents (Elt F) :=
  iotaInDim S20000 32 0

set_option maxRecDepth 8192 in
/-- `main_while0b_call1_c`'s composed term of the carried buffers (named: it is used 2 times). -/
def res_main_while0b_call1_c (V0 : Valuation τ sig (Elt F)) : (Proc.devRef .tc main_while0b_call1_c : DevRef τ sig).ty.Contents (Elt F) :=
  constantI S_ 1 0#1

set_option maxRecDepth 8192 in
/-- `main_while0b_call1_c_0`'s composed term of the carried buffers (named: it is used 2 times). -/
def res_main_while0b_call1_c_0 (V0 : Valuation τ sig (Elt F)) : (Proc.devRef .tc main_while0b_call1_c_0 : DevRef τ sig).ty.Contents (Elt F) :=
  constantI S_ 32 0#32

set_option maxRecDepth 8192 in
/-- `main_while0b_v83`'s composed term of the carried buffers (named: it is used 19 times). -/
def res_main_while0b_v83 (V0 : Valuation τ sig (Elt F)) : (Proc.devRef .tc main_while0b_v83 : DevRef τ sig).ty.Contents (Elt F) :=
  (fun j => (Host.reduce2 reducer_argmax_i1_i32 (V0 (Proc.devRef .tc main_v41_7)) (res_main_while0b_call1_v0 V0) (res_main_while0b_call1_c V0) (res_main_while0b_call1_c_0 V0) reducesTo_S20000_S_d0 h_S_ j).2)

set_option maxRecDepth 8192 in
/-- `main_while0b_v124`'s composed term of the carried buffers (named: it is used 2 times). -/
def res_main_while0b_v124 (V0 : Valuation τ sig (Elt F)) : (Proc.devRef .tc main_while0b_v124 : DevRef τ sig).ty.Contents (Elt F) :=
  mulf (maximumf (subf (minimumf (broadcastInDim S20000 ![] bcast_S_S20000 (shapeCast S_ (Host.dynamicSlice S1 (V0 (Proc.devRef .tc main_v41_2)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_2))) (maximumf (broadcastInDim S20000 ![] bcast_S_S20000 (shapeCast S_ (Host.dynamicSlice S1 (V0 (Proc.devRef .tc main_v41_0)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_0)))) (broadcastInDim S20000 ![] bcast_S_S20000 (constant S_ .f32 0x00000000#32))) (maximumf (subf (minimumf (broadcastInDim S20000 ![] bcast_S_S20000 (shapeCast S_ (Host.dynamicSlice S1 (V0 (Proc.devRef .tc main_v41_3)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_3))) (maximumf (broadcastInDim S20000 ![] bcast_S_S20000 (shapeCast S_ (Host.dynamicSlice S1 (V0 (Proc.devRef .tc main_v41_1)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_1)))) (broadcastInDim S20000 ![] bcast_S_S20000 (constant S_ .f32 0x00000000#32)))

/-- The device's buffer contents before the body's first window. -/
def val0 (V0 : Valuation τ sig (Elt F)) : Valuation τ sig (Elt F) := V0
theorem val0_main_v41_6 (V0 : Valuation τ sig (Elt F)) : val0 V0 (no_index (Proc.devRef .tc main_v41_6)) = V0 (Proc.devRef .tc main_v41_6) := rfl
theorem val0_main_v41_7 (V0 : Valuation τ sig (Elt F)) : val0 V0 (no_index (Proc.devRef .tc main_v41_7)) = V0 (Proc.devRef .tc main_v41_7) := rfl
theorem val0_main_v41_8 (V0 : Valuation τ sig (Elt F)) : val0 V0 (no_index (Proc.devRef .tc main_v41_8)) = V0 (Proc.devRef .tc main_v41_8) := rfl
theorem val0_main_v41_0 (V0 : Valuation τ sig (Elt F)) : val0 V0 (no_index (Proc.devRef .tc main_v41_0)) = V0 (Proc.devRef .tc main_v41_0) := rfl
theorem val0_main_v41_1 (V0 : Valuation τ sig (Elt F)) : val0 V0 (no_index (Proc.devRef .tc main_v41_1)) = V0 (Proc.devRef .tc main_v41_1) := rfl
theorem val0_main_v41_2 (V0 : Valuation τ sig (Elt F)) : val0 V0 (no_index (Proc.devRef .tc main_v41_2)) = V0 (Proc.devRef .tc main_v41_2) := rfl
theorem val0_main_v41_3 (V0 : Valuation τ sig (Elt F)) : val0 V0 (no_index (Proc.devRef .tc main_v41_3)) = V0 (Proc.devRef .tc main_v41_3) := rfl
theorem val0_main_v41_4 (V0 : Valuation τ sig (Elt F)) : val0 V0 (no_index (Proc.devRef .tc main_v41_4)) = V0 (Proc.devRef .tc main_v41_4) := rfl
theorem val0_main_v41_5 (V0 : Valuation τ sig (Elt F)) : val0 V0 (no_index (Proc.devRef .tc main_v41_5)) = V0 (Proc.devRef .tc main_v41_5) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v41_6 (V0 : Valuation τ sig (Elt F)) : val1 V0 (no_index (Proc.devRef .tc main_v41_6)) = V0 (Proc.devRef .tc main_v41_6) :=
  (val1_keep V0 main_v41_6 (by decide)).trans (val0_main_v41_6 V0)
theorem val1_main_v41_7 (V0 : Valuation τ sig (Elt F)) : val1 V0 (no_index (Proc.devRef .tc main_v41_7)) = V0 (Proc.devRef .tc main_v41_7) :=
  (val1_keep V0 main_v41_7 (by decide)).trans (val0_main_v41_7 V0)
theorem val1_main_v41_8 (V0 : Valuation τ sig (Elt F)) : val1 V0 (no_index (Proc.devRef .tc main_v41_8)) = V0 (Proc.devRef .tc main_v41_8) :=
  (val1_keep V0 main_v41_8 (by decide)).trans (val0_main_v41_8 V0)
theorem val1_main_v41_0 (V0 : Valuation τ sig (Elt F)) : val1 V0 (no_index (Proc.devRef .tc main_v41_0)) = V0 (Proc.devRef .tc main_v41_0) :=
  (val1_keep V0 main_v41_0 (by decide)).trans (val0_main_v41_0 V0)
theorem val1_main_v41_1 (V0 : Valuation τ sig (Elt F)) : val1 V0 (no_index (Proc.devRef .tc main_v41_1)) = V0 (Proc.devRef .tc main_v41_1) :=
  (val1_keep V0 main_v41_1 (by decide)).trans (val0_main_v41_1 V0)
theorem val1_main_v41_2 (V0 : Valuation τ sig (Elt F)) : val1 V0 (no_index (Proc.devRef .tc main_v41_2)) = V0 (Proc.devRef .tc main_v41_2) :=
  (val1_keep V0 main_v41_2 (by decide)).trans (val0_main_v41_2 V0)
theorem val1_main_v41_3 (V0 : Valuation τ sig (Elt F)) : val1 V0 (no_index (Proc.devRef .tc main_v41_3)) = V0 (Proc.devRef .tc main_v41_3) :=
  (val1_keep V0 main_v41_3 (by decide)).trans (val0_main_v41_3 V0)
theorem val1_main_v41_4 (V0 : Valuation τ sig (Elt F)) : val1 V0 (no_index (Proc.devRef .tc main_v41_4)) = V0 (Proc.devRef .tc main_v41_4) :=
  (val1_keep V0 main_v41_4 (by decide)).trans (val0_main_v41_4 V0)
theorem val1_main_v41_5 (V0 : Valuation τ sig (Elt F)) : val1 V0 (no_index (Proc.devRef .tc main_v41_5)) = V0 (Proc.devRef .tc main_v41_5) :=
  (val1_keep V0 main_v41_5 (by decide)).trans (val0_main_v41_5 V0)
set_option maxRecDepth 8192 in
theorem val1_main_while0b_v82 (V0 : Valuation τ sig (Elt F)) : val1 V0 (no_index (Proc.devRef .tc main_while0b_v82)) = addi (V0 (Proc.devRef .tc main_v41_6)) (constantI S_ 32 1#32) := by
  unfold val1
  simp only [trip_w0]
  after_results_entrywise [val0_main_v41_6, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v41_6 (V0 : Valuation τ sig (Elt F)) : val2 V0 (no_index (Proc.devRef .tc main_v41_6)) = V0 (Proc.devRef .tc main_v41_6) :=
  (val2_keep V0 main_v41_6 (by decide)).trans (val1_main_v41_6 V0)
theorem val2_main_v41_7 (V0 : Valuation τ sig (Elt F)) : val2 V0 (no_index (Proc.devRef .tc main_v41_7)) = V0 (Proc.devRef .tc main_v41_7) :=
  (val2_keep V0 main_v41_7 (by decide)).trans (val1_main_v41_7 V0)
theorem val2_main_v41_8 (V0 : Valuation τ sig (Elt F)) : val2 V0 (no_index (Proc.devRef .tc main_v41_8)) = V0 (Proc.devRef .tc main_v41_8) :=
  (val2_keep V0 main_v41_8 (by decide)).trans (val1_main_v41_8 V0)
theorem val2_main_v41_0 (V0 : Valuation τ sig (Elt F)) : val2 V0 (no_index (Proc.devRef .tc main_v41_0)) = V0 (Proc.devRef .tc main_v41_0) :=
  (val2_keep V0 main_v41_0 (by decide)).trans (val1_main_v41_0 V0)
theorem val2_main_v41_1 (V0 : Valuation τ sig (Elt F)) : val2 V0 (no_index (Proc.devRef .tc main_v41_1)) = V0 (Proc.devRef .tc main_v41_1) :=
  (val2_keep V0 main_v41_1 (by decide)).trans (val1_main_v41_1 V0)
theorem val2_main_v41_2 (V0 : Valuation τ sig (Elt F)) : val2 V0 (no_index (Proc.devRef .tc main_v41_2)) = V0 (Proc.devRef .tc main_v41_2) :=
  (val2_keep V0 main_v41_2 (by decide)).trans (val1_main_v41_2 V0)
theorem val2_main_v41_3 (V0 : Valuation τ sig (Elt F)) : val2 V0 (no_index (Proc.devRef .tc main_v41_3)) = V0 (Proc.devRef .tc main_v41_3) :=
  (val2_keep V0 main_v41_3 (by decide)).trans (val1_main_v41_3 V0)
theorem val2_main_v41_4 (V0 : Valuation τ sig (Elt F)) : val2 V0 (no_index (Proc.devRef .tc main_v41_4)) = V0 (Proc.devRef .tc main_v41_4) :=
  (val2_keep V0 main_v41_4 (by decide)).trans (val1_main_v41_4 V0)
theorem val2_main_v41_5 (V0 : Valuation τ sig (Elt F)) : val2 V0 (no_index (Proc.devRef .tc main_v41_5)) = V0 (Proc.devRef .tc main_v41_5) :=
  (val2_keep V0 main_v41_5 (by decide)).trans (val1_main_v41_5 V0)
theorem val2_main_while0b_v82 (V0 : Valuation τ sig (Elt F)) : val2 V0 (no_index (Proc.devRef .tc main_while0b_v82)) = addi (V0 (Proc.devRef .tc main_v41_6)) (constantI S_ 32 1#32) :=
  (val2_keep V0 main_while0b_v82 (by decide)).trans (val1_main_while0b_v82 V0)
set_option maxRecDepth 8192 in
theorem val2_main_while0b_v83 (V0 : Valuation τ sig (Elt F)) : val2 V0 (no_index (Proc.devRef .tc main_while0b_v83)) = res_main_while0b_v83 V0 := by
  unfold val2
  simp only [trip_w1]
  after_results_entrywise [val1_main_v41_7, res_main_while0b_call1_v0, res_main_while0b_call1_c, res_main_while0b_call1_c_0, res_main_while0b_v83, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v41_6 (V0 : Valuation τ sig (Elt F)) : val3 V0 (no_index (Proc.devRef .tc main_v41_6)) = V0 (Proc.devRef .tc main_v41_6) :=
  (val3_keep V0 main_v41_6 (by decide)).trans (val2_main_v41_6 V0)
theorem val3_main_v41_7 (V0 : Valuation τ sig (Elt F)) : val3 V0 (no_index (Proc.devRef .tc main_v41_7)) = V0 (Proc.devRef .tc main_v41_7) :=
  (val3_keep V0 main_v41_7 (by decide)).trans (val2_main_v41_7 V0)
theorem val3_main_v41_8 (V0 : Valuation τ sig (Elt F)) : val3 V0 (no_index (Proc.devRef .tc main_v41_8)) = V0 (Proc.devRef .tc main_v41_8) :=
  (val3_keep V0 main_v41_8 (by decide)).trans (val2_main_v41_8 V0)
theorem val3_main_v41_0 (V0 : Valuation τ sig (Elt F)) : val3 V0 (no_index (Proc.devRef .tc main_v41_0)) = V0 (Proc.devRef .tc main_v41_0) :=
  (val3_keep V0 main_v41_0 (by decide)).trans (val2_main_v41_0 V0)
theorem val3_main_v41_1 (V0 : Valuation τ sig (Elt F)) : val3 V0 (no_index (Proc.devRef .tc main_v41_1)) = V0 (Proc.devRef .tc main_v41_1) :=
  (val3_keep V0 main_v41_1 (by decide)).trans (val2_main_v41_1 V0)
theorem val3_main_v41_2 (V0 : Valuation τ sig (Elt F)) : val3 V0 (no_index (Proc.devRef .tc main_v41_2)) = V0 (Proc.devRef .tc main_v41_2) :=
  (val3_keep V0 main_v41_2 (by decide)).trans (val2_main_v41_2 V0)
theorem val3_main_v41_3 (V0 : Valuation τ sig (Elt F)) : val3 V0 (no_index (Proc.devRef .tc main_v41_3)) = V0 (Proc.devRef .tc main_v41_3) :=
  (val3_keep V0 main_v41_3 (by decide)).trans (val2_main_v41_3 V0)
theorem val3_main_v41_4 (V0 : Valuation τ sig (Elt F)) : val3 V0 (no_index (Proc.devRef .tc main_v41_4)) = V0 (Proc.devRef .tc main_v41_4) :=
  (val3_keep V0 main_v41_4 (by decide)).trans (val2_main_v41_4 V0)
theorem val3_main_v41_5 (V0 : Valuation τ sig (Elt F)) : val3 V0 (no_index (Proc.devRef .tc main_v41_5)) = V0 (Proc.devRef .tc main_v41_5) :=
  (val3_keep V0 main_v41_5 (by decide)).trans (val2_main_v41_5 V0)
theorem val3_main_while0b_v82 (V0 : Valuation τ sig (Elt F)) : val3 V0 (no_index (Proc.devRef .tc main_while0b_v82)) = addi (V0 (Proc.devRef .tc main_v41_6)) (constantI S_ 32 1#32) :=
  (val3_keep V0 main_while0b_v82 (by decide)).trans (val2_main_while0b_v82 V0)
theorem val3_main_while0b_v83 (V0 : Valuation τ sig (Elt F)) : val3 V0 (no_index (Proc.devRef .tc main_while0b_v83)) = res_main_while0b_v83 V0 :=
  (val3_keep V0 main_while0b_v83 (by decide)).trans (val2_main_while0b_v83 V0)
set_option maxRecDepth 8192 in
set_option maxHeartbeats 1400000 in
theorem val3_main_while0b_v89 (V0 : Valuation τ sig (Elt F)) : val3 V0 (no_index (Proc.devRef .tc main_while0b_v89)) = Host.scatter scatter_S100_S1_S__n_0_0_0 (fun _ b => b) (V0 (Proc.devRef .tc main_v41_8)) (broadcastInDim S1 ![] bcast_S_S1 (id (select (cmpi .slt (V0 (Proc.devRef .tc main_v41_6)) (constantI S_ 32 0#32)) (addi (V0 (Proc.devRef .tc main_v41_6)) (constantI S_ 32 100#32)) (V0 (Proc.devRef .tc main_v41_6))))) (res_main_while0b_v83 V0) := by
  unfold val3
  simp only [trip_w2]
  after_results_entrywise [val2_main_while0b_v83, val2_main_v41_6, val2_main_v41_8, cast_eq]
set_option maxRecDepth 8192 in
set_option maxHeartbeats 1400000 in
theorem val3_main_while0b_v93 (V0 : Valuation τ sig (Elt F)) : val3 V0 (no_index (Proc.devRef .tc main_while0b_v93)) = Host.dynamicSlice S1 (V0 (Proc.devRef .tc main_v41_0)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1 := by
  unfold val3
  simp only [trip_w2]
  after_results_entrywise [val2_main_while0b_v83, val2_main_v41_0, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v41_6 (V0 : Valuation τ sig (Elt F)) : val4 V0 (no_index (Proc.devRef .tc main_v41_6)) = V0 (Proc.devRef .tc main_v41_6) :=
  (val4_keep V0 main_v41_6 (by decide)).trans (val3_main_v41_6 V0)
theorem val4_main_v41_7 (V0 : Valuation τ sig (Elt F)) : val4 V0 (no_index (Proc.devRef .tc main_v41_7)) = V0 (Proc.devRef .tc main_v41_7) :=
  (val4_keep V0 main_v41_7 (by decide)).trans (val3_main_v41_7 V0)
theorem val4_main_v41_8 (V0 : Valuation τ sig (Elt F)) : val4 V0 (no_index (Proc.devRef .tc main_v41_8)) = V0 (Proc.devRef .tc main_v41_8) :=
  (val4_keep V0 main_v41_8 (by decide)).trans (val3_main_v41_8 V0)
theorem val4_main_v41_0 (V0 : Valuation τ sig (Elt F)) : val4 V0 (no_index (Proc.devRef .tc main_v41_0)) = V0 (Proc.devRef .tc main_v41_0) :=
  (val4_keep V0 main_v41_0 (by decide)).trans (val3_main_v41_0 V0)
theorem val4_main_v41_1 (V0 : Valuation τ sig (Elt F)) : val4 V0 (no_index (Proc.devRef .tc main_v41_1)) = V0 (Proc.devRef .tc main_v41_1) :=
  (val4_keep V0 main_v41_1 (by decide)).trans (val3_main_v41_1 V0)
theorem val4_main_v41_2 (V0 : Valuation τ sig (Elt F)) : val4 V0 (no_index (Proc.devRef .tc main_v41_2)) = V0 (Proc.devRef .tc main_v41_2) :=
  (val4_keep V0 main_v41_2 (by decide)).trans (val3_main_v41_2 V0)
theorem val4_main_v41_3 (V0 : Valuation τ sig (Elt F)) : val4 V0 (no_index (Proc.devRef .tc main_v41_3)) = V0 (Proc.devRef .tc main_v41_3) :=
  (val4_keep V0 main_v41_3 (by decide)).trans (val3_main_v41_3 V0)
theorem val4_main_v41_4 (V0 : Valuation τ sig (Elt F)) : val4 V0 (no_index (Proc.devRef .tc main_v41_4)) = V0 (Proc.devRef .tc main_v41_4) :=
  (val4_keep V0 main_v41_4 (by decide)).trans (val3_main_v41_4 V0)
theorem val4_main_v41_5 (V0 : Valuation τ sig (Elt F)) : val4 V0 (no_index (Proc.devRef .tc main_v41_5)) = V0 (Proc.devRef .tc main_v41_5) :=
  (val4_keep V0 main_v41_5 (by decide)).trans (val3_main_v41_5 V0)
theorem val4_main_while0b_v82 (V0 : Valuation τ sig (Elt F)) : val4 V0 (no_index (Proc.devRef .tc main_while0b_v82)) = addi (V0 (Proc.devRef .tc main_v41_6)) (constantI S_ 32 1#32) :=
  (val4_keep V0 main_while0b_v82 (by decide)).trans (val3_main_while0b_v82 V0)
theorem val4_main_while0b_v83 (V0 : Valuation τ sig (Elt F)) : val4 V0 (no_index (Proc.devRef .tc main_while0b_v83)) = res_main_while0b_v83 V0 :=
  (val4_keep V0 main_while0b_v83 (by decide)).trans (val3_main_while0b_v83 V0)
theorem val4_main_while0b_v89 (V0 : Valuation τ sig (Elt F)) : val4 V0 (no_index (Proc.devRef .tc main_while0b_v89)) = Host.scatter scatter_S100_S1_S__n_0_0_0 (fun _ b => b) (V0 (Proc.devRef .tc main_v41_8)) (broadcastInDim S1 ![] bcast_S_S1 (id (select (cmpi .slt (V0 (Proc.devRef .tc main_v41_6)) (constantI S_ 32 0#32)) (addi (V0 (Proc.devRef .tc main_v41_6)) (constantI S_ 32 100#32)) (V0 (Proc.devRef .tc main_v41_6))))) (res_main_while0b_v83 V0) :=
  (val4_keep V0 main_while0b_v89 (by decide)).trans (val3_main_while0b_v89 V0)
set_option maxRecDepth 8192 in
set_option maxHeartbeats 900000 in
theorem val4_main_while0b_v96 (V0 : Valuation τ sig (Elt F)) : val4 V0 (no_index (Proc.devRef .tc main_while0b_v96)) = maximumf (broadcastInDim S20000 ![] bcast_S_S20000 (shapeCast S_ (Host.dynamicSlice S1 (V0 (Proc.devRef .tc main_v41_0)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_0)) := by
  unfold val4
  simp only [trip_w3]
  after_results_entrywise [val3_main_v41_0, val3_main_while0b_v93, cast_eq]
set_option maxRecDepth 8192 in
set_option maxHeartbeats 900000 in
theorem val4_main_while0b_v100 (V0 : Valuation τ sig (Elt F)) : val4 V0 (no_index (Proc.devRef .tc main_while0b_v100)) = Host.dynamicSlice S1 (V0 (Proc.devRef .tc main_v41_1)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1 := by
  unfold val4
  simp only [trip_w3]
  after_results_entrywise [val3_main_while0b_v83, val3_main_v41_1, cast_eq]

/-- The device's buffer contents after the body's first 5 windows. -/
def val5 (V0 : Valuation τ sig (Elt F)) : Valuation τ sig (Elt F) := after trip_w4 (val4 V0)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v41_6 (V0 : Valuation τ sig (Elt F)) : val5 V0 (no_index (Proc.devRef .tc main_v41_6)) = V0 (Proc.devRef .tc main_v41_6) :=
  (val5_keep V0 main_v41_6 (by decide)).trans (val4_main_v41_6 V0)
theorem val5_main_v41_7 (V0 : Valuation τ sig (Elt F)) : val5 V0 (no_index (Proc.devRef .tc main_v41_7)) = V0 (Proc.devRef .tc main_v41_7) :=
  (val5_keep V0 main_v41_7 (by decide)).trans (val4_main_v41_7 V0)
theorem val5_main_v41_8 (V0 : Valuation τ sig (Elt F)) : val5 V0 (no_index (Proc.devRef .tc main_v41_8)) = V0 (Proc.devRef .tc main_v41_8) :=
  (val5_keep V0 main_v41_8 (by decide)).trans (val4_main_v41_8 V0)
theorem val5_main_v41_0 (V0 : Valuation τ sig (Elt F)) : val5 V0 (no_index (Proc.devRef .tc main_v41_0)) = V0 (Proc.devRef .tc main_v41_0) :=
  (val5_keep V0 main_v41_0 (by decide)).trans (val4_main_v41_0 V0)
theorem val5_main_v41_1 (V0 : Valuation τ sig (Elt F)) : val5 V0 (no_index (Proc.devRef .tc main_v41_1)) = V0 (Proc.devRef .tc main_v41_1) :=
  (val5_keep V0 main_v41_1 (by decide)).trans (val4_main_v41_1 V0)
theorem val5_main_v41_2 (V0 : Valuation τ sig (Elt F)) : val5 V0 (no_index (Proc.devRef .tc main_v41_2)) = V0 (Proc.devRef .tc main_v41_2) :=
  (val5_keep V0 main_v41_2 (by decide)).trans (val4_main_v41_2 V0)
theorem val5_main_v41_3 (V0 : Valuation τ sig (Elt F)) : val5 V0 (no_index (Proc.devRef .tc main_v41_3)) = V0 (Proc.devRef .tc main_v41_3) :=
  (val5_keep V0 main_v41_3 (by decide)).trans (val4_main_v41_3 V0)
theorem val5_main_v41_4 (V0 : Valuation τ sig (Elt F)) : val5 V0 (no_index (Proc.devRef .tc main_v41_4)) = V0 (Proc.devRef .tc main_v41_4) :=
  (val5_keep V0 main_v41_4 (by decide)).trans (val4_main_v41_4 V0)
theorem val5_main_v41_5 (V0 : Valuation τ sig (Elt F)) : val5 V0 (no_index (Proc.devRef .tc main_v41_5)) = V0 (Proc.devRef .tc main_v41_5) :=
  (val5_keep V0 main_v41_5 (by decide)).trans (val4_main_v41_5 V0)
theorem val5_main_while0b_v82 (V0 : Valuation τ sig (Elt F)) : val5 V0 (no_index (Proc.devRef .tc main_while0b_v82)) = addi (V0 (Proc.devRef .tc main_v41_6)) (constantI S_ 32 1#32) :=
  (val5_keep V0 main_while0b_v82 (by decide)).trans (val4_main_while0b_v82 V0)
theorem val5_main_while0b_v83 (V0 : Valuation τ sig (Elt F)) : val5 V0 (no_index (Proc.devRef .tc main_while0b_v83)) = res_main_while0b_v83 V0 :=
  (val5_keep V0 main_while0b_v83 (by decide)).trans (val4_main_while0b_v83 V0)
theorem val5_main_while0b_v89 (V0 : Valuation τ sig (Elt F)) : val5 V0 (no_index (Proc.devRef .tc main_while0b_v89)) = Host.scatter scatter_S100_S1_S__n_0_0_0 (fun _ b => b) (V0 (Proc.devRef .tc main_v41_8)) (broadcastInDim S1 ![] bcast_S_S1 (id (select (cmpi .slt (V0 (Proc.devRef .tc main_v41_6)) (constantI S_ 32 0#32)) (addi (V0 (Proc.devRef .tc main_v41_6)) (constantI S_ 32 100#32)) (V0 (Proc.devRef .tc main_v41_6))))) (res_main_while0b_v83 V0) :=
  (val5_keep V0 main_while0b_v89 (by decide)).trans (val4_main_while0b_v89 V0)
theorem val5_main_while0b_v96 (V0 : Valuation τ sig (Elt F)) : val5 V0 (no_index (Proc.devRef .tc main_while0b_v96)) = maximumf (broadcastInDim S20000 ![] bcast_S_S20000 (shapeCast S_ (Host.dynamicSlice S1 (V0 (Proc.devRef .tc main_v41_0)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_0)) :=
  (val5_keep V0 main_while0b_v96 (by decide)).trans (val4_main_while0b_v96 V0)
set_option maxRecDepth 8192 in
set_option maxHeartbeats 900000 in
theorem val5_main_while0b_v103 (V0 : Valuation τ sig (Elt F)) : val5 V0 (no_index (Proc.devRef .tc main_while0b_v103)) = maximumf (broadcastInDim S20000 ![] bcast_S_S20000 (shapeCast S_ (Host.dynamicSlice S1 (V0 (Proc.devRef .tc main_v41_1)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_1)) := by
  unfold val5
  simp only [trip_w4]
  after_results_entrywise [val4_main_v41_1, val4_main_while0b_v100, cast_eq]
set_option maxRecDepth 8192 in
set_option maxHeartbeats 900000 in
theorem val5_main_while0b_v107 (V0 : Valuation τ sig (Elt F)) : val5 V0 (no_index (Proc.devRef .tc main_while0b_v107)) = Host.dynamicSlice S1 (V0 (Proc.devRef .tc main_v41_2)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1 := by
  unfold val5
  simp only [trip_w4]
  after_results_entrywise [val4_main_while0b_v83, val4_main_v41_2, cast_eq]

/-- The device's buffer contents after the body's first 6 windows. -/
def val6 (V0 : Valuation τ sig (Elt F)) : Valuation τ sig (Elt F) := after trip_w5 (val5 V0)
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v41_6 (V0 : Valuation τ sig (Elt F)) : val6 V0 (no_index (Proc.devRef .tc main_v41_6)) = V0 (Proc.devRef .tc main_v41_6) :=
  (val6_keep V0 main_v41_6 (by decide)).trans (val5_main_v41_6 V0)
theorem val6_main_v41_7 (V0 : Valuation τ sig (Elt F)) : val6 V0 (no_index (Proc.devRef .tc main_v41_7)) = V0 (Proc.devRef .tc main_v41_7) :=
  (val6_keep V0 main_v41_7 (by decide)).trans (val5_main_v41_7 V0)
theorem val6_main_v41_8 (V0 : Valuation τ sig (Elt F)) : val6 V0 (no_index (Proc.devRef .tc main_v41_8)) = V0 (Proc.devRef .tc main_v41_8) :=
  (val6_keep V0 main_v41_8 (by decide)).trans (val5_main_v41_8 V0)
theorem val6_main_v41_0 (V0 : Valuation τ sig (Elt F)) : val6 V0 (no_index (Proc.devRef .tc main_v41_0)) = V0 (Proc.devRef .tc main_v41_0) :=
  (val6_keep V0 main_v41_0 (by decide)).trans (val5_main_v41_0 V0)
theorem val6_main_v41_1 (V0 : Valuation τ sig (Elt F)) : val6 V0 (no_index (Proc.devRef .tc main_v41_1)) = V0 (Proc.devRef .tc main_v41_1) :=
  (val6_keep V0 main_v41_1 (by decide)).trans (val5_main_v41_1 V0)
theorem val6_main_v41_2 (V0 : Valuation τ sig (Elt F)) : val6 V0 (no_index (Proc.devRef .tc main_v41_2)) = V0 (Proc.devRef .tc main_v41_2) :=
  (val6_keep V0 main_v41_2 (by decide)).trans (val5_main_v41_2 V0)
theorem val6_main_v41_3 (V0 : Valuation τ sig (Elt F)) : val6 V0 (no_index (Proc.devRef .tc main_v41_3)) = V0 (Proc.devRef .tc main_v41_3) :=
  (val6_keep V0 main_v41_3 (by decide)).trans (val5_main_v41_3 V0)
theorem val6_main_v41_4 (V0 : Valuation τ sig (Elt F)) : val6 V0 (no_index (Proc.devRef .tc main_v41_4)) = V0 (Proc.devRef .tc main_v41_4) :=
  (val6_keep V0 main_v41_4 (by decide)).trans (val5_main_v41_4 V0)
theorem val6_main_v41_5 (V0 : Valuation τ sig (Elt F)) : val6 V0 (no_index (Proc.devRef .tc main_v41_5)) = V0 (Proc.devRef .tc main_v41_5) :=
  (val6_keep V0 main_v41_5 (by decide)).trans (val5_main_v41_5 V0)
theorem val6_main_while0b_v82 (V0 : Valuation τ sig (Elt F)) : val6 V0 (no_index (Proc.devRef .tc main_while0b_v82)) = addi (V0 (Proc.devRef .tc main_v41_6)) (constantI S_ 32 1#32) :=
  (val6_keep V0 main_while0b_v82 (by decide)).trans (val5_main_while0b_v82 V0)
theorem val6_main_while0b_v83 (V0 : Valuation τ sig (Elt F)) : val6 V0 (no_index (Proc.devRef .tc main_while0b_v83)) = res_main_while0b_v83 V0 :=
  (val6_keep V0 main_while0b_v83 (by decide)).trans (val5_main_while0b_v83 V0)
theorem val6_main_while0b_v89 (V0 : Valuation τ sig (Elt F)) : val6 V0 (no_index (Proc.devRef .tc main_while0b_v89)) = Host.scatter scatter_S100_S1_S__n_0_0_0 (fun _ b => b) (V0 (Proc.devRef .tc main_v41_8)) (broadcastInDim S1 ![] bcast_S_S1 (id (select (cmpi .slt (V0 (Proc.devRef .tc main_v41_6)) (constantI S_ 32 0#32)) (addi (V0 (Proc.devRef .tc main_v41_6)) (constantI S_ 32 100#32)) (V0 (Proc.devRef .tc main_v41_6))))) (res_main_while0b_v83 V0) :=
  (val6_keep V0 main_while0b_v89 (by decide)).trans (val5_main_while0b_v89 V0)
theorem val6_main_while0b_v96 (V0 : Valuation τ sig (Elt F)) : val6 V0 (no_index (Proc.devRef .tc main_while0b_v96)) = maximumf (broadcastInDim S20000 ![] bcast_S_S20000 (shapeCast S_ (Host.dynamicSlice S1 (V0 (Proc.devRef .tc main_v41_0)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_0)) :=
  (val6_keep V0 main_while0b_v96 (by decide)).trans (val5_main_while0b_v96 V0)
theorem val6_main_while0b_v103 (V0 : Valuation τ sig (Elt F)) : val6 V0 (no_index (Proc.devRef .tc main_while0b_v103)) = maximumf (broadcastInDim S20000 ![] bcast_S_S20000 (shapeCast S_ (Host.dynamicSlice S1 (V0 (Proc.devRef .tc main_v41_1)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_1)) :=
  (val6_keep V0 main_while0b_v103 (by decide)).trans (val5_main_while0b_v103 V0)
set_option maxRecDepth 8192 in
set_option maxHeartbeats 900000 in
theorem val6_main_while0b_v110 (V0 : Valuation τ sig (Elt F)) : val6 V0 (no_index (Proc.devRef .tc main_while0b_v110)) = minimumf (broadcastInDim S20000 ![] bcast_S_S20000 (shapeCast S_ (Host.dynamicSlice S1 (V0 (Proc.devRef .tc main_v41_2)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_2)) := by
  unfold val6
  simp only [trip_w5]
  after_results_entrywise [val5_main_v41_2, val5_main_while0b_v107, cast_eq]
set_option maxRecDepth 8192 in
set_option maxHeartbeats 900000 in
theorem val6_main_while0b_v114 (V0 : Valuation τ sig (Elt F)) : val6 V0 (no_index (Proc.devRef .tc main_while0b_v114)) = Host.dynamicSlice S1 (V0 (Proc.devRef .tc main_v41_3)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1 := by
  unfold val6
  simp only [trip_w5]
  after_results_entrywise [val5_main_while0b_v83, val5_main_v41_3, cast_eq]

/-- The device's buffer contents after the body's first 7 windows. -/
def val7 (V0 : Valuation τ sig (Elt F)) : Valuation τ sig (Elt F) := after trip_w6 (val6 V0)
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v41_6 (V0 : Valuation τ sig (Elt F)) : val7 V0 (no_index (Proc.devRef .tc main_v41_6)) = V0 (Proc.devRef .tc main_v41_6) :=
  (val7_keep V0 main_v41_6 (by decide)).trans (val6_main_v41_6 V0)
theorem val7_main_v41_7 (V0 : Valuation τ sig (Elt F)) : val7 V0 (no_index (Proc.devRef .tc main_v41_7)) = V0 (Proc.devRef .tc main_v41_7) :=
  (val7_keep V0 main_v41_7 (by decide)).trans (val6_main_v41_7 V0)
theorem val7_main_v41_8 (V0 : Valuation τ sig (Elt F)) : val7 V0 (no_index (Proc.devRef .tc main_v41_8)) = V0 (Proc.devRef .tc main_v41_8) :=
  (val7_keep V0 main_v41_8 (by decide)).trans (val6_main_v41_8 V0)
theorem val7_main_v41_0 (V0 : Valuation τ sig (Elt F)) : val7 V0 (no_index (Proc.devRef .tc main_v41_0)) = V0 (Proc.devRef .tc main_v41_0) :=
  (val7_keep V0 main_v41_0 (by decide)).trans (val6_main_v41_0 V0)
theorem val7_main_v41_1 (V0 : Valuation τ sig (Elt F)) : val7 V0 (no_index (Proc.devRef .tc main_v41_1)) = V0 (Proc.devRef .tc main_v41_1) :=
  (val7_keep V0 main_v41_1 (by decide)).trans (val6_main_v41_1 V0)
theorem val7_main_v41_2 (V0 : Valuation τ sig (Elt F)) : val7 V0 (no_index (Proc.devRef .tc main_v41_2)) = V0 (Proc.devRef .tc main_v41_2) :=
  (val7_keep V0 main_v41_2 (by decide)).trans (val6_main_v41_2 V0)
theorem val7_main_v41_3 (V0 : Valuation τ sig (Elt F)) : val7 V0 (no_index (Proc.devRef .tc main_v41_3)) = V0 (Proc.devRef .tc main_v41_3) :=
  (val7_keep V0 main_v41_3 (by decide)).trans (val6_main_v41_3 V0)
theorem val7_main_v41_4 (V0 : Valuation τ sig (Elt F)) : val7 V0 (no_index (Proc.devRef .tc main_v41_4)) = V0 (Proc.devRef .tc main_v41_4) :=
  (val7_keep V0 main_v41_4 (by decide)).trans (val6_main_v41_4 V0)
theorem val7_main_v41_5 (V0 : Valuation τ sig (Elt F)) : val7 V0 (no_index (Proc.devRef .tc main_v41_5)) = V0 (Proc.devRef .tc main_v41_5) :=
  (val7_keep V0 main_v41_5 (by decide)).trans (val6_main_v41_5 V0)
theorem val7_main_while0b_v82 (V0 : Valuation τ sig (Elt F)) : val7 V0 (no_index (Proc.devRef .tc main_while0b_v82)) = addi (V0 (Proc.devRef .tc main_v41_6)) (constantI S_ 32 1#32) :=
  (val7_keep V0 main_while0b_v82 (by decide)).trans (val6_main_while0b_v82 V0)
theorem val7_main_while0b_v83 (V0 : Valuation τ sig (Elt F)) : val7 V0 (no_index (Proc.devRef .tc main_while0b_v83)) = res_main_while0b_v83 V0 :=
  (val7_keep V0 main_while0b_v83 (by decide)).trans (val6_main_while0b_v83 V0)
theorem val7_main_while0b_v89 (V0 : Valuation τ sig (Elt F)) : val7 V0 (no_index (Proc.devRef .tc main_while0b_v89)) = Host.scatter scatter_S100_S1_S__n_0_0_0 (fun _ b => b) (V0 (Proc.devRef .tc main_v41_8)) (broadcastInDim S1 ![] bcast_S_S1 (id (select (cmpi .slt (V0 (Proc.devRef .tc main_v41_6)) (constantI S_ 32 0#32)) (addi (V0 (Proc.devRef .tc main_v41_6)) (constantI S_ 32 100#32)) (V0 (Proc.devRef .tc main_v41_6))))) (res_main_while0b_v83 V0) :=
  (val7_keep V0 main_while0b_v89 (by decide)).trans (val6_main_while0b_v89 V0)
set_option maxRecDepth 8192 in
set_option maxHeartbeats 1800000 in
theorem val7_main_while0b_v124 (V0 : Valuation τ sig (Elt F)) : val7 V0 (no_index (Proc.devRef .tc main_while0b_v124)) = res_main_while0b_v124 V0 := by
  unfold val7
  simp only [trip_w6]
  after_results_entrywise [val6_main_while0b_v103, val6_main_v41_3, val6_main_while0b_v114, val6_main_while0b_v96, val6_main_while0b_v110, res_main_while0b_v124, cast_eq]
set_option maxRecDepth 8192 in
set_option maxHeartbeats 1800000 in
theorem val7_main_while0b_v128 (V0 : Valuation τ sig (Elt F)) : val7 V0 (no_index (Proc.devRef .tc main_while0b_v128)) = Host.dynamicSlice S1 (V0 (Proc.devRef .tc main_v41_4)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1 := by
  unfold val7
  simp only [trip_w6]
  after_results_entrywise [val6_main_while0b_v83, val6_main_v41_4, cast_eq]

/-- The device's buffer contents after the body's first 8 windows. -/
def val8 (V0 : Valuation τ sig (Elt F)) : Valuation τ sig (Elt F) := after trip_w7 (val7 V0)
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v41_6 (V0 : Valuation τ sig (Elt F)) : val8 V0 (no_index (Proc.devRef .tc main_v41_6)) = V0 (Proc.devRef .tc main_v41_6) :=
  (val8_keep V0 main_v41_6 (by decide)).trans (val7_main_v41_6 V0)
theorem val8_main_v41_7 (V0 : Valuation τ sig (Elt F)) : val8 V0 (no_index (Proc.devRef .tc main_v41_7)) = V0 (Proc.devRef .tc main_v41_7) :=
  (val8_keep V0 main_v41_7 (by decide)).trans (val7_main_v41_7 V0)
theorem val8_main_v41_8 (V0 : Valuation τ sig (Elt F)) : val8 V0 (no_index (Proc.devRef .tc main_v41_8)) = V0 (Proc.devRef .tc main_v41_8) :=
  (val8_keep V0 main_v41_8 (by decide)).trans (val7_main_v41_8 V0)
theorem val8_main_v41_0 (V0 : Valuation τ sig (Elt F)) : val8 V0 (no_index (Proc.devRef .tc main_v41_0)) = V0 (Proc.devRef .tc main_v41_0) :=
  (val8_keep V0 main_v41_0 (by decide)).trans (val7_main_v41_0 V0)
theorem val8_main_v41_1 (V0 : Valuation τ sig (Elt F)) : val8 V0 (no_index (Proc.devRef .tc main_v41_1)) = V0 (Proc.devRef .tc main_v41_1) :=
  (val8_keep V0 main_v41_1 (by decide)).trans (val7_main_v41_1 V0)
theorem val8_main_v41_2 (V0 : Valuation τ sig (Elt F)) : val8 V0 (no_index (Proc.devRef .tc main_v41_2)) = V0 (Proc.devRef .tc main_v41_2) :=
  (val8_keep V0 main_v41_2 (by decide)).trans (val7_main_v41_2 V0)
theorem val8_main_v41_3 (V0 : Valuation τ sig (Elt F)) : val8 V0 (no_index (Proc.devRef .tc main_v41_3)) = V0 (Proc.devRef .tc main_v41_3) :=
  (val8_keep V0 main_v41_3 (by decide)).trans (val7_main_v41_3 V0)
theorem val8_main_v41_4 (V0 : Valuation τ sig (Elt F)) : val8 V0 (no_index (Proc.devRef .tc main_v41_4)) = V0 (Proc.devRef .tc main_v41_4) :=
  (val8_keep V0 main_v41_4 (by decide)).trans (val7_main_v41_4 V0)
theorem val8_main_v41_5 (V0 : Valuation τ sig (Elt F)) : val8 V0 (no_index (Proc.devRef .tc main_v41_5)) = V0 (Proc.devRef .tc main_v41_5) :=
  (val8_keep V0 main_v41_5 (by decide)).trans (val7_main_v41_5 V0)
theorem val8_main_while0b_v82 (V0 : Valuation τ sig (Elt F)) : val8 V0 (no_index (Proc.devRef .tc main_while0b_v82)) = addi (V0 (Proc.devRef .tc main_v41_6)) (constantI S_ 32 1#32) :=
  (val8_keep V0 main_while0b_v82 (by decide)).trans (val7_main_while0b_v82 V0)
theorem val8_main_while0b_v89 (V0 : Valuation τ sig (Elt F)) : val8 V0 (no_index (Proc.devRef .tc main_while0b_v89)) = Host.scatter scatter_S100_S1_S__n_0_0_0 (fun _ b => b) (V0 (Proc.devRef .tc main_v41_8)) (broadcastInDim S1 ![] bcast_S_S1 (id (select (cmpi .slt (V0 (Proc.devRef .tc main_v41_6)) (constantI S_ 32 0#32)) (addi (V0 (Proc.devRef .tc main_v41_6)) (constantI S_ 32 100#32)) (V0 (Proc.devRef .tc main_v41_6))))) (res_main_while0b_v83 V0) :=
  (val8_keep V0 main_while0b_v89 (by decide)).trans (val7_main_while0b_v89 V0)
set_option maxRecDepth 8192 in
set_option maxHeartbeats 1700000 in
theorem val8_main_while0b_v141 (V0 : Valuation τ sig (Elt F)) : val8 V0 (no_index (Proc.devRef .tc main_while0b_v141)) = Host.scatter scatter_S20000_S1_S__n_0_0_0 (fun _ b => b) (andi (V0 (Proc.devRef .tc main_v41_7)) (cmpf .ole (Host.divf (res_main_while0b_v124 V0) (subf (addf (broadcastInDim S20000 ![] bcast_S_S20000 (shapeCast S_ (Host.dynamicSlice S1 (V0 (Proc.devRef .tc main_v41_4)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_4))) (res_main_while0b_v124 V0))) (broadcastInDim S20000 ![] bcast_S_S20000 (constant S_ .f32 0x3E99999A#32)))) (broadcastInDim S1 ![] bcast_S_S1 (select (cmpi .slt (res_main_while0b_v83 V0) (constantI S_ 32 0#32)) (addi (res_main_while0b_v83 V0) (constantI S_ 32 20000#32)) (res_main_while0b_v83 V0))) (constantI S_ 1 0#1) := by
  unfold val8
  simp only [trip_w7]
  after_results_entrywise [val7_main_while0b_v83, val7_main_v41_4, val7_main_while0b_v128, val7_main_while0b_v124, val7_main_v41_7, cast_eq]

set_option maxRecDepth 8192 in
/-- The body's stretches, from any contents: the trip's windows in order, then `while0Ops0_2`'s step. -/
theorem trip_windows (V0 : Valuation τ sig (Elt F)) : after while0Ops0_2 (after while0Ops0_1 (after while0Ops0 (V0))) = after while0Ops0_2_step (val8 V0) := by
  simp only [while0Ops0_cut, while0Ops0_1_cut, while0Ops0_2_cut, after_append]
  rfl

set_option maxRecDepth 8192 in
set_option maxHeartbeats 2000000 in
/-- `main_v41_0` after one trip's body, from any contents. -/
theorem trip_main_v41_0 (V0 : Valuation τ sig (Elt F)) : afterL bodyI V0 (no_index (Proc.devRef .tc main_v41_0)) = V0 (Proc.devRef .tc main_v41_0) := by
  simp only [bodyI, afterL_cons, afterL_nil, trip_windows]
  after_results
  all_goals (try simp only [val8_main_while0b_v82, val8_main_while0b_v141, val8_main_while0b_v89, val8_main_v41_0, val8_main_v41_1, val8_main_v41_2, val8_main_v41_3, val8_main_v41_4, val8_main_v41_5, val8_main_v41_6, val8_main_v41_7, val8_main_v41_8]) <;> rfl
set_option maxRecDepth 8192 in
set_option maxHeartbeats 2000000 in
/-- `main_v41_1` after one trip's body, from any contents. -/
theorem trip_main_v41_1 (V0 : Valuation τ sig (Elt F)) : afterL bodyI V0 (no_index (Proc.devRef .tc main_v41_1)) = V0 (Proc.devRef .tc main_v41_1) := by
  simp only [bodyI, afterL_cons, afterL_nil, trip_windows]
  after_results
  all_goals (try simp only [val8_main_while0b_v82, val8_main_while0b_v141, val8_main_while0b_v89, val8_main_v41_0, val8_main_v41_1, val8_main_v41_2, val8_main_v41_3, val8_main_v41_4, val8_main_v41_5, val8_main_v41_6, val8_main_v41_7, val8_main_v41_8]) <;> rfl
set_option maxRecDepth 8192 in
set_option maxHeartbeats 2000000 in
/-- `main_v41_2` after one trip's body, from any contents. -/
theorem trip_main_v41_2 (V0 : Valuation τ sig (Elt F)) : afterL bodyI V0 (no_index (Proc.devRef .tc main_v41_2)) = V0 (Proc.devRef .tc main_v41_2) := by
  simp only [bodyI, afterL_cons, afterL_nil, trip_windows]
  after_results
  all_goals (try simp only [val8_main_while0b_v82, val8_main_while0b_v141, val8_main_while0b_v89, val8_main_v41_0, val8_main_v41_1, val8_main_v41_2, val8_main_v41_3, val8_main_v41_4, val8_main_v41_5, val8_main_v41_6, val8_main_v41_7, val8_main_v41_8]) <;> rfl
set_option maxRecDepth 8192 in
set_option maxHeartbeats 2000000 in
/-- `main_v41_3` after one trip's body, from any contents. -/
theorem trip_main_v41_3 (V0 : Valuation τ sig (Elt F)) : afterL bodyI V0 (no_index (Proc.devRef .tc main_v41_3)) = V0 (Proc.devRef .tc main_v41_3) := by
  simp only [bodyI, afterL_cons, afterL_nil, trip_windows]
  after_results
  all_goals (try simp only [val8_main_while0b_v82, val8_main_while0b_v141, val8_main_while0b_v89, val8_main_v41_0, val8_main_v41_1, val8_main_v41_2, val8_main_v41_3, val8_main_v41_4, val8_main_v41_5, val8_main_v41_6, val8_main_v41_7, val8_main_v41_8]) <;> rfl
set_option maxRecDepth 8192 in
set_option maxHeartbeats 2000000 in
/-- `main_v41_4` after one trip's body, from any contents. -/
theorem trip_main_v41_4 (V0 : Valuation τ sig (Elt F)) : afterL bodyI V0 (no_index (Proc.devRef .tc main_v41_4)) = V0 (Proc.devRef .tc main_v41_4) := by
  simp only [bodyI, afterL_cons, afterL_nil, trip_windows]
  after_results
  all_goals (try simp only [val8_main_while0b_v82, val8_main_while0b_v141, val8_main_while0b_v89, val8_main_v41_0, val8_main_v41_1, val8_main_v41_2, val8_main_v41_3, val8_main_v41_4, val8_main_v41_5, val8_main_v41_6, val8_main_v41_7, val8_main_v41_8]) <;> rfl
set_option maxRecDepth 8192 in
set_option maxHeartbeats 2000000 in
/-- `main_v41_5` after one trip's body, from any contents. -/
theorem trip_main_v41_5 (V0 : Valuation τ sig (Elt F)) : afterL bodyI V0 (no_index (Proc.devRef .tc main_v41_5)) = id (addi (V0 (Proc.devRef .tc main_v41_5)) (constantI S_ 32 1#32)) := by
  simp only [bodyI, afterL_cons, afterL_nil, trip_windows]
  after_results
  all_goals (try simp only [val8_main_while0b_v82, val8_main_while0b_v141, val8_main_while0b_v89, val8_main_v41_0, val8_main_v41_1, val8_main_v41_2, val8_main_v41_3, val8_main_v41_4, val8_main_v41_5, val8_main_v41_6, val8_main_v41_7, val8_main_v41_8]) <;> rfl
set_option maxRecDepth 8192 in
set_option maxHeartbeats 2000000 in
/-- `main_v41_6` after one trip's body, from any contents. -/
theorem trip_main_v41_6 (V0 : Valuation τ sig (Elt F)) : afterL bodyI V0 (no_index (Proc.devRef .tc main_v41_6)) = id (addi (V0 (Proc.devRef .tc main_v41_6)) (constantI S_ 32 1#32)) := by
  simp only [bodyI, afterL_cons, afterL_nil, trip_windows]
  after_results
  all_goals (try simp only [val8_main_while0b_v82, val8_main_while0b_v141, val8_main_while0b_v89, val8_main_v41_0, val8_main_v41_1, val8_main_v41_2, val8_main_v41_3, val8_main_v41_4, val8_main_v41_5, val8_main_v41_6, val8_main_v41_7, val8_main_v41_8]) <;> rfl
set_option maxRecDepth 8192 in
set_option maxHeartbeats 2000000 in
/-- `main_v41_7` after one trip's body, from any contents. -/
theorem trip_main_v41_7 (V0 : Valuation τ sig (Elt F)) : afterL bodyI V0 (no_index (Proc.devRef .tc main_v41_7)) = id (Host.scatter scatter_S20000_S1_S__n_0_0_0 (fun _ b => b) (andi (V0 (Proc.devRef .tc main_v41_7)) (cmpf .ole (Host.divf (res_main_while0b_v124 V0) (subf (addf (broadcastInDim S20000 ![] bcast_S_S20000 (shapeCast S_ (Host.dynamicSlice S1 (V0 (Proc.devRef .tc main_v41_4)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_4))) (res_main_while0b_v124 V0))) (broadcastInDim S20000 ![] bcast_S_S20000 (constant S_ .f32 0x3E99999A#32)))) (broadcastInDim S1 ![] bcast_S_S1 (select (cmpi .slt (res_main_while0b_v83 V0) (constantI S_ 32 0#32)) (addi (res_main_while0b_v83 V0) (constantI S_ 32 20000#32)) (res_main_while0b_v83 V0))) (constantI S_ 1 0#1)) := by
  simp only [bodyI, afterL_cons, afterL_nil, trip_windows]
  after_results
  all_goals (try simp only [val8_main_while0b_v82, val8_main_while0b_v141, val8_main_while0b_v89, val8_main_v41_0, val8_main_v41_1, val8_main_v41_2, val8_main_v41_3, val8_main_v41_4, val8_main_v41_5, val8_main_v41_6, val8_main_v41_7, val8_main_v41_8]) <;> rfl
set_option maxRecDepth 8192 in
set_option maxHeartbeats 2000000 in
/-- `main_v41_8` after one trip's body, from any contents. -/
theorem trip_main_v41_8 (V0 : Valuation τ sig (Elt F)) : afterL bodyI V0 (no_index (Proc.devRef .tc main_v41_8)) = id (Host.scatter scatter_S100_S1_S__n_0_0_0 (fun _ b => b) (V0 (Proc.devRef .tc main_v41_8)) (broadcastInDim S1 ![] bcast_S_S1 (id (select (cmpi .slt (V0 (Proc.devRef .tc main_v41_6)) (constantI S_ 32 0#32)) (addi (V0 (Proc.devRef .tc main_v41_6)) (constantI S_ 32 100#32)) (V0 (Proc.devRef .tc main_v41_6))))) (res_main_while0b_v83 V0)) := by
  simp only [bodyI, afterL_cons, afterL_nil, trip_windows]
  after_results
  all_goals (try simp only [val8_main_while0b_v82, val8_main_while0b_v141, val8_main_while0b_v89, val8_main_v41_0, val8_main_v41_1, val8_main_v41_2, val8_main_v41_3, val8_main_v41_4, val8_main_v41_5, val8_main_v41_6, val8_main_v41_7, val8_main_v41_8]) <;> rfl

/-- The loop's carried buffers. -/
abbrev carriedRefs : List (Ref sig .tc) := [main_v41_0, main_v41_1, main_v41_2, main_v41_3, main_v41_4, main_v41_5, main_v41_6, main_v41_7, main_v41_8]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_call1_v0_congr {V0 V0' : Valuation τ sig (Elt F)} (h : Agree V0 V0') : res_main_while0b_call1_v0 V0 = res_main_while0b_call1_v0 V0' := by
  unfold res_main_while0b_call1_v0
  rfl
set_option maxRecDepth 8192 in
theorem res_main_while0b_call1_c_congr {V0 V0' : Valuation τ sig (Elt F)} (h : Agree V0 V0') : res_main_while0b_call1_c V0 = res_main_while0b_call1_c V0' := by
  unfold res_main_while0b_call1_c
  rfl
set_option maxRecDepth 8192 in
theorem res_main_while0b_call1_c_0_congr {V0 V0' : Valuation τ sig (Elt F)} (h : Agree V0 V0') : res_main_while0b_call1_c_0 V0 = res_main_while0b_call1_c_0 V0' := by
  unfold res_main_while0b_call1_c_0
  rfl
set_option maxRecDepth 8192 in
theorem res_main_while0b_v83_congr {V0 V0' : Valuation τ sig (Elt F)} (h : Agree V0 V0') : res_main_while0b_v83 V0 = res_main_while0b_v83 V0' := by
  unfold res_main_while0b_v83
  rw [res_main_while0b_call1_v0_congr h, res_main_while0b_call1_c_congr h, res_main_while0b_call1_c_0_congr h, h main_v41_7 (by decide)]
set_option maxRecDepth 8192 in
theorem res_main_while0b_v124_congr {V0 V0' : Valuation τ sig (Elt F)} (h : Agree V0 V0') : res_main_while0b_v124 V0 = res_main_while0b_v124 V0' := by
  unfold res_main_while0b_v124
  rw [res_main_while0b_v83_congr h, h main_v41_2 (by decide), h main_v41_0 (by decide), h main_v41_3 (by decide), h main_v41_1 (by decide)]

set_option maxRecDepth 8192 in
/-- `main_v41_5` after one trip, of the contents before it. -/
def step_main_v41_5 (V0 : Valuation τ sig (Elt F)) : (Proc.devRef .tc main_v41_5 : DevRef τ sig).ty.Contents (Elt F) :=
  id (addi (V0 (Proc.devRef .tc main_v41_5)) (constantI S_ 32 1#32))
set_option maxRecDepth 8192 in
theorem step_main_v41_5_congr {V0 V0' : Valuation τ sig (Elt F)} (h : Agree V0 V0') : step_main_v41_5 V0 = step_main_v41_5 V0' := by
  unfold step_main_v41_5
  rw [h main_v41_5 (by decide)]
set_option maxRecDepth 8192 in
/-- `main_v41_6` after one trip, of the contents before it. -/
def step_main_v41_6 (V0 : Valuation τ sig (Elt F)) : (Proc.devRef .tc main_v41_6 : DevRef τ sig).ty.Contents (Elt F) :=
  id (addi (V0 (Proc.devRef .tc main_v41_6)) (constantI S_ 32 1#32))
set_option maxRecDepth 8192 in
theorem step_main_v41_6_congr {V0 V0' : Valuation τ sig (Elt F)} (h : Agree V0 V0') : step_main_v41_6 V0 = step_main_v41_6 V0' := by
  unfold step_main_v41_6
  rw [h main_v41_6 (by decide)]
set_option maxRecDepth 8192 in
/-- `main_v41_7` after one trip, of the contents before it. -/
def step_main_v41_7 (V0 : Valuation τ sig (Elt F)) : (Proc.devRef .tc main_v41_7 : DevRef τ sig).ty.Contents (Elt F) :=
  id (Host.scatter scatter_S20000_S1_S__n_0_0_0 (fun _ b => b) (andi (V0 (Proc.devRef .tc main_v41_7)) (cmpf .ole (Host.divf (res_main_while0b_v124 V0) (subf (addf (broadcastInDim S20000 ![] bcast_S_S20000 (shapeCast S_ (Host.dynamicSlice S1 (V0 (Proc.devRef .tc main_v41_4)) (fun k => (((![select (cmpi .slt (res_main_while0b_v83 V0) (constantI S_ 32 0#32)) (addi (res_main_while0b_v83 V0) (constantI S_ 32 20000#32)) (res_main_while0b_v83 V0)] : Fin 1 → (⟨S_, .i32⟩ : BufTy).Contents (Elt F))) k (Shape.Idx.first h_S_)).toInt) sliceFits_S20000_S1) shapeCasts_S1_S_)) (V0 (Proc.devRef .tc main_v41_4))) (res_main_while0b_v124 V0))) (broadcastInDim S20000 ![] bcast_S_S20000 (constant S_ .f32 0x3E99999A#32)))) (broadcastInDim S1 ![] bcast_S_S1 (select (cmpi .slt (res_main_while0b_v83 V0) (constantI S_ 32 0#32)) (addi (res_main_while0b_v83 V0) (constantI S_ 32 20000#32)) (res_main_while0b_v83 V0))) (constantI S_ 1 0#1))
set_option maxRecDepth 8192 in
theorem step_main_v41_7_congr {V0 V0' : Valuation τ sig (Elt F)} (h : Agree V0 V0') : step_main_v41_7 V0 = step_main_v41_7 V0' := by
  unfold step_main_v41_7
  rw [res_main_while0b_v124_congr h, res_main_while0b_v83_congr h, h main_v41_7 (by decide), h main_v41_4 (by decide)]
set_option maxRecDepth 8192 in
/-- `main_v41_8` after one trip, of the contents before it. -/
def step_main_v41_8 (V0 : Valuation τ sig (Elt F)) : (Proc.devRef .tc main_v41_8 : DevRef τ sig).ty.Contents (Elt F) :=
  id (Host.scatter scatter_S100_S1_S__n_0_0_0 (fun _ b => b) (V0 (Proc.devRef .tc main_v41_8)) (broadcastInDim S1 ![] bcast_S_S1 (id (select (cmpi .slt (V0 (Proc.devRef .tc main_v41_6)) (constantI S_ 32 0#32)) (addi (V0 (Proc.devRef .tc main_v41_6)) (constantI S_ 32 100#32)) (V0 (Proc.devRef .tc main_v41_6))))) (res_main_while0b_v83 V0))
set_option maxRecDepth 8192 in
theorem step_main_v41_8_congr {V0 V0' : Valuation τ sig (Elt F)} (h : Agree V0 V0') : step_main_v41_8 V0 = step_main_v41_8 V0' := by
  unfold step_main_v41_8
  rw [res_main_while0b_v83_congr h, h main_v41_8 (by decide), h main_v41_6 (by decide)]

/-- ONE TRIP on the carried buffers: the buffers the body writes step, everything else is as it was. -/
def STEP (V0 : Valuation τ sig (Elt F)) : Valuation τ sig (Elt F) :=
  Function.update (Function.update (Function.update (Function.update (V0) (Proc.devRef .tc main_v41_5) (step_main_v41_5 V0)) (Proc.devRef .tc main_v41_6) (step_main_v41_6 V0)) (Proc.devRef .tc main_v41_7) (step_main_v41_7 V0)) (Proc.devRef .tc main_v41_8) (step_main_v41_8 V0)

theorem STEP_main_v41_0 (V0 : Valuation τ sig (Elt F)) : STEP V0 (Proc.devRef .tc main_v41_0) = V0 (Proc.devRef .tc main_v41_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v41_1 (V0 : Valuation τ sig (Elt F)) : STEP V0 (Proc.devRef .tc main_v41_1) = V0 (Proc.devRef .tc main_v41_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v41_2 (V0 : Valuation τ sig (Elt F)) : STEP V0 (Proc.devRef .tc main_v41_2) = V0 (Proc.devRef .tc main_v41_2) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v41_3 (V0 : Valuation τ sig (Elt F)) : STEP V0 (Proc.devRef .tc main_v41_3) = V0 (Proc.devRef .tc main_v41_3) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v41_4 (V0 : Valuation τ sig (Elt F)) : STEP V0 (Proc.devRef .tc main_v41_4) = V0 (Proc.devRef .tc main_v41_4) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v41_5 (V0 : Valuation τ sig (Elt F)) : STEP V0 (Proc.devRef .tc main_v41_5) = step_main_v41_5 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v41_6 (V0 : Valuation τ sig (Elt F)) : STEP V0 (Proc.devRef .tc main_v41_6) = step_main_v41_6 V0 := by
  unfold STEP; rw [Function.update_of_ne (devRef_ne_of_ne (by decide))]; rw [Function.update_of_ne (devRef_ne_of_ne (by decide))]; rw [Function.update_self]
theorem STEP_main_v41_7 (V0 : Valuation τ sig (Elt F)) : STEP V0 (Proc.devRef .tc main_v41_7) = step_main_v41_7 V0 := by
  unfold STEP; rw [Function.update_of_ne (devRef_ne_of_ne (by decide))]; rw [Function.update_self]
theorem STEP_main_v41_8 (V0 : Valuation τ sig (Elt F)) : STEP V0 (Proc.devRef .tc main_v41_8) = step_main_v41_8 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v41_0 (after condOps X)).trans ((hc main_v41_0 (by decide)).trans (STEP_main_v41_0 X).symm)
  · exact (trip_main_v41_1 (after condOps X)).trans ((hc main_v41_1 (by decide)).trans (STEP_main_v41_1 X).symm)
  · exact (trip_main_v41_2 (after condOps X)).trans ((hc main_v41_2 (by decide)).trans (STEP_main_v41_2 X).symm)
  · exact (trip_main_v41_3 (after condOps X)).trans ((hc main_v41_3 (by decide)).trans (STEP_main_v41_3 X).symm)
  · exact (trip_main_v41_4 (after condOps X)).trans ((hc main_v41_4 (by decide)).trans (STEP_main_v41_4 X).symm)
  · exact (trip_main_v41_5 (after condOps X)).trans ((step_main_v41_5_congr hc).trans (STEP_main_v41_5 X).symm)
  · exact (trip_main_v41_6 (after condOps X)).trans ((step_main_v41_6_congr hc).trans (STEP_main_v41_6 X).symm)
  · exact (trip_main_v41_7 (after condOps X)).trans ((step_main_v41_7_congr hc).trans (STEP_main_v41_7 X).symm)
  · exact (trip_main_v41_8 (after condOps X)).trans ((step_main_v41_8_congr hc).trans (STEP_main_v41_8 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v41_0, STEP_main_v41_0]; exact h main_v41_0 (by decide)
  · rw [STEP_main_v41_1, STEP_main_v41_1]; exact h main_v41_1 (by decide)
  · rw [STEP_main_v41_2, STEP_main_v41_2]; exact h main_v41_2 (by decide)
  · rw [STEP_main_v41_3, STEP_main_v41_3]; exact h main_v41_3 (by decide)
  · rw [STEP_main_v41_4, STEP_main_v41_4]; exact h main_v41_4 (by decide)
  · rw [STEP_main_v41_5, STEP_main_v41_5]; exact step_main_v41_5_congr h
  · rw [STEP_main_v41_6, STEP_main_v41_6]; exact step_main_v41_6_congr h
  · rw [STEP_main_v41_7, STEP_main_v41_7]; exact step_main_v41_7_congr h
  · rw [STEP_main_v41_8, STEP_main_v41_8]; exact step_main_v41_8_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

end Cert.ReferenceIdeal.Value

end
-- ==== Proof.RefLoop.lean ====
/- One trip of the reference's loop at the extended reals, and the run of picks its trips make. -/
module

public import proofs.«01_k».proof.Proof.RefSort
public import proofs.«01_k».proof.Proof.RefTrip
public import Idealize.ShloMosaic.Lib.Routing.OpsOne

@[expose] public section

set_option maxRecDepth 16384

noncomputable section

namespace Cert.ReferenceIdeal.Value

open Idealize.ShloMosaic Idealize.ShloMosaic.TcCoe
open Idealize.ShloMosaic.StableHlo
open Cert.ReferenceIdeal Cert.ReferenceIdeal.Gen Cert.Nms Idealize.ShloMosaic.ValueIdx

/-- A number that is not negative as a signed word is itself behind the lines that wrap a negative one. -/
theorem wrap_apply {s : Shape} (w z c : IVec s 32) (j : s.Idx) (n : ℕ) (hn : n < 2 ^ 31) (hw : w j = BitVec.ofNat 32 n) (hz : z j = 0#32) :
    select (cmpi .slt w z) (addi w c) w j = BitVec.ofNat 32 n := by
  show (if BitVec.ofBool ((w j).slt (z j)) = 1 then _ else w j) = _
  have : (w j).slt (z j) = false := by
    rw [hw, hz, BitVec.slt, Cert.KernelIdeal.Value.toInt_small hn]
    exact decide_eq_false (by show ¬((n : ℤ) < 0); omega)
  rw [this, ← hw]
  rfl

/-- The position a trip's lines read at: the found one, wrapped. -/
def wrapped (w : IVec S_ 32) : IVec S_ 32 := select (cmpi .slt w (constantI S_ 32 0#32)) (addi w (constantI S_ 32 20000#32)) w

theorem wrapped_apply (w : IVec S_ 32) (q : Box) (hw : ∀ j, w j = BitVec.ofNat 32 q.val) (j : S_.Idx) : wrapped w j = BitVec.ofNat 32 q.val :=
  wrap_apply w _ _ j q.val (by have := q.isLt; omega) (hw j) rfl

/-- An array's element at the found position, spread over all positions. -/
def picked (w : IVec S_ 32) (x : FVec Ideal S20000 .f32) : FVec Ideal S20000 .f32 :=
  broadcastInDim S20000 ![] bcast_S_S20000 (shapeCast S_ (Host.dynamicSlice S1 x (fun k => (((![select (cmpi .slt w (constantI S_ 32 0#32)) (addi w (constantI S_ 32 20000#32)) w] : Fin 1 → (⟨S_, .i32⟩ : BufTy).Contents (Elt Ideal))) k (Shape.Idx.first h_S_)).toInt) sliceFits_S20000_S1) shapeCasts_S1_S_)

theorem picked_apply (w : IVec S_ 32) (x : FVec Ideal S20000 .f32) (q : Box) (hw : ∀ j, w j = BitVec.ofNat 32 q.val) (j : S20000.Idx) :
    (picked w x j : EReal) = x (ix1 q) := by
  unfold picked
  refine (broadcastInDim_scalar_apply _ _ _).trans ?_
  refine (shapeCast_apply _ _ _ (ix1 (0 : Fin 1)) ?_).trans ?_
  · rw [Shape.rowMajor_val_one]
    exact (Nat.lt_one_iff.1 (Fin.isLt (S_.rowMajor (Shape.Idx.first h_S_)))).symm
  · unfold Host.dynamicSlice extractStridedSlice
    refine congrArg x (funext fun a => Fin.ext ?_)
    obtain rfl : a = 0 := Subsingleton.elim _ _
    show (min (max (wrapped w (Shape.Idx.first h_S_)).toInt 0) ((20000 - 1 : ℕ) : ℤ)).toNat + 0 = q.val
    rw [wrapped_apply w q hw, Cert.KernelIdeal.Value.toInt_small (by have := q.isLt; omega)]
    have := q.isLt
    omega

/-- The area every box shares with the found one. -/
def shared (w : IVec S_ 32) (x0 x1 x2 x3 : FVec Ideal S20000 .f32) : FVec Ideal S20000 .f32 :=
  mulf (maximumf (subf (minimumf (picked w x2) x2) (maximumf (picked w x0) x0)) (broadcastInDim S20000 ![] bcast_S_S20000 (constant S_ .f32 0x00000000#32)))
    (maximumf (subf (minimumf (picked w x3) x3) (maximumf (picked w x1) x1)) (broadcastInDim S20000 ![] bcast_S_S20000 (constant S_ .f32 0x00000000#32)))

theorem shared_apply (w : IVec S_ 32) (x0 x1 x2 x3 : FVec Ideal S20000 .f32) (q : Box) (hw : ∀ j, w j = BitVec.ofNat 32 q.val) (j : S20000.Idx) :
    (shared w x0 x1 x2 x3 j : EReal) = (max (min (x2 (ix1 q)) (x2 j) - max (x0 (ix1 q)) (x0 j)) zero * max (min (x3 (ix1 q)) (x3 j) - max (x1 (ix1 q)) (x1 j)) zero : EReal) := by
  rw [← picked_apply w x0 q hw j, ← picked_apply w x1 q hw j, ← picked_apply w x2 q hw j, ← picked_apply w x3 q hw j]
  rfl

/-- One number written at one position: the number there, the array elsewhere. -/
theorem scatter_at_one {α : Type} {N : ℕ} (d : ScatterDims (Routing.shape1 N) (Routing.shape1 1) Routing.shape0) (hiw : d.insertedWindowDims = [0])
    (hsd : d.scatterDimsToOperandDims = [0]) (x0 : (Routing.shape1 N).Idx → α) (idx : IVec (Routing.shape1 1) 32) (upd : Routing.shape0.Idx → α)
    (k : Fin N) (hidx : (idx (ix1 0)).toInt = (k.val : Int)) (e : Fin N) :
    Host.scatter d (fun _ b => b) x0 idx upd (ix1 e) = if e = k then upd ix0 else x0 (ix1 e) := by
  by_cases h : e = k
  · rw [if_pos h]
    exact Routing.scatter_set_hit d x0 idx upd _ _ (fun j _ => congrArg upd (eq_ix0 j)) ix0 ((Routing.lands_one d hiw hsd idx k hidx e).2 h)
  · rw [if_neg h]
    exact Routing.scatter_set_miss d x0 idx upd _ fun j hj => h ((Routing.lands_one d hiw hsd idx k hidx e).1 (by rw [← eq_ix0 j]; exact hj))

/-- The boxes valid after a trip that found position `q`. -/
theorem valid_apply (w : IVec S_ 32) (x0 x1 x2 x3 ar : FVec Ideal S20000 .f32) (v : IVec S20000 1) (q : Box) (hw : ∀ j, w j = BitVec.ofNat 32 q.val) (e : Box) :
    Host.scatter scatter_S20000_S1_S__n_0_0_0 (fun _ b => b)
      (andi v (cmpf .ole (Host.divf (shared w x0 x1 x2 x3) (subf (addf (picked w ar) ar) (shared w x0 x1 x2 x3))) (broadcastInDim S20000 ![] bcast_S_S20000 (constant S_ .f32 0x3E99999A#32))))
      (broadcastInDim S1 ![] bcast_S_S1 (wrapped w)) (constantI S_ 1 0#1) (ix1 e)
      = if e = q then 0#1 else IntOp.andi (v (ix1 e)) (BitVec.ofBool (decide (Ideal.div (shared w x0 x1 x2 x3 (ix1 e) : EReal) (((ar (ix1 q) : EReal) + ar (ix1 e)) - shared w x0 x1 x2 x3 (ix1 e)) ≤ thr))) := by
  refine (scatter_at_one scatter_S20000_S1_S__n_0_0_0 rfl rfl _ _ _ q ?_ e).trans ?_
  · refine (congrArg BitVec.toInt ((broadcastInDim_scalar_apply _ _ _).trans (wrapped_apply w q hw _))).trans ?_
    exact Cert.KernelIdeal.Value.toInt_small (by have := q.isLt; omega)
  · rw [← picked_apply w ar q hw (ix1 e)]
    rfl

/-- The same, of arrays that hold the corners and areas of the boxes in an order. -/
theorem valid_iff (w : IVec S_ 32) (x0 x1 x2 x3 ar : FVec Ideal S20000 .f32) (v : IVec S20000 1) (q : Box) (hw : ∀ j, w j = BitVec.ofNat 32 q.val) (e : Box)
    {I : Inp} {o : Box → Box} (h0 : ∀ q, (x0 (ix1 q) : EReal) = I.x1 (o q)) (h1 : ∀ q, (x1 (ix1 q) : EReal) = I.y1 (o q)) (h2 : ∀ q, (x2 (ix1 q) : EReal) = I.x2 (o q))
    (h3 : ∀ q, (x3 (ix1 q) : EReal) = I.y2 (o q)) (h4 : ∀ q, (ar (ix1 q) : EReal) = I.area (o q)) :
    id (Host.scatter scatter_S20000_S1_S__n_0_0_0 (fun _ b => b)
      (andi v (cmpf .ole (Host.divf (shared w x0 x1 x2 x3) (subf (addf (picked w ar) ar) (shared w x0 x1 x2 x3))) (broadcastInDim S20000 ![] bcast_S_S20000 (constant S_ .f32 0x3E99999A#32))))
      (broadcastInDim S1 ![] bcast_S_S1 (wrapped w)) (constantI S_ 1 0#1)) (ix1 e) = 1#1
      ↔ (v (ix1 e) = 1#1 ∧ I.ok (o q) (o e)) ∧ e ≠ q := by
  have hs : (shared w x0 x1 x2 x3 (ix1 e) : EReal) = I.inter (o q) (o e) := by
    rw [shared_apply _ _ _ _ _ q hw, h0, h0, h1, h1, h2, h2, h3, h3]; rfl
  refine (Eq.congr_left (valid_apply w x0 x1 x2 x3 ar v q hw e)).trans ?_
  rw [hs, h4, h4]
  by_cases c : e = q
  · rw [if_pos c]; exact ⟨fun t => absurd t (by decide), fun t => absurd c t.2⟩
  · rw [if_neg c, Idealize.ShloMosaic.IntOp.andi_eq_one]
    refine ⟨fun t => ⟨⟨t.1, ?_⟩, c⟩, fun t => ⟨t.1.1, ?_⟩⟩
    · by_contra o'
      rw [decide_eq_false (p := Ideal.div _ _ ≤ thr) o'] at t
      exact absurd t.2 (by decide)
    · rw [decide_eq_true (p := Ideal.div _ _ ≤ thr) t.1.2]; rfl

/-- One more trip counted. -/
theorem count_apply (x : IVec S_ 32) (k : ℕ) (j : S_.Idx) (h : x j = BitVec.ofNat 32 k) : id (addi x (constantI S_ 32 1#32)) j = BitVec.ofNat 32 (k + 1) := by
  show x j + 1#32 = _
  rw [h, BitVec.ofNat_add]

/-- The places kept after trip `n`. -/
theorem keep_apply (w i : IVec S_ 32) (kp : IVec S100 32) (n : Fin 100) (hi : ∀ j, i j = BitVec.ofNat 32 n.val) (e : Fin 100) :
    Host.scatter scatter_S100_S1_S__n_0_0_0 (fun _ b => b) kp
      (broadcastInDim S1 ![] bcast_S_S1 (id (select (cmpi .slt i (constantI S_ 32 0#32)) (addi i (constantI S_ 32 100#32)) i))) w (ix1 e)
      = if e = n then w ix0 else kp (ix1 e) := by
  refine scatter_at_one scatter_S100_S1_S__n_0_0_0 rfl rfl _ _ _ n ?_ e
  refine (congrArg BitVec.toInt ((broadcastInDim_scalar_apply _ _ _).trans (wrap_apply i _ _ _ n.val (by have := n.isLt; omega) (hi _) rfl))).trans ?_
  exact Cert.KernelIdeal.Value.toInt_small (by have := n.isLt; omega)

/-! ## The trips -/

variable (E : Valuation τ sig (Elt Ideal))

/-- The buffers before trip `k`. -/
def St (k : ℕ) : Valuation τ sig (Elt Ideal) := STEP^[k] E

theorem St_succ (k : ℕ) : St E (k + 1) = STEP (St E k) := Function.iterate_succ_apply' _ _ _

/-- The position a trip finds, and what it is. -/
theorem found (V : Valuation τ sig (Elt Ideal)) : ∃ q : Box, (∀ j, (res_main_while0b_v83 V : IVec S_ 32) j = BitVec.ofNat 32 q.val)
    ∧ (((V (Proc.devRef .tc main_v41_7) : IVec S20000 1) (ix1 q) = 1#1 ∧ ∀ i : Box, (V (Proc.devRef .tc main_v41_7) : IVec S20000 1) (ix1 i) = 1#1 → q ≤ i)
      ∨ ((∀ i : Box, (V (Proc.devRef .tc main_v41_7) : IVec S20000 1) (ix1 i) ≠ 1#1) ∧ q = 0)) := by
  obtain ⟨q, h, h'⟩ := argmax_spec (V (Proc.devRef .tc main_v41_7) : IVec S20000 1) ix0 reducesTo_S20000_S_d0 h_S_
  refine ⟨q, fun j => ?_, h'⟩
  rw [eq_ix0 j]
  exact h

/-- The position trip `k` finds. -/
def pos (k : ℕ) : Box := (found (St E k)).choose

/-- The buffers the trips only read hold the corners and areas of the boxes in order. -/
structure Ordered (I : Inp) (V : Valuation τ sig (Elt Ideal)) : Prop where
  a0 : ∀ q, ((V (Proc.devRef .tc main_v41_0) : FVec Ideal S20000 .f32) (ix1 q) : EReal) = I.x1 (ord I.score q)
  a1 : ∀ q, ((V (Proc.devRef .tc main_v41_1) : FVec Ideal S20000 .f32) (ix1 q) : EReal) = I.y1 (ord I.score q)
  a2 : ∀ q, ((V (Proc.devRef .tc main_v41_2) : FVec Ideal S20000 .f32) (ix1 q) : EReal) = I.x2 (ord I.score q)
  a3 : ∀ q, ((V (Proc.devRef .tc main_v41_3) : FVec Ideal S20000 .f32) (ix1 q) : EReal) = I.y2 (ord I.score q)
  a4 : ∀ q, ((V (Proc.devRef .tc main_v41_4) : FVec Ideal S20000 .f32) (ix1 q) : EReal) = I.area (ord I.score q)

variable {E} {I : Inp}

theorem Ordered.step {V : Valuation τ sig (Elt Ideal)} (h : Ordered I V) : Ordered I (STEP V) where
  a0 q := by rw [STEP_main_v41_0]; exact h.a0 q
  a1 q := by rw [STEP_main_v41_1]; exact h.a1 q
  a2 q := by rw [STEP_main_v41_2]; exact h.a2 q
  a3 q := by rw [STEP_main_v41_3]; exact h.a3 q
  a4 q := by rw [STEP_main_v41_4]; exact h.a4 q

theorem Ordered.all (h : Ordered I E) (k : ℕ) : Ordered I (St E k) := by
  induction k with
  | zero => exact h
  | succ k ih => rw [St_succ]; exact ih.step

/-- The positions valid after a trip. -/
theorem step7 {V : Valuation τ sig (Elt Ideal)} (h : Ordered I V) (q : Box) (hq : ∀ j, (res_main_while0b_v83 V : IVec S_ 32) j = BitVec.ofNat 32 q.val) (e : Box) :
    (STEP V (Proc.devRef .tc main_v41_7) : IVec S20000 1) (ix1 e) = 1#1
      ↔ ((V (Proc.devRef .tc main_v41_7) : IVec S20000 1) (ix1 e) = 1#1 ∧ I.ok (ord I.score q) (ord I.score e)) ∧ e ≠ q := by
  rw [STEP_main_v41_7]
  exact valid_iff (res_main_while0b_v83 V) (V (Proc.devRef .tc main_v41_0)) (V (Proc.devRef .tc main_v41_1)) (V (Proc.devRef .tc main_v41_2)) (V (Proc.devRef .tc main_v41_3))
    (V (Proc.devRef .tc main_v41_4)) (V (Proc.devRef .tc main_v41_7)) q hq e h.a0 h.a1 h.a2 h.a3 h.a4

/-- The boxes at the valid positions before trip `k`. -/
def alive (E : Valuation τ sig (Elt Ideal)) (I : Inp) (k : ℕ) (j : Box) : Prop := ∃ q, ord I.score q = j ∧ (St E k (Proc.devRef .tc main_v41_7) : IVec S20000 1) (ix1 q) = 1#1

theorem alive_iff (k : ℕ) (q : Box) : alive E I k (ord I.score q) ↔ (St E k (Proc.devRef .tc main_v41_7) : IVec S20000 1) (ix1 q) = 1#1 :=
  ⟨fun ⟨_, e, h⟩ => ord_inj _ e ▸ h, fun h => ⟨q, rfl, h⟩⟩

/-- The trips make a run of picks. -/
theorem follows (h : Ordered I E) (hv : ∀ q : Box, (E (Proc.devRef .tc main_v41_7) : IVec S20000 1) (ix1 q) = 1#1) :
    Follows I.score I.ok (alive E I) fun k => ord I.score (pos E k) := by
  refine ⟨fun j => ?_, fun k => ⟨?_, fun j => ?_⟩⟩
  · obtain ⟨q, rfl⟩ := ord_surj I.score j
    exact (alive_iff 0 q).2 (hv q)
  · exact pick_is I.score _ _ (fun q => (alive_iff k q).symm) _ (found (St E k)).choose_spec.2
  · obtain ⟨q, rfl⟩ := ord_surj I.score j
    rw [alive_iff, alive_iff, St_succ, step7 (h.all k) (pos E k) (found (St E k)).choose_spec.1 q]
    exact and_congr_right fun _ => not_congr ⟨fun t => congrArg _ t, fun t => ord_inj _ t⟩

/-- The trip counter. -/
theorem counter (h : ∀ j, (E (Proc.devRef .tc main_v41_6) : IVec S_ 32) j = 0#32) (k : ℕ) (j : S_.Idx) : (St E k (Proc.devRef .tc main_v41_6) : IVec S_ 32) j = BitVec.ofNat 32 k := by
  induction k with
  | zero => exact h j
  | succ k ih =>
    rw [St_succ, STEP_main_v41_6]
    exact count_apply _ k j ih

/-- The kept places after `k` trips. -/
theorem kept (h : ∀ j, (E (Proc.devRef .tc main_v41_6) : IVec S_ 32) j = 0#32) (k : ℕ) (hk : k ≤ 100) (e : Fin 100) (he : e.val < k) :
    (St E k (Proc.devRef .tc main_v41_8) : IVec S100 32) (ix1 e) = BitVec.ofNat 32 (pos E e.val).val := by
  induction k with
  | zero => exact absurd he (Nat.not_lt_zero _)
  | succ k ih =>
    rw [St_succ, STEP_main_v41_8]
    have := keep_apply (res_main_while0b_v83 (St E k)) (St E k (Proc.devRef .tc main_v41_6)) (St E k (Proc.devRef .tc main_v41_8)) ⟨k, by omega⟩ (counter h k) e
    refine Eq.trans (show (step_main_v41_8 (St E k) : IVec S100 32) (ix1 e) = _ from this) ?_
    by_cases c : e = ⟨k, by omega⟩
    · rw [if_pos c]
      have c' : k = e.val := (congrArg Fin.val c).symm
      rw [← c']
      exact (found (St E k)).choose_spec.1 ix0
    · rw [if_neg c]
      refine ih (by omega) ?_
      have : e.val ≠ k := fun t => c (Fin.ext t)
      omega

end Cert.ReferenceIdeal.Value

end
-- ==== Proof.RefEntry.lean ====
/- The reference's lines before its loop: what each array the loop and the result read holds, as terms of the arguments. -/
module

public import proofs.«01_k».proof.Proof.RefLoop
public import proofs.«01_k».proof.Proof.RefFrame
public import Idealize.ShloMosaic.Lib.StableHlo.ReadAt
public import Idealize.ShloMosaic.Lib.StackMember

@[expose] public section

set_option maxRecDepth 16384

noncomputable section

namespace Cert.ReferenceIdeal.Value

open Idealize.ShloMosaic hiding ix1 ix2 ix3
open Idealize.ShloMosaic.TcCoe Idealize.ShloMosaic.Tactic
open Idealize.ShloMosaic.StableHlo
open Cert.ReferenceIdeal Cert.ReferenceIdeal.Gen Cert.Nms Idealize.ShloMosaic.ValueIdx

/-- The scores. -/
def scores (a0 : FVec Ideal S1x20000x1 .f32) : FVec Ideal S20000 .f32 :=
  Host.divf (broadcastInDim S20000 ![] bcast_S_S20000 (constant S_ .f32 0x3F800000#32))
    (addf (broadcastInDim S20000 ![] bcast_S_S20000 (constant S_ .f32 0x3F800000#32)) (Host.exp (Host.negf (shapeCast S20000 a0 shapeCasts_S1x20000x1_S20000))))

/-- The matrix that spreads two anchor coordinates over the eighteen columns. -/
def spread : FVec Ideal S2x18 .f32 := fun i => FloatOps.ofBits .f32 (lit0 (S2x18.rowMajor i))

/-- The eighteen decoded numbers of each box. -/
def dets (a1 : FVec Ideal S1x20000x18 .f32) (a2 : FVec Ideal S20000x2 .f32) : FVec Ideal S20000x18 .f32 :=
  addf (Host.divf (shapeCast S20000x18 a1 shapeCasts_S1x20000x18_S20000x18) (broadcastInDim S20000x18 ![] bcast_S_S20000x18 (constant S_ .f32 0x43000000#32)))
    (Host.dotGeneral dot_S20000x2_S2x18_S20000x18_1_0_0_1_n_n none a2 spread)

/-- Half the widths and heights. -/
def halves (d : FVec Ideal S20000x18 .f32) : FVec Ideal S20000x2 .f32 :=
  mulf (extractStridedSlice S20000x2 ![0, 2] d slices_S20000x18_S20000x2_0_2) (broadcastInDim S20000x2 ![] bcast_S_S20000x2 (constant S_ .f32 0x3F000000#32))

/-- The corners of each box. -/
def corners (d : FVec Ideal S20000x18 .f32) : FVec Ideal S20000x4 .f32 :=
  concatenate S20000x4 1 [⟨S20000x2, subf (extractStridedSlice S20000x2 ![0, 0] d slices_S20000x18_S20000x2_0_0) (halves d)⟩,
    ⟨S20000x2, addf (extractStridedSlice S20000x2 ![0, 0] d slices_S20000x18_S20000x2_0_0) (halves d)⟩] concatenates_S20000x2_S20000x2_S20000x4_d1

/-- The boxes' numbers in order. -/
def order (s : FVec Ideal S20000 .f32) : IVec S20000 32 :=
  (Host.sort2 S20000 0 comparator_f32_i32_d0 s (iotaInDim S20000 32 0)).2

/-- The corners in order. -/
def inOrder (b : FVec Ideal S20000x4 .f32) (o : IVec S20000 32) : FVec Ideal S20000x4 .f32 :=
  Host.gather gather_S20000x4_S20000x1_S20000x4_1_0_n_n_0_1_14 b (broadcastInDim S20000x1 ![0] bcast_S20000_S20000x1_0
    (select (cmpi .slt o (broadcastInDim S20000 ![] bcast_S_S20000 (constantI S_ 32 0#32))) (addi o (broadcastInDim S20000 ![] bcast_S_S20000 (constantI S_ 32 20000#32))) o))

/-- One column of the corners. -/
def column (b : FVec Ideal S20000x4 .f32) (i : Fin 4) (h : S20000x4.Slices ![0, i.val] S20000x1) : FVec Ideal S20000 .f32 :=
  shapeCast S20000 (extractStridedSlice S20000x1 ![0, i.val] b h) shapeCasts_S20000x1_S20000

section
variable (V : Valuation τ sig (Elt Ideal))

theorem first_v6 : (after hostOps0 V (Proc.devRef .tc main_v6) : FVec Ideal S20000 .f32) = scores (V (Proc.devRef .tc main_arg0)) := by
  after_reads_simp
  rfl
theorem first_v11 : (after hostOps0 V (Proc.devRef .tc main_v11) : FVec Ideal S20000x18 .f32) = dets (V (Proc.devRef .tc main_arg1)) (V (Proc.devRef .tc main_arg2)) := by
  after_reads_simp
  rfl
theorem first_v18 : (after hostOps0 V (Proc.devRef .tc main_v18) : FVec Ideal S20000x4 .f32) = corners (dets (V (Proc.devRef .tc main_arg1)) (V (Proc.devRef .tc main_arg2))) := by
  after_reads_simp
  rfl
theorem first_v19 : (after hostOps0 V (Proc.devRef .tc main_v19) : FVec Ideal S20000 .f32) = Host.negf (scores (V (Proc.devRef .tc main_arg0))) := by
  after_reads_simp
  rfl
theorem second_v20 : (after hostOps0_1 V (Proc.devRef .tc main_v20) : IVec S20000 32) = order (V (Proc.devRef .tc main_v19)) := by
  after_reads_simp
  simp -implicitDefEqProofs only [TRef.toBuf, TRef.ofBuf, cast_cast, cast_eq]
  rfl
/-- The corners in order, from the lines' operands. -/
abbrev sortedCorners : FVec Ideal S20000x4 .f32 := inOrder (V (Proc.devRef .tc main_v18)) (V (Proc.devRef .tc main_v20))

theorem third_0 : (after hostOps0_2 V (Proc.devRef .tc main_v41_0) : FVec Ideal S20000 .f32) = column (sortedCorners V) 0 slices_S20000x4_S20000x1_0_0 := by
  after_reads_simp
  rfl
theorem third_1 : (after hostOps0_2 V (Proc.devRef .tc main_v41_1) : FVec Ideal S20000 .f32) = column (sortedCorners V) 1 slices_S20000x4_S20000x1_0_1 := by
  after_reads_simp
  rfl
theorem third_2 : (after hostOps0_2 V (Proc.devRef .tc main_v41_2) : FVec Ideal S20000 .f32) = column (sortedCorners V) 2 slices_S20000x4_S20000x1_0_2 := by
  after_reads_simp
  rfl
theorem third_3 : (after hostOps0_2 V (Proc.devRef .tc main_v41_3) : FVec Ideal S20000 .f32) = column (sortedCorners V) 3 slices_S20000x4_S20000x1_0_3 := by
  after_reads_simp
  rfl
theorem third_4 : (after hostOps0_2 V (Proc.devRef .tc main_v41_4) : FVec Ideal S20000 .f32)
    = mulf (subf (column (sortedCorners V) 2 slices_S20000x4_S20000x1_0_2) (column (sortedCorners V) 0 slices_S20000x4_S20000x1_0_0))
        (subf (column (sortedCorners V) 3 slices_S20000x4_S20000x1_0_3) (column (sortedCorners V) 1 slices_S20000x4_S20000x1_0_1)) := by
  after_reads_simp
  rfl
theorem third_6 : (after hostOps0_2 V (Proc.devRef .tc main_v41_6) : IVec S_ 32) = constantI S_ 32 0#32 := by
  after_reads_simp
  rfl
theorem third_7 : (after hostOps0_2 V (Proc.devRef .tc main_v41_7) : IVec S20000 1) = broadcastInDim S20000 ![] bcast_S_S20000 (constantI S_ 1 1#1) := by
  after_reads_simp
  rfl
end

variable (m : (ℓ : Loc nD τ sig) → Buf (Elt Ideal) ℓ) (c : Dev nD)

/-- The buffers where the loop is entered. -/
abbrev EE : Valuation τ sig (Elt Ideal) := entryContents preI m c

/-- The three arguments. -/
abbrev A0 : FVec Ideal S1x20000x1 .f32 := m (c, Proc.devRef .tc main_arg0)
abbrev A1 : FVec Ideal S1x20000x18 .f32 := m (c, Proc.devRef .tc main_arg1)
abbrev A2 : FVec Ideal S20000x2 .f32 := m (c, Proc.devRef .tc main_arg2)

theorem EE_eq : EE m c = after hostOps0_2 (after hostOps0_1 (after hostOps0 fun b => m (c, b))) := by
  unfold EE entryContents
  simp only [preI, afterL_cons, afterL_nil]

theorem mid_v18 : (after hostOps0_1 (after hostOps0 fun b => m (c, b)) (Proc.devRef .tc main_v18) : FVec Ideal S20000x4 .f32) = corners (dets (A1 m c) (A2 m c)) := by
  refine (after_of_writes_sub _ _ hostOps0_1_writes (by decide +kernel)).trans ?_
  exact first_v18 _
theorem mid_v20 : (after hostOps0_1 (after hostOps0 fun b => m (c, b)) (Proc.devRef .tc main_v20) : IVec S20000 32) = order (Host.negf (scores (A0 m c))) := by
  rw [second_v20, first_v19]
theorem entry_v6 : (EE m c (Proc.devRef .tc main_v6) : FVec Ideal S20000 .f32) = scores (A0 m c) := by
  rw [EE_eq]
  refine (after_of_writes_sub _ _ hostOps0_2_writes (by decide +kernel)).trans ?_
  refine (after_of_writes_sub _ _ hostOps0_1_writes (by decide +kernel)).trans ?_
  exact first_v6 _
theorem entry_v11 : (EE m c (Proc.devRef .tc main_v11) : FVec Ideal S20000x18 .f32) = dets (A1 m c) (A2 m c) := by
  rw [EE_eq]
  refine (after_of_writes_sub _ _ hostOps0_2_writes (by decide +kernel)).trans ?_
  refine (after_of_writes_sub _ _ hostOps0_1_writes (by decide +kernel)).trans ?_
  exact first_v11 _
theorem entry_v20 : (EE m c (Proc.devRef .tc main_v20) : IVec S20000 32) = order (Host.negf (scores (A0 m c))) := by
  rw [EE_eq]
  refine (after_of_writes_sub _ _ hostOps0_2_writes (by decide +kernel)).trans ?_
  exact mid_v20 m c

/-! ## Read at a box -/

/-- The inputs as core `c` finds them. -/
def rinp : Inp := Inp.of (A0 m c) (A1 m c) (A2 m c)

theorem logit (x : FVec Ideal S1x20000x1 .f32) (n : Box) : shapeCast S20000 x shapeCasts_S1x20000x1_S20000 (ix1 n) = x (ix3 0 n 0) := by
  refine shapeCast_apply _ _ _ (ix3 0 n 0) ?_
  rw [Shape.rowMajor_val_three, Shape.rowMajor_val_one]
  show (0 * 20000 + n.val) * 1 + 0 = n.val
  omega

theorem row18 (x : FVec Ideal S1x20000x18 .f32) (n : Box) (d : Fin 18) : shapeCast S20000x18 x shapeCasts_S1x20000x18_S20000x18 (ix2 n d) = x (ix3 0 n d) := by
  refine shapeCast_apply _ _ _ (ix3 0 n d) ?_
  rw [Shape.rowMajor_val_three, Shape.rowMajor_val_two]
  show (0 * 20000 + n.val) * 18 + d.val = n.val * 18 + d.val
  omega

theorem scores_apply (n : Box) : (scores (A0 m c) (ix1 n) : EReal) = (rinp m c).score n := by
  show Ideal.div one (one + Ideal.exp (-(shapeCast S20000 (A0 m c) shapeCasts_S1x20000x1_S20000 (ix1 n) : EReal))) = _
  rw [logit]
  rfl

theorem order_box (k : Box) : order (Host.negf (scores (A0 m c))) (ix1 k) = BitVec.ofNat 32 (ord (rinp m c).score k).val :=
  order_apply _ _ (fun n => congrArg (fun t : EReal => -t) (scores_apply m c n)) k

theorem dets_apply (n : Box) (d : Fin 18) : (dets (A1 m c) (A2 m c) (ix2 n d) : EReal)
    = (rinp m c).Y n d * inv + ((rinp m c).A n 0 * spread (ix2 0 d) + (rinp m c).A n 1 * spread (ix2 1 d)) := by
  show Ideal.div (shapeCast S20000x18 (A1 m c) shapeCasts_S1x20000x18_S20000x18 (ix2 n d) : EReal) (FloatOps.ofBits (F := Ideal) .f32 0x43000000#32)
    + (Host.dotGeneral (DotDims.plain 20000 2 18) none (A2 m c) spread (ix2 n d) : EReal) = _
  rw [row18, div128, StackMember.dotGeneral_plain_apply, Fin.sum_univ_two]
  rfl

/-- A column that takes the first coordinate, the second, or neither. -/
theorem dets_fst (n : Box) (d : Fin 18) (h0 : (spread (ix2 0 d) : EReal) = one) (h1 : (spread (ix2 1 d) : EReal) = zero) :
    (dets (A1 m c) (A2 m c) (ix2 n d) : EReal) = (rinp m c).ca d 0 n := by
  rw [dets_apply, h0, h1, one_eq, zero_eq, mul_one, mul_zero, add_zero]; rfl
theorem dets_snd (n : Box) (d : Fin 18) (h0 : (spread (ix2 0 d) : EReal) = zero) (h1 : (spread (ix2 1 d) : EReal) = one) :
    (dets (A1 m c) (A2 m c) (ix2 n d) : EReal) = (rinp m c).ca d 1 n := by
  rw [dets_apply, h0, h1, one_eq, zero_eq, mul_one, mul_zero, zero_add]; rfl
theorem dets_none (n : Box) (d : Fin 18) (h0 : (spread (ix2 0 d) : EReal) = zero) (h1 : (spread (ix2 1 d) : EReal) = zero) :
    (dets (A1 m c) (A2 m c) (ix2 n d) : EReal) = (rinp m c).cw d n := by
  rw [dets_apply, h0, h1, zero_eq, mul_zero, mul_zero, add_zero, add_zero]; rfl

/-- An entry of the spreading matrix. -/
theorem spread_apply (a : Fin 2) (d : Fin 18) (k : Fin 36) (hk : k.val = a.val * 18 + d.val) : (spread (ix2 a d) : EReal) = FloatOps.ofBits (F := Ideal) FTy.f32 (lit0 k) := by
  have : S2x18.rowMajor (ix2 a d) = k := Fin.ext (by rw [Shape.rowMajor_val_two]; exact hk.symm)
  unfold spread
  rw [this]

theorem dets0 (n : Box) : (dets (A1 m c) (A2 m c) (ix2 n 0) : EReal) = (rinp m c).ca 0 0 n := dets_fst m c n 0 (spread_apply 0 0 0 rfl) (spread_apply 1 0 18 rfl)
theorem dets1 (n : Box) : (dets (A1 m c) (A2 m c) (ix2 n 1) : EReal) = (rinp m c).ca 1 1 n := dets_snd m c n 1 (spread_apply 0 1 1 rfl) (spread_apply 1 1 19 rfl)
theorem dets2 (n : Box) : (dets (A1 m c) (A2 m c) (ix2 n 2) : EReal) = (rinp m c).cw 2 n := dets_none m c n 2 (spread_apply 0 2 2 rfl) (spread_apply 1 2 20 rfl)
theorem dets3 (n : Box) : (dets (A1 m c) (A2 m c) (ix2 n 3) : EReal) = (rinp m c).cw 3 n := dets_none m c n 3 (spread_apply 0 3 3 rfl) (spread_apply 1 3 21 rfl)
theorem dets4 (n : Box) : (dets (A1 m c) (A2 m c) (ix2 n 4) : EReal) = (rinp m c).ca 4 0 n := dets_fst m c n 4 (spread_apply 0 4 4 rfl) (spread_apply 1 4 22 rfl)
theorem dets5 (n : Box) : (dets (A1 m c) (A2 m c) (ix2 n 5) : EReal) = (rinp m c).ca 5 1 n := dets_snd m c n 5 (spread_apply 0 5 5 rfl) (spread_apply 1 5 23 rfl)
theorem dets8 (n : Box) : (dets (A1 m c) (A2 m c) (ix2 n 8) : EReal) = (rinp m c).ca 8 0 n := dets_fst m c n 8 (spread_apply 0 8 8 rfl) (spread_apply 1 8 26 rfl)
theorem dets9 (n : Box) : (dets (A1 m c) (A2 m c) (ix2 n 9) : EReal) = (rinp m c).ca 9 1 n := dets_snd m c n 9 (spread_apply 0 9 9 rfl) (spread_apply 1 9 27 rfl)

/-- Columns `o`, `o + 1`, … of an array. -/
theorem cols {α : Type} {N M w o : ℕ} (x : (⟨2, ![N, M]⟩ : Shape).Idx → α) (h : (⟨2, ![N, M]⟩ : Shape).Slices ![0, o] ⟨2, ![N, w]⟩) (n : Fin N) (d : Fin w) (e : Fin M)
    (he : e.val = o + d.val) : extractStridedSlice ⟨2, ![N, w]⟩ ![0, o] x h (ix2 n d) = x (ix2 n e) := by
  unfold extractStridedSlice
  refine congrArg x (funext fun a => Fin.ext ?_)
  fin_cases a
  · exact Nat.zero_add _
  · exact he.symm

theorem corners_lo (d : FVec Ideal S20000x18 .f32) (n : Box) (i : Fin 2) (i' : Fin 4) (hi : i'.val = i.val) (u v : Fin 18) (hu : u.val = i.val) (hv : v.val = 2 + i.val) :
    (corners d (ix2 n i') : EReal) = (d (ix2 n u) : EReal) - (d (ix2 n v) : EReal) * half := by
  unfold corners
  refine (concatenate_pair_apply_left (s₁ := S20000x2) (s₂ := S20000x2) (t := S20000x4) (1 : Fin 2) _ _ _ (ix2 n i') rfl (ix2 n i) fun b => ?_).trans ?_
  · fin_cases b
    · rfl
    · exact hi.symm
  · rw [← cols d slices_S20000x18_S20000x2_0_0 n i u (by omega), ← cols d slices_S20000x18_S20000x2_0_2 n i v (by omega)]
    rfl

theorem corners_hi (d : FVec Ideal S20000x18 .f32) (n : Box) (i : Fin 2) (i' : Fin 4) (hi : i'.val = 2 + i.val) (u v : Fin 18) (hu : u.val = i.val) (hv : v.val = 2 + i.val) :
    (corners d (ix2 n i') : EReal) = (d (ix2 n u) : EReal) + (d (ix2 n v) : EReal) * half := by
  unfold corners
  refine (concatenate_pair_apply_right (s₁ := S20000x2) (s₂ := S20000x2) (t := S20000x4) (1 : Fin 2) _ _ _ (ix2 n i') rfl rfl (ix2 n i) (fun b hb => ?_) ?_).trans ?_
  · fin_cases b
    · rfl
    · exact absurd rfl hb
  · show i.val + 2 = i'.val
    omega
  · rw [← cols d slices_S20000x18_S20000x2_0_0 n i u (by omega), ← cols d slices_S20000x18_S20000x2_0_2 n i v (by omega)]
    rfl

theorem corner0 (n : Box) : (corners (dets (A1 m c) (A2 m c)) (ix2 n 0) : EReal) = (rinp m c).x1 n := by
  rw [corners_lo _ n 0 0 rfl 0 2 rfl rfl, dets0, dets2]; rfl
theorem corner1 (n : Box) : (corners (dets (A1 m c) (A2 m c)) (ix2 n 1) : EReal) = (rinp m c).y1 n := by
  rw [corners_lo _ n 1 1 rfl 1 3 rfl rfl, dets1, dets3]; rfl
theorem corner2 (n : Box) : (corners (dets (A1 m c) (A2 m c)) (ix2 n 2) : EReal) = (rinp m c).x2 n := by
  rw [corners_hi _ n 0 2 rfl 0 2 rfl rfl, dets0, dets2]; rfl
theorem corner3 (n : Box) : (corners (dets (A1 m c) (A2 m c)) (ix2 n 3) : EReal) = (rinp m c).y2 n := by
  rw [corners_hi _ n 1 3 rfl 1 3 rfl rfl, dets1, dets3]; rfl

/-- A word of each element as a one-column array. -/
theorem column_of {N : ℕ} {α : Type} (x : (⟨1, ![N]⟩ : Shape).Idx → α) (h : (⟨1, ![N]⟩ : Shape).BroadcastsInDim ⟨2, ![N, 1]⟩ ![0]) (k : Fin N) (z : Fin 1) :
    broadcastInDim ⟨2, ![N, 1]⟩ ![0] h x (ix2 k z) = x (ix1 k) := by
  refine broadcastInDim_apply _ _ _ _ _ fun a => ?_
  obtain rfl : a = 0 := Subsingleton.elim _ _
  show k.val = if N = 1 then 0 else k.val
  split
  · next e => have := k.isLt; omega
  · rfl

theorem inOrder_apply (b : FVec Ideal S20000x4 .f32) (o : IVec S20000 32) (k q : Box) (i : Fin 4) (h : o (ix1 k) = BitVec.ofNat 32 q.val) : inOrder b o (ix2 k i) = b (ix2 q i) := by
  unfold inOrder
  refine Routing.gather_row gather_S20000x4_S20000x1_S20000x4_1_0_n_n_0_1_14 rfl rfl rfl rfl rfl b _ k i q ?_ (by norm_num)
  refine (column_of _ _ k 0).trans ?_
  exact wrap_apply o _ _ _ q.val (by have := q.isLt; omega) h (broadcastInDim_scalar_apply _ _ _)

theorem column_apply (b : FVec Ideal S20000x4 .f32) (i : Fin 4) (h : S20000x4.Slices ![0, i.val] S20000x1) (k : Box) : column b i h (ix1 k) = b (ix2 k i) := by
  unfold column
  refine (shapeCast_apply _ _ _ (ix2 k 0) ?_).trans (cols b h k 0 i (by simp))
  rw [Shape.rowMajor_val_one, Shape.rowMajor_val_two]
  show k.val * 1 + 0 = k.val
  omega

/-- A column of the corners in order. -/
theorem sorted_column (i : Fin 4) (h : S20000x4.Slices ![0, i.val] S20000x1) (k : Box) :
    column (sortedCorners (after hostOps0_1 (after hostOps0 fun b => m (c, b)))) i h (ix1 k) = corners (dets (A1 m c) (A2 m c)) (ix2 (ord (rinp m c).score k) i) := by
  rw [column_apply]
  unfold sortedCorners
  rw [mid_v18, mid_v20]
  exact inOrder_apply _ _ k _ i (order_box m c k)

/-- The loop is entered with the corners and areas in order, … -/
theorem entry_ordered : Ordered (rinp m c) (EE m c) where
  a0 q := by rw [EE_eq, third_0, sorted_column, corner0]
  a1 q := by rw [EE_eq, third_1, sorted_column, corner1]
  a2 q := by rw [EE_eq, third_2, sorted_column, corner2]
  a3 q := by rw [EE_eq, third_3, sorted_column, corner3]
  a4 q := by
    rw [EE_eq, third_4]
    unfold Inp.area
    rw [← corner0, ← corner1, ← corner2, ← corner3, ← sorted_column m c 0 slices_S20000x4_S20000x1_0_0, ← sorted_column m c 1 slices_S20000x4_S20000x1_0_1,
      ← sorted_column m c 2 slices_S20000x4_S20000x1_0_2, ← sorted_column m c 3 slices_S20000x4_S20000x1_0_3]
    rfl

/-- … every box valid … -/
theorem entry_valid (q : Box) : (EE m c (Proc.devRef .tc main_v41_7) : IVec S20000 1) (ix1 q) = 1#1 := by
  rw [EE_eq, third_7]
  exact broadcastInDim_scalar_apply _ _ _

/-- … and no trip counted. -/
theorem entry_count (j : S_.Idx) : (EE m c (Proc.devRef .tc main_v41_6) : IVec S_ 32) j = 0#32 := by
  rw [EE_eq, third_6]
  rfl

end Cert.ReferenceIdeal.Value

end
-- ==== Proof.RefValue.lean ====
/- The reference's lines after its loop, and its whole run: row `k` of the result is the row of the box picked at trip `k`. -/
module

public import proofs.«01_k».proof.Proof.RefEntry

@[expose] public section

set_option maxRecDepth 16384

noncomputable section

namespace Cert.ReferenceIdeal.Value

open Idealize.ShloMosaic hiding ix1 ix2 ix3
open Idealize.ShloMosaic.TcCoe Idealize.ShloMosaic.Tactic
open Idealize.ShloMosaic.StableHlo
open Idealize.SL.Sem
open Cert.ReferenceIdeal Cert.ReferenceIdeal.Gen Cert.Nms Idealize.ShloMosaic.ValueIdx

/-- A list of a hundred places as the gathers take it: a negative one wrapped, one column. -/
def places (w : IVec S100 32) : IVec S100x1 32 :=
  broadcastInDim S100x1 ![0] bcast_S100_S100x1_0 (select (cmpi .slt w (broadcastInDim S100 ![] bcast_S_S100 (constantI S_ 32 0#32)))
    (addi w (broadcastInDim S100 ![] bcast_S_S100 (constantI S_ 32 20000#32))) w)

/-- The boxes at the kept places. -/
def chosen (o : IVec S20000 32) (w : IVec S100 32) : IVec S100 32 := Host.gather gather_S20000_S100x1_S100_n_0_n_n_0_1_1 o (places w)

/-- The result of the chosen boxes: the score, three of the numbers, and two of them twice. -/
def table (s : FVec Ideal S20000 .f32) (d : FVec Ideal S20000x18 .f32) (p : IVec S100 32) : FVec Ideal S100x8 .f32 :=
  concatenate S100x8 1 [⟨S100x1, broadcastInDim S100x1 ![0] bcast_S100_S100x1_0 (Host.gather gather_S20000_S100x1_S100_n_0_n_n_0_1_1 s (places p))⟩,
    ⟨S100x3, Host.gather gather_S20000x3_S100x1_S100x3_1_0_n_n_0_1_13 (extractStridedSlice S20000x3 ![0, 0] d slices_S20000x18_S20000x3_0_0) (places p)⟩,
    ⟨S100x2, Host.gather gather_S20000x2_S100x1_S100x2_1_0_n_n_0_1_12 (extractStridedSlice S20000x2 ![0, 4] d slices_S20000x18_S20000x2_0_4) (places p)⟩,
    ⟨S100x2, Host.gather gather_S20000x2_S100x1_S100x2_1_0_n_n_0_1_12 (extractStridedSlice S20000x2 ![0, 8] d slices_S20000x18_S20000x2_0_8) (places p)⟩]
    concatenates_S100x1_S100x3_S100x2_S100x2_S100x8_d1

theorem last_v81 (V : Valuation τ sig (Elt Ideal)) : (after hostOps0_3 V (Proc.devRef .tc main_v81) : FVec Ideal S100x8 .f32)
    = table (V (Proc.devRef .tc main_v6)) (V (Proc.devRef .tc main_v11)) (chosen (V (Proc.devRef .tc main_v20)) (V (Proc.devRef .tc main_v41_8))) := by
  after_reads_simp
  rfl

theorem places_apply (w : IVec S100 32) (k : Fin 100) (q : Box) (h : w (ix1 k) = BitVec.ofNat 32 q.val) : places w (ix2 k 0) = BitVec.ofNat 32 q.val :=
  (column_of _ _ k 0).trans (wrap_apply w _ _ _ q.val (by have := q.isLt; omega) h (broadcastInDim_scalar_apply _ _ _))

theorem chosen_apply (o : IVec S20000 32) (w : IVec S100 32) (k : Fin 100) (q : Box) (h : w (ix1 k) = BitVec.ofNat 32 q.val) : chosen o w (ix1 k) = o (ix1 q) :=
  Routing.gather_take1 gather_S20000_S100x1_S100_n_0_n_n_0_1_1 rfl rfl rfl rfl o _ k q (places_apply w k q h) (by norm_num)

section
variable (s : FVec Ideal S20000 .f32) (d : FVec Ideal S20000x18 .f32) (p : IVec S100 32) (k : Fin 100) (b : Box) (h : p (ix1 k) = BitVec.ofNat 32 b.val)
include h

theorem table_0 : table s d p (ix2 k 0) = s (ix1 b) := by
  unfold table
  refine (concatenate_apply_piece (t := S100x8) (1 : Fin 2) _ _ (ix2 k 0) 0 (by simp) S100x1 _ rfl rfl 0 rfl (ix2 k 0) (fun b hb => ?_) rfl).trans ?_
  · fin_cases b
    · rfl
    · exact absurd rfl hb
  · exact (column_of _ _ k 0).trans (Routing.gather_take1 gather_S20000_S100x1_S100_n_0_n_n_0_1_1 rfl rfl rfl rfl s _ k b (places_apply p k b h) (by norm_num))

theorem table_1 (i : Fin 3) (r : Fin 8) (e : Fin 18) (hr : r.val = 1 + i.val) (he : e.val = i.val) : table s d p (ix2 k r) = d (ix2 b e) := by
  unfold table
  refine (concatenate_apply_piece (t := S100x8) (1 : Fin 2) _ _ (ix2 k r) 1 (by simp) S100x3 _ rfl rfl 1 rfl (ix2 k i) (fun b hb => ?_) hr.symm).trans ?_
  · fin_cases b
    · rfl
    · exact absurd rfl hb
  · exact (Routing.gather_row gather_S20000x3_S100x1_S100x3_1_0_n_n_0_1_13 rfl rfl rfl rfl rfl _ _ k i b (places_apply p k b h) (by norm_num)).trans
      (cols d slices_S20000x18_S20000x3_0_0 b i e (by omega))

theorem table_2 (i : Fin 2) (r : Fin 8) (e : Fin 18) (hr : r.val = 4 + i.val) (he : e.val = 4 + i.val) : table s d p (ix2 k r) = d (ix2 b e) := by
  unfold table
  refine (concatenate_apply_piece (t := S100x8) (1 : Fin 2) _ _ (ix2 k r) 2 (by simp) S100x2 _ rfl rfl 4 rfl (ix2 k i) (fun b hb => ?_) hr.symm).trans ?_
  · fin_cases b
    · rfl
    · exact absurd rfl hb
  · exact (Routing.gather_row gather_S20000x2_S100x1_S100x2_1_0_n_n_0_1_12 rfl rfl rfl rfl rfl _ _ k i b (places_apply p k b h) (by norm_num)).trans
      (cols d slices_S20000x18_S20000x2_0_4 b i e he)

theorem table_3 (i : Fin 2) (r : Fin 8) (e : Fin 18) (hr : r.val = 6 + i.val) (he : e.val = 8 + i.val) : table s d p (ix2 k r) = d (ix2 b e) := by
  unfold table
  refine (concatenate_apply_piece (t := S100x8) (1 : Fin 2) _ _ (ix2 k r) 3 (by simp) S100x2 _ rfl rfl 6 rfl (ix2 k i) (fun b hb => ?_) hr.symm).trans ?_
  · fin_cases b
    · rfl
    · exact absurd rfl hb
  · exact (Routing.gather_row gather_S20000x2_S100x1_S100x2_1_0_n_n_0_1_12 rfl rfl rfl rfl rfl _ _ k i b (places_apply p k b h) (by norm_num)).trans
      (cols d slices_S20000x18_S20000x2_0_8 b i e he)
end

variable (m : (ℓ : Loc nD τ sig) → Buf (Elt Ideal) ℓ) (c : Dev nD)

/-- A row of the result, where the box is known. -/
theorem table_row (p : IVec S100 32) (k : Fin 100) (b : Box) (h : p (ix1 k) = BitVec.ofNat 32 b.val) (r : Fin 8) :
    (table (scores (A0 m c)) (dets (A1 m c) (A2 m c)) p (ix2 k r) : EReal) = (rinp m c).row b r := by
  match r with
  | 0 => exact (table_0 _ _ p k b h).trans (scores_apply m c b)
  | 1 => exact (table_1 _ _ p k b h 0 1 0 rfl rfl).trans (dets0 m c b)
  | 2 => exact (table_1 _ _ p k b h 1 2 1 rfl rfl).trans (dets1 m c b)
  | 3 => exact (table_1 _ _ p k b h 2 3 2 rfl rfl).trans (dets2 m c b)
  | 4 => exact (table_2 _ _ p k b h 0 4 4 rfl rfl).trans (dets4 m c b)
  | 5 => exact (table_2 _ _ p k b h 1 5 5 rfl rfl).trans (dets5 m c b)
  | 6 => exact (table_3 _ _ p k b h 0 6 8 rfl rfl).trans (dets8 m c b)
  | 7 => exact (table_3 _ _ p k b h 1 7 9 rfl rfl).trans (dets9 m c b)

/-- The buffers the last lines read. -/
abbrev lastV : Valuation τ sig (Elt Ideal) := after condOps (atK m 100 c)

theorem lastV_keep (r : Ref sig .tc) (hc : r ∉ condOps_W) (h0 : r ∉ while0Ops0_W) (h1 : r ∉ while0Ops0_1_W)
    (h2 : r ∉ while0Ops0_2_W) : lastV m c (Proc.devRef .tc r) = EE m c (Proc.devRef .tc r) :=
  (after_of_writes_sub _ _ condOps_writes hc).trans (atK_keep m c r hc h0 h1 h2 100)

theorem last_v41_8 (k : Fin 100) : (lastV m c (Proc.devRef .tc main_v41_8) : IVec S100 32) (ix1 k) = BitVec.ofNat 32 (pos (EE m c) k.val).val := by
  have a : lastV m c (Proc.devRef .tc main_v41_8) = St (EE m c) 100 (Proc.devRef .tc main_v41_8) :=
    (cond_keeps _ main_v41_8 (by decide +kernel)).trans (atK_agree m c 100 main_v41_8 (by decide +kernel))
  rw [a]
  exact kept (entry_count m c) 100 le_rfl k k.isLt

/-- What the fold leaves in the result buffer. -/
abbrev finalContents' : FVec Ideal S100x8 .f32 := finalContents condOps preI bodyI postI 100 m c (Proc.devRef .tc main_v81)

/-- The fold's result, a row at a time. -/
theorem final_row (k : Fin 100) (r : Fin 8) :
    (finalContents condOps preI bodyI postI 100 m c (Proc.devRef .tc main_v81) : FVec Ideal S100x8 .f32) (ix2 k r)
      = (rinp m c).row (ord (rinp m c).score (pos (EE m c) k.val)) r := by
  have e : finalContents condOps preI bodyI postI 100 m c = after hostOps0_3 (lastV m c) := by
    simp only [finalContents, postI, afterL_cons, afterL_nil]
  rw [e, last_v81, lastV_keep m c main_v6 (by decide +kernel) (by decide +kernel) (by decide +kernel) (by decide +kernel),
    lastV_keep m c main_v11 (by decide +kernel) (by decide +kernel) (by decide +kernel) (by decide +kernel),
    lastV_keep m c main_v20 (by decide +kernel) (by decide +kernel) (by decide +kernel) (by decide +kernel), entry_v6, entry_v11, entry_v20]
  refine table_row m c _ k _ ?_ r
  rw [chosen_apply _ _ k _ (last_v41_8 m c k)]
  exact order_box m c _

/-- The reference's result: the rows of a run of picks. -/
theorem result_is : ∃ live p, Follows (rinp m c).score (rinp m c).ok live p ∧ ∀ (k : Fin 100) (r : Fin 8),
    (finalContents condOps preI bodyI postI 100 m c (Proc.devRef .tc main_v81) : FVec Ideal S100x8 .f32) (ix2 k r) = (rinp m c).row (p k.val) r :=
  ⟨_, _, follows (entry_ordered m c) (entry_valid m c), final_row m c⟩

end Cert.ReferenceIdeal.Value

end
-- ==== Proof.Pre.lean ====
/- The precondition: its side conditions, and what it says of the inputs. -/
module

public import proofs.«01_k».proof.Pre_finite_boxes
public import proofs.«01_k».proof.Proof.Core
public import Idealize.ShloMosaic.Lib.ReduceAll
public import Idealize.ShloMosaic.Lib.Pipeline.Value

@[expose] public section

set_option maxRecDepth 16384

noncomputable section

namespace Cert.Pre_finite_boxes

open Idealize.ShloMosaic
open Idealize.ShloMosaic.ValueIdx Cert.Nms

/-- The side conditions the predicate states. -/
theorem facts : Facts where
  slices_S1x20000x18_S1x20000x4_0_0_0 := by decide
  bcast_S_S1x20000x4 := by decide
  reducesTo_S1x20000x4_S_d0_1_2 := by decide
  h_S_ := by decide
  bcast_S_S20000x2 := by decide
  reducesTo_S20000x2_S_d0_1 := by decide

/-- The bound the predicate compares with is infinity. -/
theorem bound_eq : FloatOps.ofBits (F := Ideal) FTy.f32 0x7F800000#32 = (⊤ : EReal) := by
  rw [Ideal.ofBits_def]
  simp [Ideal.ofBits, Ideal.ieee]

/-- A number whose absolute value is below infinity is real. -/
theorem real_of_lt (x : EReal) (h : max x (-x) < ⊤) : ∃ r : ℝ, x = r := by
  induction x with
  | bot => simp at h
  | coe r => exact ⟨r, rfl⟩
  | top => simp at h

/-- The comparison read back. -/
theorem real_of_bit (x b : EReal) (hb : b = ⊤) (h : BitVec.ofBool (decide (max x (-x) < b)) = 1#1) : ∃ r : ℝ, x = r := by
  subst hb
  refine real_of_lt x ?_
  by_contra c
  rw [decide_eq_false c] at h
  exact absurd h (by decide)

variable [Facts]
open Facts

/-- Where the predicate holds, the corners' numbers are finite. -/
theorem finite_of (a0 : FVec Ideal S1x20000x1 .f32) (a1 : FVec Ideal S1x20000x18 .f32) (a2 : FVec Ideal S20000x2 .f32)
    (h : fn (F := Ideal) a0 a1 a2 = fun _ => 1#1) : (Inp.of a0 a1 a2).Finite := by
  haveI : Subsingleton S_.Idx := ⟨fun x y => (eq_ix0 x).trans (eq_ix0 y).symm⟩
  have h' := Idealize.ShloMosaic.IntOp.andi_eq_one.1 (congrFun h ix0)
  have hy : ∀ (n : Box) (d : Fin 4) (e : Fin 18), e.val = d.val → ∃ r : ℝ, (a1 (ix3 0 n e) : EReal) = r := fun n d e hd => by
    have t := Host.reduce_andi_all _ _ _ _ _ h'.1 (ix3 0 n d)
    have hs : extractStridedSlice S1x20000x4 ![0, 0, 0] a1 slices_S1x20000x18_S1x20000x4_0_0_0 (ix3 0 n d) = a1 (ix3 0 n e) := by
      unfold extractStridedSlice
      refine congrArg a1 (funext fun a => Fin.ext ?_)
      fin_cases a
      · rfl
      · exact Nat.zero_add _
      · exact (Nat.zero_add _).trans hd.symm
    rw [← hs]
    exact real_of_bit _ _ bound_eq t
  have ha : ∀ (n : Box) (d : Fin 2), ∃ r : ℝ, (a2 (ix2 n d) : EReal) = r := fun n d =>
    real_of_bit _ _ bound_eq (Host.reduce_andi_all _ _ _ _ _ h'.2 (ix2 n d))
  exact ⟨fun n => hy n 0 0 rfl, fun n => hy n 1 1 rfl, fun n => hy n 2 2 rfl, fun n => hy n 3 3 rfl, fun n => ha n 0, fun n => ha n 1⟩

end Cert.Pre_finite_boxes

end
-- ==== Proof.Algebraic.lean ====
/- The value claim: at the extended reals the kernel program and the reference end with the same hundred rows. -/
module

public import proofs.«01_k».proof.Defs
public import proofs.«01_k».proof.Proof.KerRun
public import proofs.«01_k».proof.Proof.RefValue
public import proofs.«01_k».proof.Proof.Pre

@[expose] public section

noncomputable section

namespace Cert.Proof

open Idealize.ShloMosaic Idealize.SL.Sem Cert.Nms Idealize.ShloMosaic.ValueIdx

/-- Two arrays of a hundred rows of eight that agree at every row and column are equal. -/
theorem rows_ext {α : Type} (x y : (⟨2, ![100, 8]⟩ : Shape).Idx → α) (h : ∀ (k : Fin 100) (r : Fin 8), x (ValueIdx.ix2 k r) = y (ValueIdx.ix2 k r)) : x = y := by
  funext j
  rw [ValueIdx.eq_ix2 j]
  exact h _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From equal arguments the two results are equal: both are the rows of the one run of picks. -/
theorem results_eq (c : Dev Cert.KernelIdeal.nD) (hI : (Cert.KernelIdeal.Value.inp m c).Finite) (e : Cert.ReferenceIdeal.Value.rinp m' c = Cert.KernelIdeal.Value.inp m c) :
    (Cert.ReferenceIdeal.Value.finalContents' m' c : (⟨2, ![100, 8]⟩ : Shape).Idx → EReal) = Cert.KernelIdeal.Value.cut (Cert.KernelIdeal.Gen.outsAt0 m c Cert.KernelIdeal.Gen.t0_0) := by
  obtain ⟨live, p, hf, hr⟩ := Cert.KernelIdeal.Value.result_is m c hI
  obtain ⟨live', p', hf', hr'⟩ := Cert.ReferenceIdeal.Value.result_is m' c
  rw [e] at hf' hr'
  refine rows_ext _ _ fun k r => ?_
  rw [hr k r]
  refine (hr' k r).trans ?_
  rw [(hf'.unique hf k.val).2]

/-- The value claim. -/
theorem algebraic : algebraic_KernelIdeal_ReferenceIdeal_pre_finite_boxes (hKernelIdeal := Cert.KernelIdeal.Gen.facts)
    (hReferenceIdeal := Cert.ReferenceIdeal.Gen.facts) (hPre_finite_boxes := Cert.Pre_finite_boxes.facts) := by
  intro m g m' g' hpre hargs
  have hI : ∀ c, (Cert.KernelIdeal.Value.inp m c).Finite := fun c => @Cert.Pre_finite_boxes.finite_of Cert.Pre_finite_boxes.facts _ _ _ (hpre c)
  have e : ∀ c, Cert.ReferenceIdeal.Value.rinp m' c = Cert.KernelIdeal.Value.inp m c := fun c => by
    obtain ⟨e0, e1, e2⟩ := hargs c
    unfold Cert.ReferenceIdeal.Value.rinp Cert.KernelIdeal.Value.inp
    exact congr (congr (congrArg Inp.of e0) e1) e2
  exact ⟨fun c => Cert.KernelIdeal.Value.cut (Cert.KernelIdeal.Gen.outsAt0 m c Cert.KernelIdeal.Gen.t0_0), Cert.KernelIdeal.Value.run m g,
    (θ_run _ _ _).mono (fun _ h c => ⟨(h c).1.trans (results_eq m m' c (hI c) (e c)), (h c).2⟩) (Cert.ReferenceIdeal.Value.run_result m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claim: each conjunct by the module that proves it. -/
theorem claim : Cert.Claim := ⟨Cert.Kernel.Gen.facts, Cert.KernelIdeal.Gen.facts, Cert.ReferenceIdeal.Gen.facts, Cert.Pre_finite_boxes.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Value.frame m ρ, fun m ρ _ => Cert.ReferenceIdeal.Value.frame m ρ,
  IdealRules.named_const.statement Cert.KernelIdeal.κ "masked" .f32 0xFF61B1E6#32 ⊥ rfl, algebraic⟩

end Cert.Proof

end
